-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "log2e_over_8" .f32 0x3E38AA3B#32 (((1 / 8) * (Real.log 2)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v54) = v3 c
          ∧ r.2.mem ((c.tc : Thread Cert.ReferenceIdeal.nD Cert.ReferenceIdeal.τ).loc Cert.ReferenceIdeal.main_v55) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S2x1024x10x64 : Shape := ⟨4, ![2, 1024, 10, 64]⟩
abbrev S2x10 : Shape := ⟨2, ![2, 10]⟩
abbrev S769x10x64 : Shape := ⟨3, ![769, 10, 64]⟩
abbrev S10 : Shape := ⟨1, ![10]⟩
abbrev S10x64 : Shape := ⟨2, ![10, 64]⟩
abbrev S_ : Shape := ⟨0, ![]⟩

class Facts : Prop where
  bcast_S_S2x1024x10x64 : S_.BroadcastsInDim S2x1024x10x64 (![] : Fin 0 → Fin S2x1024x10x64.rank)
  bcast_S_S10x64 : S_.BroadcastsInDim S10x64 (![] : Fin 0 → Fin S10x64.rank)

variable [Facts]

def fn {F : FTy → Type} [FloatOps F] (main_arg0 : FVec F S2x1024x10x64 .bf16) (main_arg1 : FVec F S2x1024x10x64 .fp8e4m3) (main_arg2 : FVec F S2x10 .f32) (main_arg3 : FVec F S2x1024x10x64 .fp8e4m3) (main_arg4 : FVec F S2x10 .f32) (main_arg5 : FVec F S769x10x64 .fp8e4m3) (main_arg6 : FVec F S10 .f32) (main_arg7 : FVec F S10x64 .f32) (main_arg8 : FVec F S10x64 .f32) : IVec S2x1024x10x64 1 × IVec S10x64 1 × IVec S10x64 1 :=
  let main_v0 : FVec F S2x1024x10x64 .bf16 := Host.absf main_arg0
  let main_cst : FVec F S_ .bf16 := constant S_ .bf16 0x7E80#16
  let main_v1 : FVec F S2x1024x10x64 .bf16 := broadcastInDim S2x1024x10x64 ![] bcast_S_S2x1024x10x64 main_cst
  let main_v2 : IVec S2x1024x10x64 1 := cmpf .olt main_v0 main_v1
  let main_v3 : FVec F S10x64 .f32 := Host.absf main_arg7
  let main_cst_0 : FVec F S_ .f32 := constant S_ .f32 0x7E800000#32
  let main_v4 : FVec F S10x64 .f32 := broadcastInDim S10x64 ![] bcast_S_S10x64 main_cst_0
  let main_v5 : IVec S10x64 1 := cmpf .olt main_v3 main_v4
  let main_v6 : FVec F S10x64 .f32 := Host.absf main_arg8
  let main_cst_1 : FVec F S_ .f32 := constant S_ .f32 0x7E800000#32
  let main_v7 : FVec F S10x64 .f32 := broadcastInDim S10x64 ![] bcast_S_S10x64 main_cst_1
  let main_v8 : IVec S10x64 1 := cmpf .olt main_v6 main_v7
  (main_v2, main_v5, main_v8)
-- ==== Kernel.lean ====
abbrev S2x1024x10x64 : Shape := ⟨4, ![2, 1024, 10, 64]⟩
abbrev S2x10 : Shape := ⟨2, ![2, 10]⟩
abbrev S769x10x64 : Shape := ⟨3, ![769, 10, 64]⟩
abbrev S10 : Shape := ⟨1, ![10]⟩
abbrev S10x64 : Shape := ⟨2, ![10, 64]⟩
abbrev S2x10x64x1024 : Shape := ⟨4, ![2, 10, 64, 1024]⟩
abbrev S10x64x769 : Shape := ⟨3, ![10, 64, 769]⟩
abbrev S10x64x1 : Shape := ⟨3, ![10, 64, 1]⟩
abbrev S2x1024x640 : Shape := ⟨3, ![2, 1024, 640]⟩
abbrev S10x2x1024 : Shape := ⟨3, ![10, 2, 1024]⟩
abbrev S1x2x64x1024 : Shape := ⟨4, ![1, 2, 64, 1024]⟩
abbrev S2x64x769 : Shape := ⟨3, ![2, 64, 769]⟩
abbrev S2x64x1 : Shape := ⟨3, ![2, 64, 1]⟩
abbrev S1x1024x128 : Shape := ⟨3, ![1, 1024, 128]⟩
abbrev S2x2x1024 : Shape := ⟨3, ![2, 2, 1024]⟩
abbrev S64x1024 : Shape := ⟨2, ![64, 1024]⟩
abbrev S1024x64 : Shape := ⟨2, ![1024, 64]⟩
abbrev S1024x128 : Shape := ⟨2, ![1024, 128]⟩
abbrev S128x128 : Shape := ⟨2, ![128, 128]⟩
abbrev S1x1 : Shape := ⟨2, ![1, 1]⟩
abbrev S1 : Shape := ⟨1, ![1]⟩
abbrev S1x64x1 : Shape := ⟨3, ![1, 64, 1]⟩
abbrev S64x1 : Shape := ⟨2, ![64, 1]⟩
abbrev S64x128 : Shape := ⟨2, ![64, 128]⟩
abbrev S1x64x768 : Shape := ⟨3, ![1, 64, 768]⟩
abbrev S64x768 : Shape := ⟨2, ![64, 768]⟩
abbrev S1x1x64x1024 : Shape := ⟨4, ![1, 1, 64, 1024]⟩
abbrev S1024 : Shape := ⟨1, ![1024]⟩
abbrev S1x1024 : Shape := ⟨2, ![1, 1024]⟩
abbrev S1x1x1024 : Shape := ⟨3, ![1, 1, 1024]⟩
abbrev S128x1024 : Shape := ⟨2, ![128, 1024]⟩
abbrev S128x64 : Shape := ⟨2, ![128, 64]⟩
abbrev S128 : Shape := ⟨1, ![128]⟩
abbrev S128x1 : Shape := ⟨2, ![128, 1]⟩
abbrev S1x128x64 : Shape := ⟨3, ![1, 128, 64]⟩

abbrev nBuf : Space → Nat
  | .hbm => 20
  | .vmem => 27
  | .smem => 3
  | _ => 0

abbrev bufTy : (tb : Table) → Fin (tcTables nBuf tb) → BufTy
  | .hbm, ⟨0, _⟩ => ⟨S2x1024x10x64, .bf16⟩
  | .hbm, ⟨1, _⟩ => ⟨S2x1024x10x64, .fp8e4m3⟩
  | .hbm, ⟨2, _⟩ => ⟨S2x10, .f32⟩
  | .hbm, ⟨3, _⟩ => ⟨S2x1024x10x64, .fp8e4m3⟩
  | .hbm, ⟨4, _⟩ => ⟨S2x10, .f32⟩
  | .hbm, ⟨5, _⟩ => ⟨S769x10x64, .fp8e4m3⟩
  | .hbm, ⟨6, _⟩ => ⟨S10, .f32⟩
  | .hbm, ⟨7, _⟩ => ⟨S10x64, .f32⟩
  | .hbm, ⟨8, _⟩ => ⟨S10x64, .f32⟩
  | .hbm, ⟨9, _⟩ => ⟨S2x10x64x1024, .bf16⟩
  | .hbm, ⟨10, _⟩ => ⟨S2x10x64x1024, .fp8e4m3⟩
  | .hbm, ⟨11, _⟩ => ⟨S2x10x64x1024, .fp8e4m3⟩
  | .hbm, ⟨12, _⟩ => ⟨S10x64x769, .fp8e4m3⟩
  | .hbm, ⟨13, _⟩ => ⟨S10x64x1, .f32⟩
  | .hbm, ⟨14, _⟩ => ⟨S10x64x1, .f32⟩
  | .hbm, ⟨15, _⟩ => ⟨S2x1024x640, .bf16⟩
  | .hbm, ⟨16, _⟩ => ⟨S2x10x64x1024, .fp8e4m3⟩
  | .hbm, ⟨17, _⟩ => ⟨S10x2x1024, .f32⟩
  | .hbm, ⟨18, _⟩ => ⟨S2x10x64x1024, .fp8e4m3⟩
  | .hbm, ⟨19, _⟩ => ⟨S10x2x1024, .f32⟩
  | .local _ .vmem, ⟨0, _⟩ => ⟨S1x2x64x1024, .bf16⟩
  | .local _ .vmem, ⟨1, _⟩ => ⟨S1x2x64x1024, .bf16⟩
  | .local _ .vmem, ⟨2, _⟩ => ⟨S1x2x64x1024, .fp8e4m3⟩
  | .local _ .vmem, ⟨3, _⟩ => ⟨S1x2x64x1024, .fp8e4m3⟩
  | .local _ .vmem, ⟨4, _⟩ => ⟨S1x2x64x1024, .fp8e4m3⟩
  | .local _ .vmem, ⟨5, _⟩ => ⟨S1x2x64x1024, .fp8e4m3⟩
  | .local _ .vmem, ⟨6, _⟩ => ⟨S2x64x769, .fp8e4m3⟩
  | .local _ .vmem, ⟨7, _⟩ => ⟨S2x64x769, .fp8e4m3⟩
  | .local _ .vmem, ⟨8, _⟩ => ⟨S2x64x1, .f32⟩
  | .local _ .vmem, ⟨9, _⟩ => ⟨S2x64x1, .f32⟩
  | .local _ .vmem, ⟨10, _⟩ => ⟨S2x64x1, .f32⟩
  | .local _ .vmem, ⟨11, _⟩ => ⟨S2x64x1, .f32⟩
  | .local _ .vmem, ⟨12, _⟩ => ⟨S1x1024x128, .bf16⟩
  | .local _ .vmem, ⟨13, _⟩ => ⟨S1x1024x128, .bf16⟩
  | .local _ .vmem, ⟨14, _⟩ => ⟨S1x2x64x1024, .fp8e4m3⟩
  | .local _ .vmem, ⟨15, _⟩ => ⟨S1x2x64x1024, .fp8e4m3⟩
  | .local _ .vmem, ⟨16, _⟩ => ⟨S2x2x1024, .f32⟩
  | .local _ .vmem, ⟨17, _⟩ => ⟨S2x2x1024, .f32⟩
  | .local _ .vmem, ⟨18, _⟩ => ⟨S1x2x64x1024, .fp8e4m3⟩
  | .local _ .vmem, ⟨19, _⟩ => ⟨S1x2x64x1024, .fp8e4m3⟩
  | .local _ .vmem, ⟨20, _⟩ => ⟨S2x2x1024, .f32⟩
  | .local _ .vmem, ⟨21, _⟩ => ⟨S2x2x1024, .f32⟩
  | .local _ .vmem, ⟨22, _⟩ => ⟨S64x1024, .fp8e4m3⟩
  | .local _ .vmem, ⟨23, _⟩ => ⟨S1024x64, .fp8e4m3⟩
  | .local _ .vmem, ⟨24, _⟩ => ⟨S1024x64, .fp8e4m3⟩
  | .local _ .vmem, ⟨25, _⟩ => ⟨S1024x128, .f32⟩
  | .local _ .vmem, ⟨26, _⟩ => ⟨S1024x128, .f32⟩
  | .local _ .smem, ⟨0, _⟩ => ⟨S2x10, .f32⟩
  | .local _ .smem, ⟨1, _⟩ => ⟨S2x10, .f32⟩
  | .local _ .smem, ⟨2, _⟩ => ⟨S10, .f32⟩
  | _, _ => ⟨S2x1024x10x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![5, 2], ![false, false]⟩

def k0_off1 (i : grid0.Coords) (c0_i32 : BitVec 32) : Fin 2 → Nat :=
  let arg1 : BitVec 32 := BitVec.ofNat 32 (i 1).val
  let v5 : Index := Scalar.indexCast arg1
  let arg0 : BitVec 32 := BitVec.ofNat 32 (i 0).val
  let c2_i32 : BitVec 32 := 2#32
  let v3 : BitVec 32 := Scalar.muli arg0 c2_i32
  let v4 : BitVec 32 := Scalar.addi v3 c0_i32
  let v6 : Index := Scalar.indexCast v4
  ![v5.toNat, v6.toNat]
def k0_off2 (i : grid0.Coords) (c0_i32 : BitVec 32) : Fin 1 → Nat :=
  let arg0 : BitVec 32 := BitVec.ofNat 32 (i 0).val
  let c2_i32 : BitVec 32 := 2#32
  let v3 : BitVec 32 := Scalar.muli arg0 c2_i32
  let v4 : BitVec 32 := Scalar.addi v3 c0_i32
  let v11 : Index := Scalar.indexCast v4
  ![v11.toNat]
def k0_off3 (i : grid0.Coords) : Fin 3 → Nat :=
  let c0_47 : Index := 0#32
  let arg1 : BitVec 32 := BitVec.ofNat 32 (i 1).val
  let v150 : Index := Scalar.indexCast arg1
  let c0_48 : Index := 0#32
  ![0, v150.toNat, 0]
def k0_off4 (i : grid0.Coords) : Fin 3 → Nat :=
  let c1_415 : Index := 1#32
  let arg1 : BitVec 32 := BitVec.ofNat 32 (i 1).val
  let v1404 : Index := Scalar.indexCast arg1
  let c0_416 : Index := 0#32
  ![1, v1404.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2x10 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S2x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x64x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x64x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x64x769 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x64x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x64x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x64x1024 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x2x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x2x64x1024 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2x2x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== KernelIdeal.lean ====
variable {F : FTy → Type} [FloatOps F] [Named F]
def κ : String → Option EReal := fun
  | "log2e_over_8" => some (((1 / 8) * (Real.log 2)⁻¹ : ℝ) : EReal)
  | _ => none
-- ==== ReferenceIdeal.lean ====
abbrev S2x1024x10x64 : Shape := ⟨4, ![2, 1024, 10, 64]⟩
abbrev S2x10 : Shape := ⟨2, ![2, 10]⟩
abbrev S769x10x64 : Shape := ⟨3, ![769, 10, 64]⟩
abbrev S10 : Shape := ⟨1, ![10]⟩
abbrev S10x64 : Shape := ⟨2, ![10, 64]⟩
abbrev S2x1024x10 : Shape := ⟨3, ![2, 1024, 10]⟩
abbrev S1x1x10x64 : Shape := ⟨4, ![1, 1, 10, 64]⟩
abbrev S2x1024x10x1 : Shape := ⟨4, ![2, 1024, 10, 1]⟩
abbrev S2x10x1024x1024 : Shape := ⟨4, ![2, 10, 1024, 1024]⟩
abbrev S2x10x1024 : Shape := ⟨3, ![2, 10, 1024]⟩
abbrev S2x10x1024x1 : Shape := ⟨4, ![2, 10, 1024, 1]⟩
abbrev S2x10x1x1 : Shape := ⟨4, ![2, 10, 1, 1]⟩
abbrev S10x769x2x1024 : Shape := ⟨4, ![10, 769, 2, 1024]⟩
abbrev S2x10x1024x769 : Shape := ⟨4, ![2, 10, 1024, 769]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S1x1x1024x1024 : Shape := ⟨4, ![1, 1, 1024, 1024]⟩
abbrev S1024x1024x1 : Shape := ⟨3, ![1024, 1024, 1]⟩
abbrev S1x10x1x1 : Shape := ⟨4, ![1, 10, 1, 1]⟩
abbrev S2x10x64x1024 : Shape := ⟨4, ![2, 10, 64, 1024]⟩
abbrev S2x1x10x1 : Shape := ⟨4, ![2, 1, 10, 1]⟩
abbrev S2x1024x640 : Shape := ⟨3, ![2, 1024, 640]⟩
abbrev S10x2x1024 : Shape := ⟨3, ![10, 2, 1024]⟩

abbrev nBuf : Space → Nat
  | .hbm => 97
  | .vmem => 15
  | .smem => 0
  | _ => 0

abbrev bufTy : (tb : Table) → Fin (tcTables nBuf tb) → BufTy
  | .hbm, ⟨0, _⟩ => ⟨S2x1024x10x64, .bf16⟩
  | .hbm, ⟨1, _⟩ => ⟨S2x1024x10x64, .fp8e4m3⟩
  | .hbm, ⟨2, _⟩ => ⟨S2x10, .f32⟩
  | .hbm, ⟨3, _⟩ => ⟨S2x1024x10x64, .fp8e4m3⟩
  | .hbm, ⟨4, _⟩ => ⟨S2x10, .f32⟩
  | .hbm, ⟨5, _⟩ => ⟨S769x10x64, .fp8e4m3⟩
  | .hbm, ⟨6, _⟩ => ⟨S10, .f32⟩
  | .hbm, ⟨7, _⟩ => ⟨S10x64, .f32⟩
  | .hbm, ⟨8, _⟩ => ⟨S10x64, .f32⟩
  | .hbm, ⟨9, _⟩ => ⟨S2x1024x10x64, .fp8e4m3⟩
  | .hbm, ⟨10, _⟩ => ⟨S2x1024x10, .f32⟩
  | .hbm, ⟨11, _⟩ => ⟨S2x1024x10x64, .fp8e4m3⟩
  | .hbm, ⟨12, _⟩ => ⟨S2x1024x10, .f32⟩
  | .hbm, ⟨13, _⟩ => ⟨S2x1024x10x64, .bf16⟩
  | .hbm, ⟨14, _⟩ => ⟨S2x1024x10x64, .bf16⟩
  | .hbm, ⟨15, _⟩ => ⟨S2x1024x10x64, .bf16⟩
  | .hbm, ⟨16, _⟩ => ⟨S2x1024x10x64, .bf16⟩
  | .hbm, ⟨17, _⟩ => ⟨S769x10x64, .bf16⟩
  | .hbm, ⟨18, _⟩ => ⟨S2x10x1024x1024, .f32⟩
  | .hbm, ⟨19, _⟩ => ⟨S2x10x1024, .f32⟩
  | .hbm, ⟨20, _⟩ => ⟨S2x10x1024x1, .f32⟩
  | .hbm, ⟨21, _⟩ => ⟨S2x10x1x1, .f32⟩
  | .hbm, ⟨22, _⟩ => ⟨S2x10x1024x1, .f32⟩
  | .hbm, ⟨23, _⟩ => ⟨S2x10x1024x1, .f32⟩
  | .hbm, ⟨24, _⟩ => ⟨S2x10x1024x1024, .f32⟩
  | .hbm, ⟨25, _⟩ => ⟨S2x10x1024x1024, .f32⟩
  | .hbm, ⟨26, _⟩ => ⟨S10x769x2x1024, .f32⟩
  | .hbm, ⟨27, _⟩ => ⟨S2x10x1024x769, .f32⟩
  | .hbm, ⟨28, _⟩ => ⟨S1024, .i32⟩
  | .hbm, ⟨29, _⟩ => ⟨S1024x1, .i32⟩
  | .hbm, ⟨30, _⟩ => ⟨S1x1024, .i32⟩
  | .hbm, ⟨31, _⟩ => ⟨S1024x1024, .i32⟩
  | .hbm, ⟨32, _⟩ => ⟨S1024x1024, .i32⟩
  | .hbm, ⟨33, _⟩ => ⟨S1024x1024, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1024x1024, .i32⟩
  | .hbm, ⟨38, _⟩ => ⟨S1024x1024, .i32⟩
  | .hbm, ⟨39, _⟩ => ⟨S_, .i32⟩
  | .hbm, ⟨40, _⟩ => ⟨S1024x1024, .i32⟩
  | .hbm, ⟨41, _⟩ => ⟨S1024x1024, .i32⟩
  | .hbm, ⟨42, _⟩ => ⟨S_, .i32⟩
  | .hbm, ⟨43, _⟩ => ⟨S1024x1024, .i32⟩
  | .hbm, ⟨44, _⟩ => ⟨S1024x1024, .i32⟩
  | .hbm, ⟨45, _⟩ => ⟨S1x1x1024x1024, .i32⟩
  | .hbm, ⟨46, _⟩ => ⟨S_, .i32⟩
  | .hbm, ⟨47, _⟩ => ⟨S1x1x1024x1024, .i32⟩
  | .hbm, ⟨48, _⟩ => ⟨S1x1x1024x1024, .i1⟩
  | .hbm, ⟨49, _⟩ => ⟨S_, .i32⟩
  | .hbm, ⟨50, _⟩ => ⟨S1x1x1024x1024, .i32⟩
  | .hbm, ⟨51, _⟩ => ⟨S1x1x1024x1024, .i32⟩
  | .hbm, ⟨52, _⟩ => ⟨S1x1x1024x1024, .i32⟩
  | .hbm, ⟨53, _⟩ => ⟨S1024x1024x1, .i32⟩
  | .hbm, ⟨54, _⟩ => ⟨S2x10x1024x1024, .f32⟩
  | .hbm, ⟨55, _⟩ => ⟨S2x10x1024, .f32⟩
  | .hbm, ⟨56, _⟩ => ⟨S2x10x1024x1, .f32⟩
  | .hbm, ⟨57, _⟩ => ⟨S1x10x1x1, .f32⟩
  | .hbm, ⟨58, _⟩ => ⟨S2x10x1024x1, .f32⟩
  | .hbm, ⟨59, _⟩ => ⟨S2x10x1024x1, .f32⟩
  | .hbm, ⟨60, _⟩ => ⟨S2x10x1024x1024, .f32⟩
  | .hbm, ⟨61, _⟩ => ⟨S2x10x1024x1024, .f32⟩
  | .hbm, ⟨62, _⟩ => ⟨S2x10x1024x1024, .f32⟩
  | .hbm, ⟨63, _⟩ => ⟨S_, .f32⟩
  | .hbm, ⟨64, _⟩ => ⟨S2x10x1024x1024, .f32⟩
  | .hbm, ⟨65, _⟩ => ⟨S2x10x1024x1024, .f32⟩
  | .hbm, ⟨66, _⟩ => ⟨S_, .f32⟩
  | .hbm, ⟨67, _⟩ => ⟨S2x10x1024, .f32⟩
  | .hbm, ⟨68, _⟩ => ⟨S2x10x1024x1, .f32⟩
  | .hbm, ⟨69, _⟩ => ⟨S2x10x1024x1024, .f32⟩
  | .hbm, ⟨70, _⟩ => ⟨S2x10x1024x1024, .f32⟩
  | .hbm, ⟨71, _⟩ => ⟨S2x10x1024x1024, .f32⟩
  | .hbm, ⟨72, _⟩ => ⟨S_, .f32⟩
  | .hbm, ⟨73, _⟩ => ⟨S2x10x1024, .f32⟩
  | .hbm, ⟨74, _⟩ => ⟨S2x10x1024x1, .f32⟩
  | .hbm, ⟨75, _⟩ => ⟨S_, .f32⟩
  | .hbm, ⟨76, _⟩ => ⟨S2x10x1024x1, .f32⟩
  | .hbm, ⟨77, _⟩ => ⟨S2x10x1024x1, .i1⟩
  | .hbm, ⟨78, _⟩ => ⟨S2x10x1024x1024, .f32⟩
  | .hbm, ⟨79, _⟩ => ⟨S2x10x1024x1024, .f32⟩
  | .hbm, ⟨80, _⟩ => ⟨S_, .f32⟩
  | .hbm, ⟨81, _⟩ => ⟨S_, .f32⟩
  | .hbm, ⟨82, _⟩ => ⟨S2x10x1024x1024, .i1⟩
  | .hbm, ⟨83, _⟩ => ⟨S2x10x1024x1024, .f32⟩
  | .hbm, ⟨84, _⟩ => ⟨S2x10x1024x1024, .f32⟩
  | .hbm, ⟨85, _⟩ => ⟨S2x10x1024x1024, .bf16⟩
  | .hbm, ⟨86, _⟩ => ⟨S2x10x64x1024, .f32⟩
  | .hbm, ⟨87, _⟩ => ⟨S2x1024x10x64, .f32⟩
  | .hbm, ⟨88, _⟩ => ⟨S2x1x10x1, .f32⟩
  | .hbm, ⟨89, _⟩ => ⟨S2x1024x10x64, .f32⟩
  | .hbm, ⟨90, _⟩ => ⟨S2x1024x10x64, .f32⟩
  | .hbm, ⟨91, _⟩ => ⟨S2x1024x640, .f32⟩
  | .hbm, ⟨92, _⟩ => ⟨S2x1024x640, .bf16⟩
  | .hbm, ⟨93, _⟩ => ⟨S2x10x64x1024, .fp8e4m3⟩
  | .hbm, ⟨94, _⟩ => ⟨S10x2x1024, .f32⟩
  | .hbm, ⟨95, _⟩ => ⟨S2x10x64x1024, .fp8e4m3⟩
  | .hbm, ⟨96, _⟩ => ⟨S10x2x1024, .f32⟩
  | .local _ .vmem, ⟨0, _⟩ => ⟨S2x1024x10x64, .bf16⟩
  | .local _ .vmem, ⟨1, _⟩ => ⟨S2x1024x10x64, .fp8e4m3⟩
  | .local _ .vmem, ⟨2, _⟩ => ⟨S2x1024x10x64, .fp8e4m3⟩
  | .local _ .vmem, ⟨3, _⟩ => ⟨S769x10x64, .fp8e4m3⟩
  | .local _ .vmem, ⟨4, _⟩ => ⟨S10x64, .f32⟩
  | .local _ .vmem, ⟨5, _⟩ => ⟨S10x64, .f32⟩
  | .local _ .vmem, ⟨6, _⟩ => ⟨S2x1024x10x64, .fp8e4m3⟩
  | .local _ .vmem, ⟨7, _⟩ => ⟨S2x1024x10, .f32⟩
  | .local _ .vmem, ⟨8, _⟩ => ⟨S2x1024x10x64, .fp8e4m3⟩
  | .local _ .vmem, ⟨9, _⟩ => ⟨S2x1024x10, .f32⟩
  | .local _ .vmem, ⟨10, _⟩ => ⟨S2x1024x10x64, .bf16⟩
  | .local _ .vmem, ⟨11, _⟩ => ⟨S2x1024x10x64, .bf16⟩
  | .local _ .vmem, ⟨12, _⟩ => ⟨S2x1024x10x64, .bf16⟩
  | .local _ .vmem, ⟨13, _⟩ => ⟨S2x1024x10x64, .bf16⟩
  | .local _ .vmem, ⟨14, _⟩ => ⟨S769x10x64, .bf16⟩
  | _, _ => ⟨S2x1024x10x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v0_8 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_c_0 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v17 : Ref sig .tc := ⟨.hbm, 41, rfl⟩
abbrev main_c_1 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_cst : Ref sig .tc := ⟨.hbm, 63, rfl⟩
abbrev main_v30 : Ref sig .tc := ⟨.hbm, 64, rfl⟩
abbrev main_v31 : Ref sig .tc := ⟨.hbm, 65, rfl⟩
abbrev main_cst_2 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_cst_3 : Ref sig .tc := ⟨.hbm, 72, rfl⟩
abbrev main_v37 : Ref sig .tc := ⟨.hbm, 73, rfl⟩
abbrev main_v38 : Ref sig .tc := ⟨.hbm, 74, rfl⟩
abbrev main_cst_4 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_5 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S2x1024x10x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x10x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x10x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S769x10x64 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024x10x64 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024x10x64 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024x10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024x10x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024x10x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024x10x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x1024x10x64 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S769x10x64 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.KF.Run.lean ====
module

public import proofs.«01_k».proof.Proof.Gen.Kernel.Frame
public import proofs.«01_k».proof.Proof.Gen.Kernel.Skeleton

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4000000 in
/-- What the body's stores leave in each output's staging memref, as pieces (last first), with the proof that on whole
    staging memrefs — the inputs' at their contents, the tile and code outputs' at anything, the two scale outputs' at
    given contents, the scratch buffers at anything — the body runs to the continuation holding the inputs' as they were
    and each output's buffer with its pieces written. -/
noncomputable def kernelRun (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg11 : Memref sig .tc .vmem S1x1024x128 .bf16) (harg11 : arg11.IsWhole) (arg12 : Memref sig .tc .vmem S1x2x64x1024 .fp8e4m3) (harg12 : arg12.IsWhole) (arg13 : Memref sig .tc .vmem S2x2x1024 .f32) (harg13 : arg13.IsWhole) (arg14 : Memref sig .tc .vmem S1x2x64x1024 .fp8e4m3) (harg14 : arg14.IsWhole) (arg15 : Memref sig .tc .vmem S2x2x1024 .f32) (harg15 : arg15.IsWhole) (arg16 : Memref sig .tc .vmem S64x1024 .fp8e4m3) (harg16 : arg16.IsWhole) (arg17 : Memref sig .tc .vmem S1024x64 .fp8e4m3) (harg17 : arg17.IsWhole) (arg18 : Memref sig .tc .vmem S1024x64 .fp8e4m3) (harg18 : arg18.IsWhole) (arg19 : Memref sig .tc .vmem S1024x128 .f32) (harg19 : arg19.IsWhole) (arg20 : Memref sig .tc .vmem S1024x128 .f32) (harg20 : arg20.IsWhole)
    (x0 : Vec F S2x10 .f32) (x1 : Vec F S2x10 .f32) (x2 : Vec F S10 .f32) (x3 : Vec F S1x2x64x1024 .bf16) (x4 : Vec F S1x2x64x1024 .fp8e4m3) (x5 : Vec F S1x2x64x1024 .fp8e4m3) (x6 : Vec F S2x64x769 .fp8e4m3) (x7 : Vec F S2x64x1 .f32) (x8 : Vec F S2x64x1 .f32) :
    Σ' (L9 : List (View.Piece (Elt F) S1x1024x128 .bf16)) (L10 : List (View.Piece (Elt F) S1x2x64x1024 .fp8e4m3)) (L11 : List (View.Piece (Elt F) S2x2x1024 .f32)) (L12 : List (View.Piece (Elt F) S1x2x64x1024 .fp8e4m3)), { L13 : List (View.Piece (Elt F) S2x2x1024 .f32) //
      ∀ (d11 : Vec F S2x2x1024 .f32) (d13 : Vec F S2x2x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg13 fullShare d11 ∗ (∃ d, owns (c : Thread nD τ) arg14 fullShare d) ∗ owns (c : Thread nD τ) arg15 fullShare d13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (arg13.view.loc (c : Thread nD τ) ↦[arg13.view.set]{fullShare} arg13.view.writes (Elt F) (harg13.unread (Val := Elt F) d11) L11) ∗ (∃ f, arg14.view.loc (c : Thread nD τ) ↦[arg14.view.set]{fullShare} arg14.view.writes (Elt F) f L12) ∗ (arg15.view.loc (c : Thread nD τ) ↦[arg15.view.set]{fullShare} arg15.view.writes (Elt F) (harg15.unread (Val := Elt F) d13) L13) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_rel_pos_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, fun d11 d13 E K => ?run⟩
  case run =>
    simp only [cc0_rel_pos_attention_eq_skeleton]; unfold cc0_rel_pos_attention_skel
    simp only [k0_part55_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%d12, %f12, -, H12⟩, ⟨%f13, %hf13, H13⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg13.eq_unread hf11; obtain rfl := harg15.eq_unread hf13
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; iexact H9
    isplitl [H10]
    · iexists _; iexact H10
    isplitl [H11]
    · iexact H11
    isplitl [H12]
    · iexists _; iexact H12
    isplitl [H13]
    · iexact H13
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.KF.Runs.lean ====
module

public import proofs.«01_k».proof.Proof.Gen.Kernel.Frame
public import proofs.«01_k».proof.Proof.Gen.Kernel.Skeleton

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frameR_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 0 rfl).trans ((hA c 0).trans (V_main_arg2 m c)),
      ((h c).2 main_arg3 (Pipeline.mem_restRefs_of main_arg3 (by decide) (by decide))).trans (V_main_arg3 m c),
      (Pipeline.RDat.FramePost.arr_in h c 1 rfl).trans ((hA c 1).trans (V_main_arg4 m c)),
      ((h c).2 main_arg5 (Pipeline.mem_restRefs_of main_arg5 (by decide) (by decide))).trans (V_main_arg5 m c),
      (Pipeline.RDat.FramePost.arr_in h c 2 rfl).trans ((hA c 2).trans (V_main_arg6 m c)),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-! ## The kernel body on any staging memrefs: a subtype the run finds -/

/-- Each window's current staging memref at point `t`, spelled as the pipeline passes it (`bodyAt0`), and its wholeness. -/
abbrev ms0_0 (t : Fin cfg0.N) : Memref sig .tc .smem S2x10 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S2x10 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S10 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2x64x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x64x1024 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x64x1024 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x64x769 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x64x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x64x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2x64x1024 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x2x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2x64x1024 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S2x2x1024 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S64x1024 .fp8e4m3 := Memref.whole cc0_scratch0
abbrev scM0_1 : Memref sig .tc .vmem S1024x64 .fp8e4m3 := Memref.whole cc0_scratch1
abbrev scM0_2 : Memref sig .tc .vmem S1024x64 .fp8e4m3 := Memref.whole cc0_scratch2
abbrev scM0_3 : Memref sig .tc .vmem S1024x128 .f32 := Memref.whole cc0_scratch3
abbrev scM0_4 : Memref sig .tc .vmem S1024x128 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Gen

end
-- ==== Proof.KF.Frame.lean ====
module

public import proofs.«01_k».proof.Proof.KF.Run
public import proofs.«01_k».proof.Proof.KF.Runs
public import Idealize.ShloMosaic.Lib.Claim
public import Idealize.ShloMosaic.Lib.Pipeline.DatRel

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows, each held to a predicate instead of to named contents. -/
def forgets0 : Fin 14 → Bool := fun w => w.val == 9 || w.val == 10 || w.val == 11 || w.val == 12 || w.val == 13

/-- The proof data of the one pipeline on core `c`: the arrays as the region finds them; after the body at point `t`
    each input's buffer at its block and the outputs unnamed (they are held to `Rl0`). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## What the body leaves in the outputs -/

/-- The body's run at point `t`, on the staging memrefs of that point. -/
def runAt (c : Dev nD) (t : Fin cfg0.N) := kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t)

/-- The contents `X` hold what the pieces `L` leave wherever a piece lies. -/
def Cov {S : Shape} {e : EltTy} (L : List (View.Piece (Elt F) S e)) (X : S.Idx → Elt F e) : Prop :=
  ∀ y, (∃ p ∈ L, y ∈ p.1.set) → X y = View.canon L y

/-- What the body leaves in each output at point `t`: the tile and code outputs hold the point's pieces; a scale output,
    whose block two successive points fill row by row, holds the point's pieces and, at an odd point, those of the point
    before. -/
def Rl0 (c : Dev nD) (w : Fin cfg0.W) (t : Fin cfg0.N) : ((cfg0.win w).block.Idx → Elt F (cfg0.win w).elt) → Prop :=
  match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun _ => True
  | ⟨7, _⟩ => fun _ => True
  | ⟨8, _⟩ => fun _ => True
  | ⟨9, _⟩ => fun X => Cov (runAt m c t).1 X
  | ⟨10, _⟩ => fun X => Cov (runAt m c t).2.1 X
  | ⟨11, _⟩ => fun X => Cov (runAt m c t).2.2.1 X ∧ ∀ s : Fin cfg0.N, s.val + 1 = t.val → t.val % 2 = 1 → Cov (runAt m c s).2.2.1 X
  | ⟨12, _⟩ => fun X => Cov (runAt m c t).2.2.2.1 X
  | ⟨13, _⟩ => fun X => Cov (runAt m c t).2.2.2.2.val X ∧ ∀ s : Fin cfg0.N, s.val + 1 = t.val → t.val % 2 = 1 → Cov (runAt m c s).2.2.2.2.val X

/-- The proof data with the outputs held to `Rl0`. -/
abbrev rdats (c : Dev nD) : Pipeline.RDat τ (Elt F) Unit ℕ (UR sig nD τ) ℕ cfg0 c := (dats m 0 c).toRRel forgets0 (Rl0 m c)

theorem coord1_val (t : Fin cfg0.N) : (grid0.coords t 1).val = t.val % 2 := by
  revert t; decide

theorem off3_one (t : Fin cfg0.N) : k0_off3 (grid0.coords t) = ![0, t.val % 2, 0] := by
  revert t; decide

theorem off4_one (t : Fin cfg0.N) : k0_off4 (grid0.coords t) = ![1, t.val % 2, 0] := by
  revert t; decide

/-- A piece of one row of a scale block lies in that row. -/
theorem mem_row {off : Fin 3 → ℕ} (inb : ∀ a, off a + S1x1x1024.size a ≤ S2x2x1024.size a) {k r : ℕ} (h : off = ![k, r, 0])
    (y : S2x2x1024.Idx) (hy : y ∈ (Rect.unit (s := S2x2x1024) off S1x1x1024.size inb).set) : (y 1).val = r := by
  subst h
  rw [Rect.mem_set_unit] at hy
  have := hy 1
  have h1 : (![k, r, 0] : Fin 3 → ℕ) 1 = r := rfl
  have h2 : S1x1x1024.size 1 = 1 := rfl
  rw [h1, h2] at this
  omega

/-- The scale pieces of a point lie in the row of the point's batch. -/
theorem row11 (c : Dev nD) (t : Fin cfg0.N) : ∀ p ∈ (runAt m c t).2.2.1, ∀ y ∈ p.1.set, (y 1).val = t.val % 2 := by
  intro p hp y hy
  rcases List.mem_cons.mp hp with rfl | hp
  · exact mem_row (k0_off4_inb (grid0.coords t)) (off4_one t) y hy
  rcases List.mem_cons.mp hp with rfl | hp
  · exact mem_row (k0_off3_inb (grid0.coords t)) (off3_one t) y hy
  · exact absurd hp List.not_mem_nil
theorem row13 (c : Dev nD) (t : Fin cfg0.N) : ∀ p ∈ (runAt m c t).2.2.2.2.val, ∀ y ∈ p.1.set, (y 1).val = t.val % 2 := by
  intro p hp y hy
  rcases List.mem_cons.mp hp with rfl | hp
  · exact mem_row (k0_off4_inb (grid0.coords t)) (off4_one t) y hy
  rcases List.mem_cons.mp hp with rfl | hp
  · exact mem_row (k0_off3_inb (grid0.coords t)) (off3_one t) y hy
  · exact absurd hp List.not_mem_nil

theorem writes_cov {sg : RefSig} {κ : Kind} {sp : Space} {S : Shape} {e : EltTy} (v : View sg κ sp S e) (f : v.ty.Contents (Elt F))
    (L : List (View.Piece (Elt F) S e)) : Cov L (v.read (Elt F) (v.writes (Elt F) f L)) :=
  fun y hy => View.read_writes_apply_eq_canon v f y L hy

/-- Pieces in one row leave what earlier pieces in the other row had written. -/
theorem writes_keep {sg : RefSig} {κ : Kind} {sp : Space} {e : EltTy} (v : View sg κ sp S2x2x1024 e) (f : v.ty.Contents (Elt F))
    (L M : List (View.Piece (Elt F) S2x2x1024 e)) (a b : ℕ) (hab : a ≠ b)
    (hL : ∀ p ∈ L, ∀ y ∈ p.1.set, (y 1).val = a) (hM : ∀ p ∈ M, ∀ y ∈ p.1.set, (y 1).val = b)
    (h : Cov M (v.read (Elt F) f)) : Cov M (v.read (Elt F) (v.writes (Elt F) f L)) := by
  rintro y ⟨p, hp, hy⟩
  rw [View.read_writes_apply_of_forall_not_mem v f y L fun q hq hyq => hab ((hL q hq y hyq).symm.trans (hM p hp y hy))]
  exact h y ⟨p, hp, hy⟩

/-- What the body finds in a scale output at an odd point is what it left at the point before. -/
theorem finds11 (c : Dev nD) (t s : Fin cfg0.N) (hs : s.val + 1 = t.val) (ht : t.val % 2 = 1) {Y}
    (h : (rdats m c).Finds 11 t Y) : Cov (runAt m c s).2.2.1 Y := by
  rw [Pipeline.RDat.finds_of_pos (rdats m c) (w := 11) (by rfl) (by omega)] at h
  rcases h with h | h
  · rw [flush0_11] at h; exact absurd h (by show ¬ ((t.val - 1) % 2 = 1); omega)
  · have h' := (dats m 0 c).toRRel_leaves (fgt := forgets0) (w := 11) rfl h
    have e : (⟨t.val - 1, Nat.lt_of_le_of_lt (Nat.sub_le _ _) t.isLt⟩ : Fin cfg0.N) = s := Fin.ext (by show t.val - 1 = s.val; omega)
    rw [e] at h'
    exact h'.1
theorem finds13 (c : Dev nD) (t s : Fin cfg0.N) (hs : s.val + 1 = t.val) (ht : t.val % 2 = 1) {Y}
    (h : (rdats m c).Finds 13 t Y) : Cov (runAt m c s).2.2.2.2.val Y := by
  rw [Pipeline.RDat.finds_of_pos (rdats m c) (w := 13) (by rfl) (by omega)] at h
  rcases h with h | h
  · rw [flush0_13] at h; exact absurd h (by show ¬ ((t.val - 1) % 2 = 1); omega)
  · have h' := (dats m 0 c).toRRel_leaves (fgt := forgets0) (w := 13) rfl h
    have e : (⟨t.val - 1, Nat.lt_of_le_of_lt (Nat.sub_le _ _) t.isLt⟩ : Fin cfg0.N) = s := Fin.ext (by show t.val - 1 = s.val; omega)
    rw [e] at h'
    exact h'.1

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ Y, ⌜(rdats m c).Finds 9 t Y⌝ ∗ owns (c : Thread nD τ) (ms0_9 t) fullShare Y)
    ∗ (∃ Y, ⌜(rdats m c).Finds 10 t Y⌝ ∗ owns (c : Thread nD τ) (ms0_10 t) fullShare Y)
    ∗ (∃ Y, ⌜(rdats m c).Finds 11 t Y⌝ ∗ owns (c : Thread nD τ) (ms0_11 t) fullShare Y)
    ∗ (∃ Y, ⌜(rdats m c).Finds 12 t Y⌝ ∗ owns (c : Thread nD τ) (ms0_12 t) fullShare Y)
    ∗ (∃ Y, ⌜(rdats m c).Finds 13 t Y⌝ ∗ owns (c : Thread nD τ) (ms0_13 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ X, ⌜Rl0 m c 9 t X⌝ ∗ owns (c : Thread nD τ) (ms0_9 t) fullShare X)
    ∗ (∃ X, ⌜Rl0 m c 10 t X⌝ ∗ owns (c : Thread nD τ) (ms0_10 t) fullShare X)
    ∗ (∃ X, ⌜Rl0 m c 11 t X⌝ ∗ owns (c : Thread nD τ) (ms0_11 t) fullShare X)
    ∗ (∃ X, ⌜Rl0 m c 12 t X⌝ ∗ owns (c : Thread nD τ) (ms0_12 t) fullShare X)
    ∗ (∃ X, ⌜Rl0 m c 13 t X⌝ ∗ owns (c : Thread nD τ) (ms0_13 t) fullShare X))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, %q9, H9⟩, ⟨%d10, %q10, H10⟩, ⟨%d11, %q11, H11⟩, ⟨%d12, %q12, H12⟩, ⟨%d13, %q13, H13⟩⟩
  iapply ((runAt m c t).2.2.2.2.property d11 d13 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexact H11
  isplitl [H12]; · iexists _; iexact H12
  isplitl [H13]; · iexact H13
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, ⟨%f9, H9⟩, ⟨%f10, H10⟩, H11, ⟨%f12, H12⟩, H13, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; isplitr; swap
    · unfold owns; iexists _; isplitr; swap; · iexact H9
      ipureintro; rfl
    ipureintro
    exact writes_cov _ _ _
  isplitl [H10]
  · iexists _; isplitr; swap
    · unfold owns; iexists _; isplitr; swap; · iexact H10
      ipureintro; rfl
    ipureintro
    exact writes_cov _ _ _
  isplitl [H11]
  · iexists _; isplitr; swap
    · unfold owns; iexists _; isplitr; swap; · iexact H11
      ipureintro; rfl
    ipureintro
    exact ⟨writes_cov _ _ _, fun s hs ht => writes_keep _ _ _ _ _ _ (by omega) (row11 m c t) (row11 m c s) (by rw [(hs0_11 t).read_unread]; exact finds11 m c t s hs ht q11)⟩
  isplitl [H12]
  · iexists _; isplitr; swap
    · unfold owns; iexists _; isplitr; swap; · iexact H12
      ipureintro; rfl
    ipureintro
    exact writes_cov _ _ _
  iexists _; isplitr; swap
  · unfold owns; iexists _; isplitr; swap; · iexact H13
    ipureintro; rfl
  ipureintro
  exact ⟨writes_cov _ _ _, fun s hs ht => writes_keep _ _ _ _ _ _ (by omega) (row13 m c t) (row13 m c s) (by rw [(hs0_13 t).read_unread]; exact finds13 m c t s hs ht q13)⟩

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : Pipeline.BodyObligationRel (dats (F := F) m 0 c) (defs₀ (F := F)) Variants.none () Set.univ forgets0 (Rl0 m c) := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (rdats m) (V m)) r ∧ r.2.sem = fun _ => 0) :=
  Pipeline.RDat.θ_run_frame (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, the outputs' blocks meeting `Rl0`, and every other unscoped buffer at its region-entry contents. -/
theorem run_main : θ_run defs (onTc (τ := τ) (main (F := F))) (s₀ m ρ) (Pipeline.RDat.FramePost (cfgs 0) (rdats m) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frameR_of m ρ (rdats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel.Gen

end
-- ==== Proof.KI.Run.lean ====
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4000000 in
/-- What the body's stores leave in each output's staging memref, as pieces (last first), with the proof that on whole
    staging memrefs — the inputs' at their contents, the tile and code outputs' at anything, the two scale outputs' at
    given contents, the scratch buffers at anything — the body runs to the continuation holding the inputs' as they were
    and each output's buffer with its pieces written. -/
noncomputable def kernelRun (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg11 : Memref sig .tc .vmem S1x1024x128 .bf16) (harg11 : arg11.IsWhole) (arg12 : Memref sig .tc .vmem S1x2x64x1024 .fp8e4m3) (harg12 : arg12.IsWhole) (arg13 : Memref sig .tc .vmem S2x2x1024 .f32) (harg13 : arg13.IsWhole) (arg14 : Memref sig .tc .vmem S1x2x64x1024 .fp8e4m3) (harg14 : arg14.IsWhole) (arg15 : Memref sig .tc .vmem S2x2x1024 .f32) (harg15 : arg15.IsWhole) (arg16 : Memref sig .tc .vmem S64x1024 .fp8e4m3) (harg16 : arg16.IsWhole) (arg17 : Memref sig .tc .vmem S1024x64 .fp8e4m3) (harg17 : arg17.IsWhole) (arg18 : Memref sig .tc .vmem S1024x64 .fp8e4m3) (harg18 : arg18.IsWhole) (arg19 : Memref sig .tc .vmem S1024x128 .f32) (harg19 : arg19.IsWhole) (arg20 : Memref sig .tc .vmem S1024x128 .f32) (harg20 : arg20.IsWhole)
    (x0 : Vec F S2x10 .f32) (x1 : Vec F S2x10 .f32) (x2 : Vec F S10 .f32) (x3 : Vec F S1x2x64x1024 .bf16) (x4 : Vec F S1x2x64x1024 .fp8e4m3) (x5 : Vec F S1x2x64x1024 .fp8e4m3) (x6 : Vec F S2x64x769 .fp8e4m3) (x7 : Vec F S2x64x1 .f32) (x8 : Vec F S2x64x1 .f32) :
    Σ' (L9 : List (View.Piece (Elt F) S1x1024x128 .bf16)) (L10 : List (View.Piece (Elt F) S1x2x64x1024 .fp8e4m3)) (L11 : List (View.Piece (Elt F) S2x2x1024 .f32)) (L12 : List (View.Piece (Elt F) S1x2x64x1024 .fp8e4m3)), { L13 : List (View.Piece (Elt F) S2x2x1024 .f32) //
      ∀ (d11 : Vec F S2x2x1024 .f32) (d13 : Vec F S2x2x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg13 fullShare d11 ∗ (∃ d, owns (c : Thread nD τ) arg14 fullShare d) ∗ owns (c : Thread nD τ) arg15 fullShare d13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (arg13.view.loc (c : Thread nD τ) ↦[arg13.view.set]{fullShare} arg13.view.writes (Elt F) (harg13.unread (Val := Elt F) d11) L11) ∗ (∃ f, arg14.view.loc (c : Thread nD τ) ↦[arg14.view.set]{fullShare} arg14.view.writes (Elt F) f L12) ∗ (arg15.view.loc (c : Thread nD τ) ↦[arg15.view.set]{fullShare} arg15.view.writes (Elt F) (harg15.unread (Val := Elt F) d13) L13) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_rel_pos_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, fun d11 d13 E K => ?run⟩
  case run =>
    simp only [cc0_rel_pos_attention_eq_skeleton]; unfold cc0_rel_pos_attention_skel
    simp only [k0_part55_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%d12, %f12, -, H12⟩, ⟨%f13, %hf13, H13⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg13.eq_unread hf11; obtain rfl := harg15.eq_unread hf13
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; iexact H9
    isplitl [H10]
    · iexists _; iexact H10
    isplitl [H11]
    · iexact H11
    isplitl [H12]
    · iexists _; iexact H12
    isplitl [H13]
    · iexact H13
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Gen

end
-- ==== Proof.KI.Runs.lean ====
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frameR_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 0 rfl).trans ((hA c 0).trans (V_main_arg2 m c)),
      ((h c).2 main_arg3 (Pipeline.mem_restRefs_of main_arg3 (by decide) (by decide))).trans (V_main_arg3 m c),
      (Pipeline.RDat.FramePost.arr_in h c 1 rfl).trans ((hA c 1).trans (V_main_arg4 m c)),
      ((h c).2 main_arg5 (Pipeline.mem_restRefs_of main_arg5 (by decide) (by decide))).trans (V_main_arg5 m c),
      (Pipeline.RDat.FramePost.arr_in h c 2 rfl).trans ((hA c 2).trans (V_main_arg6 m c)),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-! ## The kernel body on any staging memrefs: a subtype the run finds -/

/-- Each window's current staging memref at point `t`, spelled as the pipeline passes it (`bodyAt0`), and its wholeness. -/
abbrev ms0_0 (t : Fin cfg0.N) : Memref sig .tc .smem S2x10 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S2x10 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S10 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2x64x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x64x1024 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x64x1024 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x64x769 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x64x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x64x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2x64x1024 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x2x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2x64x1024 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S2x2x1024 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S64x1024 .fp8e4m3 := Memref.whole cc0_scratch0
abbrev scM0_1 : Memref sig .tc .vmem S1024x64 .fp8e4m3 := Memref.whole cc0_scratch1
abbrev scM0_2 : Memref sig .tc .vmem S1024x64 .fp8e4m3 := Memref.whole cc0_scratch2
abbrev scM0_3 : Memref sig .tc .vmem S1024x128 .f32 := Memref.whole cc0_scratch3
abbrev scM0_4 : Memref sig .tc .vmem S1024x128 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Gen

end
-- ==== Proof.KI.Frame.lean ====
module

public import proofs.«01_k».proof.Proof.KI.Run
public import proofs.«01_k».proof.Proof.KI.Runs
public import Idealize.ShloMosaic.Lib.Claim
public import Idealize.ShloMosaic.Lib.Pipeline.DatRel

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows, each held to a predicate instead of to named contents. -/
def forgets0 : Fin 14 → Bool := fun w => w.val == 9 || w.val == 10 || w.val == 11 || w.val == 12 || w.val == 13

/-- The proof data of the one pipeline on core `c`: the arrays as the region finds them; after the body at point `t`
    each input's buffer at its block and the outputs unnamed (they are held to `Rl0`). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## What the body leaves in the outputs -/

/-- The body's run at point `t`, on the staging memrefs of that point. -/
def runAt (c : Dev nD) (t : Fin cfg0.N) := kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t)

/-- The contents `X` hold what the pieces `L` leave wherever a piece lies. -/
def Cov {S : Shape} {e : EltTy} (L : List (View.Piece (Elt F) S e)) (X : S.Idx → Elt F e) : Prop :=
  ∀ y, (∃ p ∈ L, y ∈ p.1.set) → X y = View.canon L y

/-- What the body leaves in each output at point `t`: the tile and code outputs hold the point's pieces; a scale output,
    whose block two successive points fill row by row, holds the point's pieces and, at an odd point, those of the point
    before. -/
def Rl0 (c : Dev nD) (w : Fin cfg0.W) (t : Fin cfg0.N) : ((cfg0.win w).block.Idx → Elt F (cfg0.win w).elt) → Prop :=
  match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun _ => True
  | ⟨7, _⟩ => fun _ => True
  | ⟨8, _⟩ => fun _ => True
  | ⟨9, _⟩ => fun X => Cov (runAt m c t).1 X
  | ⟨10, _⟩ => fun X => Cov (runAt m c t).2.1 X
  | ⟨11, _⟩ => fun X => Cov (runAt m c t).2.2.1 X ∧ ∀ s : Fin cfg0.N, s.val + 1 = t.val → t.val % 2 = 1 → Cov (runAt m c s).2.2.1 X
  | ⟨12, _⟩ => fun X => Cov (runAt m c t).2.2.2.1 X
  | ⟨13, _⟩ => fun X => Cov (runAt m c t).2.2.2.2.val X ∧ ∀ s : Fin cfg0.N, s.val + 1 = t.val → t.val % 2 = 1 → Cov (runAt m c s).2.2.2.2.val X

/-- The proof data with the outputs held to `Rl0`. -/
abbrev rdats (c : Dev nD) : Pipeline.RDat τ (Elt F) Unit ℕ (UR sig nD τ) ℕ cfg0 c := (dats m 0 c).toRRel forgets0 (Rl0 m c)

theorem coord1_val (t : Fin cfg0.N) : (grid0.coords t 1).val = t.val % 2 := by
  revert t; decide

theorem off3_one (t : Fin cfg0.N) : k0_off3 (grid0.coords t) = ![0, t.val % 2, 0] := by
  revert t; decide

theorem off4_one (t : Fin cfg0.N) : k0_off4 (grid0.coords t) = ![1, t.val % 2, 0] := by
  revert t; decide

/-- A piece of one row of a scale block lies in that row. -/
theorem mem_row {off : Fin 3 → ℕ} (inb : ∀ a, off a + S1x1x1024.size a ≤ S2x2x1024.size a) {k r : ℕ} (h : off = ![k, r, 0])
    (y : S2x2x1024.Idx) (hy : y ∈ (Rect.unit (s := S2x2x1024) off S1x1x1024.size inb).set) : (y 1).val = r := by
  subst h
  rw [Rect.mem_set_unit] at hy
  have := hy 1
  have h1 : (![k, r, 0] : Fin 3 → ℕ) 1 = r := rfl
  have h2 : S1x1x1024.size 1 = 1 := rfl
  rw [h1, h2] at this
  omega

/-- The scale pieces of a point lie in the row of the point's batch. -/
theorem row11 (c : Dev nD) (t : Fin cfg0.N) : ∀ p ∈ (runAt m c t).2.2.1, ∀ y ∈ p.1.set, (y 1).val = t.val % 2 := by
  intro p hp y hy
  rcases List.mem_cons.mp hp with rfl | hp
  · exact mem_row (k0_off4_inb (grid0.coords t)) (off4_one t) y hy
  rcases List.mem_cons.mp hp with rfl | hp
  · exact mem_row (k0_off3_inb (grid0.coords t)) (off3_one t) y hy
  · exact absurd hp List.not_mem_nil
theorem row13 (c : Dev nD) (t : Fin cfg0.N) : ∀ p ∈ (runAt m c t).2.2.2.2.val, ∀ y ∈ p.1.set, (y 1).val = t.val % 2 := by
  intro p hp y hy
  rcases List.mem_cons.mp hp with rfl | hp
  · exact mem_row (k0_off4_inb (grid0.coords t)) (off4_one t) y hy
  rcases List.mem_cons.mp hp with rfl | hp
  · exact mem_row (k0_off3_inb (grid0.coords t)) (off3_one t) y hy
  · exact absurd hp List.not_mem_nil

theorem writes_cov {sg : RefSig} {κ : Kind} {sp : Space} {S : Shape} {e : EltTy} (v : View sg κ sp S e) (f : v.ty.Contents (Elt F))
    (L : List (View.Piece (Elt F) S e)) : Cov L (v.read (Elt F) (v.writes (Elt F) f L)) :=
  fun y hy => View.read_writes_apply_eq_canon v f y L hy

/-- Pieces in one row leave what earlier pieces in the other row had written. -/
theorem writes_keep {sg : RefSig} {κ : Kind} {sp : Space} {e : EltTy} (v : View sg κ sp S2x2x1024 e) (f : v.ty.Contents (Elt F))
    (L M : List (View.Piece (Elt F) S2x2x1024 e)) (a b : ℕ) (hab : a ≠ b)
    (hL : ∀ p ∈ L, ∀ y ∈ p.1.set, (y 1).val = a) (hM : ∀ p ∈ M, ∀ y ∈ p.1.set, (y 1).val = b)
    (h : Cov M (v.read (Elt F) f)) : Cov M (v.read (Elt F) (v.writes (Elt F) f L)) := by
  rintro y ⟨p, hp, hy⟩
  rw [View.read_writes_apply_of_forall_not_mem v f y L fun q hq hyq => hab ((hL q hq y hyq).symm.trans (hM p hp y hy))]
  exact h y ⟨p, hp, hy⟩

/-- What the body finds in a scale output at an odd point is what it left at the point before. -/
theorem finds11 (c : Dev nD) (t s : Fin cfg0.N) (hs : s.val + 1 = t.val) (ht : t.val % 2 = 1) {Y}
    (h : (rdats m c).Finds 11 t Y) : Cov (runAt m c s).2.2.1 Y := by
  rw [Pipeline.RDat.finds_of_pos (rdats m c) (w := 11) (by rfl) (by omega)] at h
  rcases h with h | h
  · rw [flush0_11] at h; exact absurd h (by show ¬ ((t.val - 1) % 2 = 1); omega)
  · have h' := (dats m 0 c).toRRel_leaves (fgt := forgets0) (w := 11) rfl h
    have e : (⟨t.val - 1, Nat.lt_of_le_of_lt (Nat.sub_le _ _) t.isLt⟩ : Fin cfg0.N) = s := Fin.ext (by show t.val - 1 = s.val; omega)
    rw [e] at h'
    exact h'.1
theorem finds13 (c : Dev nD) (t s : Fin cfg0.N) (hs : s.val + 1 = t.val) (ht : t.val % 2 = 1) {Y}
    (h : (rdats m c).Finds 13 t Y) : Cov (runAt m c s).2.2.2.2.val Y := by
  rw [Pipeline.RDat.finds_of_pos (rdats m c) (w := 13) (by rfl) (by omega)] at h
  rcases h with h | h
  · rw [flush0_13] at h; exact absurd h (by show ¬ ((t.val - 1) % 2 = 1); omega)
  · have h' := (dats m 0 c).toRRel_leaves (fgt := forgets0) (w := 13) rfl h
    have e : (⟨t.val - 1, Nat.lt_of_le_of_lt (Nat.sub_le _ _) t.isLt⟩ : Fin cfg0.N) = s := Fin.ext (by show t.val - 1 = s.val; omega)
    rw [e] at h'
    exact h'.1

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ Y, ⌜(rdats m c).Finds 9 t Y⌝ ∗ owns (c : Thread nD τ) (ms0_9 t) fullShare Y)
    ∗ (∃ Y, ⌜(rdats m c).Finds 10 t Y⌝ ∗ owns (c : Thread nD τ) (ms0_10 t) fullShare Y)
    ∗ (∃ Y, ⌜(rdats m c).Finds 11 t Y⌝ ∗ owns (c : Thread nD τ) (ms0_11 t) fullShare Y)
    ∗ (∃ Y, ⌜(rdats m c).Finds 12 t Y⌝ ∗ owns (c : Thread nD τ) (ms0_12 t) fullShare Y)
    ∗ (∃ Y, ⌜(rdats m c).Finds 13 t Y⌝ ∗ owns (c : Thread nD τ) (ms0_13 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ X, ⌜Rl0 m c 9 t X⌝ ∗ owns (c : Thread nD τ) (ms0_9 t) fullShare X)
    ∗ (∃ X, ⌜Rl0 m c 10 t X⌝ ∗ owns (c : Thread nD τ) (ms0_10 t) fullShare X)
    ∗ (∃ X, ⌜Rl0 m c 11 t X⌝ ∗ owns (c : Thread nD τ) (ms0_11 t) fullShare X)
    ∗ (∃ X, ⌜Rl0 m c 12 t X⌝ ∗ owns (c : Thread nD τ) (ms0_12 t) fullShare X)
    ∗ (∃ X, ⌜Rl0 m c 13 t X⌝ ∗ owns (c : Thread nD τ) (ms0_13 t) fullShare X))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, %q9, H9⟩, ⟨%d10, %q10, H10⟩, ⟨%d11, %q11, H11⟩, ⟨%d12, %q12, H12⟩, ⟨%d13, %q13, H13⟩⟩
  iapply ((runAt m c t).2.2.2.2.property d11 d13 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexact H11
  isplitl [H12]; · iexists _; iexact H12
  isplitl [H13]; · iexact H13
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, ⟨%f9, H9⟩, ⟨%f10, H10⟩, H11, ⟨%f12, H12⟩, H13, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; isplitr; swap
    · unfold owns; iexists _; isplitr; swap; · iexact H9
      ipureintro; rfl
    ipureintro
    exact writes_cov _ _ _
  isplitl [H10]
  · iexists _; isplitr; swap
    · unfold owns; iexists _; isplitr; swap; · iexact H10
      ipureintro; rfl
    ipureintro
    exact writes_cov _ _ _
  isplitl [H11]
  · iexists _; isplitr; swap
    · unfold owns; iexists _; isplitr; swap; · iexact H11
      ipureintro; rfl
    ipureintro
    exact ⟨writes_cov _ _ _, fun s hs ht => writes_keep _ _ _ _ _ _ (by omega) (row11 m c t) (row11 m c s) (by rw [(hs0_11 t).read_unread]; exact finds11 m c t s hs ht q11)⟩
  isplitl [H12]
  · iexists _; isplitr; swap
    · unfold owns; iexists _; isplitr; swap; · iexact H12
      ipureintro; rfl
    ipureintro
    exact writes_cov _ _ _
  iexists _; isplitr; swap
  · unfold owns; iexists _; isplitr; swap; · iexact H13
    ipureintro; rfl
  ipureintro
  exact ⟨writes_cov _ _ _, fun s hs ht => writes_keep _ _ _ _ _ _ (by omega) (row13 m c t) (row13 m c s) (by rw [(hs0_13 t).read_unread]; exact finds13 m c t s hs ht q13)⟩

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : Pipeline.BodyObligationRel (dats (F := F) m 0 c) (defs₀ (F := F)) Variants.none () Set.univ forgets0 (Rl0 m c) := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (rdats m) (V m)) r ∧ r.2.sem = fun _ => 0) :=
  Pipeline.RDat.θ_run_frame (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, the outputs' blocks meeting `Rl0`, and every other unscoped buffer at its region-entry contents. -/
theorem run_main : θ_run defs (onTc (τ := τ) (main (F := F))) (s₀ m ρ) (Pipeline.RDat.FramePost (cfgs 0) (rdats m) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frameR_of m ρ (rdats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KernelIdeal.Gen

end
-- ==== Proof.Val.Row.lean ====
module

public import Idealize.ShloMosaic.PureOps.Ideal.Laws
public import Mathlib.Analysis.SpecialFunctions.Log.Basic
public import Mathlib.Analysis.SpecialFunctions.Pow.Real

@[expose] public section

noncomputable section

namespace Cert.Val

open Idealize.ShloMosaic

/-- The reciprocal of the natural logarithm of two. -/
def L2 : ℝ := (Real.log 2)⁻¹

theorem L2_pos : 0 < L2 := inv_pos.mpr (Real.log_pos (by norm_num))

theorem add_mul_real (x y : EReal) (r : ℝ) (hr : 0 ≤ r) : (x + y) * (r : EReal) = x * r + y * r :=
  EReal.right_distrib_of_nonneg_of_ne_top (by exact_mod_cast hr) (EReal.coe_ne_top r) x y

theorem sub_mul_real (x y : EReal) (r : ℝ) (hr : 0 ≤ r) : (x - y) * (r : EReal) = x * r - y * r := by
  rw [sub_eq_add_neg, add_mul_real _ _ _ hr, EReal.neg_mul, ← sub_eq_add_neg]

theorem sum_mul_real {ι : Type} (s : Finset ι) (f : ι → EReal) (r : ℝ) (hr : 0 ≤ r) :
    (∑ j ∈ s, f j) * (r : EReal) = ∑ j ∈ s, f j * r := by
  classical
  induction s using Finset.induction_on with
  | empty => simp
  | insert a s ha ih => rw [Finset.sum_insert ha, Finset.sum_insert ha, add_mul_real _ _ _ hr, ih]

theorem exp2_mul (z : EReal) : Ideal.exp2 (z * (L2 : EReal)) = Ideal.exp z := by
  induction z using EReal.rec with
  | bot => rw [EReal.bot_mul_coe_of_pos L2_pos]; rfl
  | top => rw [EReal.top_mul_coe_of_pos L2_pos]; rfl
  | coe r =>
    rw [← EReal.coe_mul]
    show ((Real.rpow 2 (r * L2) : ℝ) : EReal) = ((Real.exp r : ℝ) : EReal)
    congr 1
    show (2 : ℝ) ^ (r * L2) = _
    rw [Real.rpow_def_of_pos (by norm_num)]
    congr 1
    have : Real.log 2 ≠ 0 := (Real.log_pos (by norm_num)).ne'
    unfold L2; field_simp

theorem exp_nonneg (z : EReal) : 0 ≤ Ideal.exp z := by
  induction z using EReal.rec with
  | bot => exact le_refl _
  | top => exact le_top
  | coe r => show (0 : EReal) ≤ ((Real.exp r : ℝ) : EReal); exact_mod_cast (Real.exp_pos r).le

/-- `m` is the greatest member of the family `X`. -/
def IsMax {ι : Type} (X : ι → EReal) (m : EReal) : Prop := (∀ j, X j ≤ m) ∧ ∃ j, X j = m

theorem mul_real_mono {x y : EReal} (h : x ≤ y) (r : ℝ) (hr : 0 ≤ r) : x * (r : EReal) ≤ y * r :=
  mul_le_mul_of_nonneg_right h (by exact_mod_cast hr)

theorem IsMax.unique {ι : Type} {X : ι → EReal} {m n : EReal} (h : IsMax X m) (h' : IsMax X n) : m = n := by
  obtain ⟨a, ⟨j, rfl⟩⟩ := h
  obtain ⟨b, ⟨k, rfl⟩⟩ := h'
  exact le_antisymm (b j) (a k)

theorem IsMax.mul {ι : Type} {X : ι → EReal} {m : EReal} (h : IsMax X m) (r : ℝ) (hr : 0 ≤ r) :
    IsMax (fun j => X j * (r : EReal)) (m * r) := by
  obtain ⟨a, ⟨j, rfl⟩⟩ := h
  exact ⟨fun k => mul_real_mono (a k) r hr, ⟨j, rfl⟩⟩

/-- The kernel's row of the output at one column equals the reference's: `Y` the reference's scores, `X` the kernel's. -/
theorem row_eq {ι : Type} [Fintype ι] (X Y v : ι → EReal) (hXY : ∀ j, X j = Y j * (L2 : EReal)) (m M l S : EReal)
    (hm : IsMax X m) (hM : IsMax Y M)
    (hl : l = ∑ j, Ideal.exp2 (X j - m)) (hS : S = ∑ j, Ideal.exp (Y j - M)) (vs : EReal) :
    (∑ j, Ideal.exp2 (X j - m) * v j) * Ideal.div vs l =
      (∑ j, Scalar.select (Ideal.cmp .oeq S 0) (0 : EReal) (Ideal.div (Ideal.exp (Y j - M)) S) * v j) * vs := by
  have hmM : m = M * (L2 : EReal) := by
    refine hm.unique ?_
    have := hM.mul L2 L2_pos.le
    rwa [show (fun j => Y j * (L2 : EReal)) = X from funext fun j => (hXY j).symm] at this
  have he : ∀ j, Ideal.exp2 (X j - m) = Ideal.exp (Y j - M) := fun j => by
    rw [hXY, hmM, ← sub_mul_real _ _ _ L2_pos.le, exp2_mul]
  have hlS : l = S := by rw [hl, hS]; exact Finset.sum_congr rfl fun j _ => he j
  simp only [he]
  rw [hlS]
  have hpos : ∀ j, 0 ≤ Ideal.exp (Y j - M) := fun j => exp_nonneg _
  by_cases h0 : S = 0
  · have hz : ∀ j, Ideal.exp (Y j - M) = 0 := fun j =>
      (Finset.sum_eq_zero_iff_of_nonneg (fun j _ => hpos j)).mp (hS.symm.trans h0) j (Finset.mem_univ j)
    have hc : Ideal.cmp .oeq S 0 = 1#1 := by show BitVec.ofBool (decide (S = 0)) = _; rw [decide_eq_true h0]; rfl
    simp only [hz, hc, Scalar.select, zero_mul, Finset.sum_const_zero]
    simp
  · have hc : Ideal.cmp .oeq S 0 = 0#1 := by show BitVec.ofBool (decide (S = 0)) = _; rw [decide_eq_false h0]; rfl
    have hsel : ∀ x : EReal, Scalar.select (0#1) (0 : EReal) x = x := fun x => rfl
    have hd : ∀ x : EReal, Ideal.div x S = x * S⁻¹ := fun x => by unfold Ideal.div; rw [if_neg h0]
    simp only [hc, hsel, hd]
    have hSp : 0 < S := lt_of_le_of_ne (hS ▸ Finset.sum_nonneg fun j _ => hpos j) (Ne.symm h0)
    obtain ⟨r, hr0, hr⟩ : ∃ r : ℝ, 0 ≤ r ∧ S⁻¹ = (r : EReal) := by
      induction S using EReal.rec with
      | bot => exact absurd hSp (by simp)
      | top => exact ⟨0, le_refl _, by simp⟩
      | coe s => exact ⟨s⁻¹, inv_nonneg.mpr (by exact_mod_cast hSp.le), (EReal.coe_inv s).symm⟩
    rw [hr]
    have : ∀ j, Ideal.exp (Y j - M) * (r : EReal) * v j = (Ideal.exp (Y j - M) * v j) * r := fun j => by
      rw [mul_assoc, mul_comm (r : EReal), ← mul_assoc]
    simp only [this]
    rw [← sum_mul_real _ _ _ hr0, mul_assoc, mul_comm (r : EReal)]

end Cert.Val

end
-- ==== Proof.Val.Blk.lean ====
module

public import proofs.«01_k».proof.Proof.Gen.KernelIdeal.Skeleton
public import proofs.«01_k».proof.Proof.Val.Row
public import Idealize.ShloMosaic.Lib.ValueIdx
public import Idealize.ShloMosaic.Lib.Pipeline.Value

@[expose] public section

set_option maxRecDepth 16384

noncomputable section

namespace Cert.KernelIdeal.Val

open Idealize.ShloMosaic Idealize.ShloMosaic.ValueIdx Cert.KernelIdeal.Gen

section Ops
variable {F : FTy → Type} [FloatOps F] [Named F]

/-- One 128-column tile of the position products, scaled row by row. -/
def tl (o : ℕ) (h : S128x1024.Slices ![0, o] S128x128) (pd : FVec F S128x1024 .f32) (sb : FVec F S128x128 .f32) : FVec F S128x128 .f32 :=
  mulf (extractStridedSlice S128x128 ![0, o] pd h) sb

/-- A tile with row `i` rotated by `i` lanes. -/
def rl (t : FVec F S128x128 .f32) : FVec F S128x128 .f32 := dynamicRotate 1 0#32 (some (1, 0)) t rotates_S128x128_d1s1a0

/-- One 128-column tile of the scores: the scaled content product plus the position term. -/
def sc (o : ℕ) (h : S128x1024.Slices ![0, o] S128x128) (ac : FVec F S128x1024 .f32) (sa bd : FVec F S128x128 .f32) : FVec F S128x128 .f32 :=
  addf (mulf (extractStridedSlice S128x128 ![0, o] ac h) sa) bd

/-- The row maximum over eight score tiles. -/
def mx8 (x : Fin 8 → FVec F S128x128 .f32) : FVec F S128x1 .f32 :=
  shapeCast S128x1 (multiReduction .maximumf [1] S128
    (maximumf (maximumf (maximumf (maximumf (maximumf (maximumf (maximumf (x 0) (x 1)) (x 2)) (x 3)) (x 4)) (x 5)) (x 6)) (x 7))
    0xFF800000#32 reduces_S128x128_S128 (.inl rfl) rfl) shapeCasts_S128_S128x1

/-- A score tile less the row maximum, exponentiated. -/
def ex (m : FVec F S128x1 .f32) (x : FVec F S128x128 .f32) : FVec F S128x128 .f32 :=
  exp2 (subf x (broadcastTo S128x128 m broadcasts_S128x1_S128x128))

/-- The row sum over eight tiles. -/
def sm8 (e : Fin 8 → FVec F S128x128 .f32) : FVec F S128x1 .f32 :=
  shapeCast S128x1 (multiReduction .add [1] S128
    (addf (addf (addf (addf (addf (addf (addf (e 0) (e 1)) (e 2)) (e 3)) (e 4)) (e 5)) (e 6)) (e 7))
    0x00000000#32 reduces_S128x128_S128 (.inl rfl) rfl) shapeCasts_S128_S128x1

/-- The exponentials times the values, over the row sums. -/
def fin8 (e : Fin 8 → FVec F S128x128 .f32) (v : Vec F S1x1x64x1024 .fp8e4m3) (vs : Elt F .f32) : FVec F S1x128x64 .bf16 :=
  shapeCast S1x128x64 (truncf .bf16 (mulf
    (matmul dot_S128x1024_S64x1024_S128x64_1_1_0_0_n_n none
      (concatenate S128x1024 1 [⟨S128x128, truncf .bf16 (e 0) bitsLt_bf16_f32⟩, ⟨S128x128, truncf .bf16 (e 1) bitsLt_bf16_f32⟩,
        ⟨S128x128, truncf .bf16 (e 2) bitsLt_bf16_f32⟩, ⟨S128x128, truncf .bf16 (e 3) bitsLt_bf16_f32⟩,
        ⟨S128x128, truncf .bf16 (e 4) bitsLt_bf16_f32⟩, ⟨S128x128, truncf .bf16 (e 5) bitsLt_bf16_f32⟩,
        ⟨S128x128, truncf .bf16 (e 6) bitsLt_bf16_f32⟩, ⟨S128x128, truncf .bf16 (e 7) bitsLt_bf16_f32⟩]
        concatenates_S128x128_S128x128_S128x128_S128x128_S128x128_S128x128_S128x128_S128x128_S128x1024_d1)
      (extf .bf16 (shapeCast S64x1024 v shapeCasts_S1x1x64x1024_S64x1024) bitsLt_fp8e4m3_bf16)
      (constant S128x64 .f32 0x00000000#32))
    (broadcastTo S128x64 (divf (broadcast S128x1 vs) (sm8 e)) broadcasts_S128x1_S128x64)) bitsLt_bf16_f32) shapeCasts_S128x64_S1x128x64

/-- The softmax of eight score tiles applied to the values. -/
def att (x : Fin 8 → FVec F S128x128 .f32) (v : Vec F S1x1x64x1024 .fp8e4m3) (vs : Elt F .f32) : FVec F S1x128x64 .bf16 :=
  fin8 (fun c => ex (mx8 x) (x c)) v vs

theorem slc (o : ℕ) (h : o ≤ 896) : S128x1024.Slices ![0, o] S128x128 := by
  refine ⟨rfl, fun a => ?_⟩
  match a with
  | ⟨0, _⟩ => show 0 + 128 ≤ 128; omega
  | ⟨1, _⟩ => show o + 128 ≤ 1024; omega

/-- The eight score tiles of row block 0. -/
def tiles0 (ac pd : FVec F S128x1024 .f32) (sa sb : FVec F S128x128 .f32) : Fin 8 → FVec F S128x128 .f32
  | 0 => sc 0 (slc 0 (by omega)) ac sa (select k0_pay2 (rl (tl 512 (slc 512 (by omega)) pd sb)) (rl (tl 384 (slc 384 (by omega)) pd sb)))
  | 1 => sc 128 (slc 128 (by omega)) ac sa (select k0_pay2 (rl (tl 640 (slc 640 (by omega)) pd sb)) (rl (tl 512 (slc 512 (by omega)) pd sb)))
  | 2 => sc 256 (slc 256 (by omega)) ac sa (select k0_pay2 (rl (tl 768 (slc 768 (by omega)) pd sb)) (rl (tl 640 (slc 640 (by omega)) pd sb)))
  | 3 => sc 384 (slc 384 (by omega)) ac sa (select k0_pay2 (tl 896 (slc 896 (by omega)) pd sb) (rl (tl 768 (slc 768 (by omega)) pd sb)))
  | 4 => sc 512 (slc 512 (by omega)) ac sa (tl 896 (slc 896 (by omega)) pd sb)
  | 5 => sc 640 (slc 640 (by omega)) ac sa (tl 896 (slc 896 (by omega)) pd sb)
  | 6 => sc 768 (slc 768 (by omega)) ac sa (tl 896 (slc 896 (by omega)) pd sb)
  | 7 => sc 896 (slc 896 (by omega)) ac sa (tl 896 (slc 896 (by omega)) pd sb)

/-- The eight score tiles of row block 1. -/
def tiles1 (ac pd : FVec F S128x1024 .f32) (sa sb : FVec F S128x128 .f32) : Fin 8 → FVec F S128x128 .f32
  | 0 => sc 0 (slc 0 (by omega)) ac sa (select k0_pay2 (rl (tl 384 (slc 384 (by omega)) pd sb)) (rl (tl 256 (slc 256 (by omega)) pd sb)))
  | 1 => sc 128 (slc 128 (by omega)) ac sa (select k0_pay2 (rl (tl 512 (slc 512 (by omega)) pd sb)) (rl (tl 384 (slc 384 (by omega)) pd sb)))
  | 2 => sc 256 (slc 256 (by omega)) ac sa (select k0_pay2 (rl (tl 640 (slc 640 (by omega)) pd sb)) (rl (tl 512 (slc 512 (by omega)) pd sb)))
  | 3 => sc 384 (slc 384 (by omega)) ac sa (select k0_pay2 (rl (tl 768 (slc 768 (by omega)) pd sb)) (rl (tl 640 (slc 640 (by omega)) pd sb)))
  | 4 => sc 512 (slc 512 (by omega)) ac sa (select k0_pay2 (tl 896 (slc 896 (by omega)) pd sb) (rl (tl 768 (slc 768 (by omega)) pd sb)))
  | 5 => sc 640 (slc 640 (by omega)) ac sa (tl 896 (slc 896 (by omega)) pd sb)
  | 6 => sc 768 (slc 768 (by omega)) ac sa (tl 896 (slc 896 (by omega)) pd sb)
  | 7 => sc 896 (slc 896 (by omega)) ac sa (tl 896 (slc 896 (by omega)) pd sb)

/-- The eight score tiles of row block 2. -/
def tiles2 (ac pd : FVec F S128x1024 .f32) (sa sb : FVec F S128x128 .f32) : Fin 8 → FVec F S128x128 .f32
  | 0 => sc 0 (slc 0 (by omega)) ac sa (select k0_pay2 (rl (tl 256 (slc 256 (by omega)) pd sb)) (rl (tl 128 (slc 128 (by omega)) pd sb)))
  | 1 => sc 128 (slc 128 (by omega)) ac sa (select k0_pay2 (rl (tl 384 (slc 384 (by omega)) pd sb)) (rl (tl 256 (slc 256 (by omega)) pd sb)))
  | 2 => sc 256 (slc 256 (by omega)) ac sa (select k0_pay2 (rl (tl 512 (slc 512 (by omega)) pd sb)) (rl (tl 384 (slc 384 (by omega)) pd sb)))
  | 3 => sc 384 (slc 384 (by omega)) ac sa (select k0_pay2 (rl (tl 640 (slc 640 (by omega)) pd sb)) (rl (tl 512 (slc 512 (by omega)) pd sb)))
  | 4 => sc 512 (slc 512 (by omega)) ac sa (select k0_pay2 (rl (tl 768 (slc 768 (by omega)) pd sb)) (rl (tl 640 (slc 640 (by omega)) pd sb)))
  | 5 => sc 640 (slc 640 (by omega)) ac sa (select k0_pay2 (tl 896 (slc 896 (by omega)) pd sb) (rl (tl 768 (slc 768 (by omega)) pd sb)))
  | 6 => sc 768 (slc 768 (by omega)) ac sa (tl 896 (slc 896 (by omega)) pd sb)
  | 7 => sc 896 (slc 896 (by omega)) ac sa (tl 896 (slc 896 (by omega)) pd sb)

/-- The eight score tiles of row block 3. -/
def tiles3 (ac pd : FVec F S128x1024 .f32) (sa sb : FVec F S128x128 .f32) : Fin 8 → FVec F S128x128 .f32
  | 0 => sc 0 (slc 0 (by omega)) ac sa (select k0_pay2 (rl (tl 128 (slc 128 (by omega)) pd sb)) (tl 0 (slc 0 (by omega)) pd sb))
  | 1 => sc 128 (slc 128 (by omega)) ac sa (select k0_pay2 (rl (tl 256 (slc 256 (by omega)) pd sb)) (rl (tl 128 (slc 128 (by omega)) pd sb)))
  | 2 => sc 256 (slc 256 (by omega)) ac sa (select k0_pay2 (rl (tl 384 (slc 384 (by omega)) pd sb)) (rl (tl 256 (slc 256 (by omega)) pd sb)))
  | 3 => sc 384 (slc 384 (by omega)) ac sa (select k0_pay2 (rl (tl 512 (slc 512 (by omega)) pd sb)) (rl (tl 384 (slc 384 (by omega)) pd sb)))
  | 4 => sc 512 (slc 512 (by omega)) ac sa (select k0_pay2 (rl (tl 640 (slc 640 (by omega)) pd sb)) (rl (tl 512 (slc 512 (by omega)) pd sb)))
  | 5 => sc 640 (slc 640 (by omega)) ac sa (select k0_pay2 (rl (tl 768 (slc 768 (by omega)) pd sb)) (rl (tl 640 (slc 640 (by omega)) pd sb)))
  | 6 => sc 768 (slc 768 (by omega)) ac sa (select k0_pay2 (tl 896 (slc 896 (by omega)) pd sb) (rl (tl 768 (slc 768 (by omega)) pd sb)))
  | 7 => sc 896 (slc 896 (by omega)) ac sa (tl 896 (slc 896 (by omega)) pd sb)

/-- The eight score tiles of row block 4. -/
def tiles4 (ac pd : FVec F S128x1024 .f32) (sa sb : FVec F S128x128 .f32) : Fin 8 → FVec F S128x128 .f32
  | 0 => sc 0 (slc 0 (by omega)) ac sa (tl 0 (slc 0 (by omega)) pd sb)
  | 1 => sc 128 (slc 128 (by omega)) ac sa (select k0_pay2 (rl (tl 128 (slc 128 (by omega)) pd sb)) (tl 0 (slc 0 (by omega)) pd sb))
  | 2 => sc 256 (slc 256 (by omega)) ac sa (select k0_pay2 (rl (tl 256 (slc 256 (by omega)) pd sb)) (rl (tl 128 (slc 128 (by omega)) pd sb)))
  | 3 => sc 384 (slc 384 (by omega)) ac sa (select k0_pay2 (rl (tl 384 (slc 384 (by omega)) pd sb)) (rl (tl 256 (slc 256 (by omega)) pd sb)))
  | 4 => sc 512 (slc 512 (by omega)) ac sa (select k0_pay2 (rl (tl 512 (slc 512 (by omega)) pd sb)) (rl (tl 384 (slc 384 (by omega)) pd sb)))
  | 5 => sc 640 (slc 640 (by omega)) ac sa (select k0_pay2 (rl (tl 640 (slc 640 (by omega)) pd sb)) (rl (tl 512 (slc 512 (by omega)) pd sb)))
  | 6 => sc 768 (slc 768 (by omega)) ac sa (select k0_pay2 (rl (tl 768 (slc 768 (by omega)) pd sb)) (rl (tl 640 (slc 640 (by omega)) pd sb)))
  | 7 => sc 896 (slc 896 (by omega)) ac sa (select k0_pay2 (tl 896 (slc 896 (by omega)) pd sb) (rl (tl 768 (slc 768 (by omega)) pd sb)))

/-- The eight score tiles of row block 5. -/
def tiles5 (ac pd : FVec F S128x1024 .f32) (sa sb : FVec F S128x128 .f32) : Fin 8 → FVec F S128x128 .f32
  | 0 => sc 0 (slc 0 (by omega)) ac sa (tl 0 (slc 0 (by omega)) pd sb)
  | 1 => sc 128 (slc 128 (by omega)) ac sa (tl 0 (slc 0 (by omega)) pd sb)
  | 2 => sc 256 (slc 256 (by omega)) ac sa (select k0_pay2 (rl (tl 128 (slc 128 (by omega)) pd sb)) (tl 0 (slc 0 (by omega)) pd sb))
  | 3 => sc 384 (slc 384 (by omega)) ac sa (select k0_pay2 (rl (tl 256 (slc 256 (by omega)) pd sb)) (rl (tl 128 (slc 128 (by omega)) pd sb)))
  | 4 => sc 512 (slc 512 (by omega)) ac sa (select k0_pay2 (rl (tl 384 (slc 384 (by omega)) pd sb)) (rl (tl 256 (slc 256 (by omega)) pd sb)))
  | 5 => sc 640 (slc 640 (by omega)) ac sa (select k0_pay2 (rl (tl 512 (slc 512 (by omega)) pd sb)) (rl (tl 384 (slc 384 (by omega)) pd sb)))
  | 6 => sc 768 (slc 768 (by omega)) ac sa (select k0_pay2 (rl (tl 640 (slc 640 (by omega)) pd sb)) (rl (tl 512 (slc 512 (by omega)) pd sb)))
  | 7 => sc 896 (slc 896 (by omega)) ac sa (select k0_pay2 (rl (tl 768 (slc 768 (by omega)) pd sb)) (rl (tl 640 (slc 640 (by omega)) pd sb)))

/-- The eight score tiles of row block 6. -/
def tiles6 (ac pd : FVec F S128x1024 .f32) (sa sb : FVec F S128x128 .f32) : Fin 8 → FVec F S128x128 .f32
  | 0 => sc 0 (slc 0 (by omega)) ac sa (tl 0 (slc 0 (by omega)) pd sb)
  | 1 => sc 128 (slc 128 (by omega)) ac sa (tl 0 (slc 0 (by omega)) pd sb)
  | 2 => sc 256 (slc 256 (by omega)) ac sa (tl 0 (slc 0 (by omega)) pd sb)
  | 3 => sc 384 (slc 384 (by omega)) ac sa (select k0_pay2 (rl (tl 128 (slc 128 (by omega)) pd sb)) (tl 0 (slc 0 (by omega)) pd sb))
  | 4 => sc 512 (slc 512 (by omega)) ac sa (select k0_pay2 (rl (tl 256 (slc 256 (by omega)) pd sb)) (rl (tl 128 (slc 128 (by omega)) pd sb)))
  | 5 => sc 640 (slc 640 (by omega)) ac sa (select k0_pay2 (rl (tl 384 (slc 384 (by omega)) pd sb)) (rl (tl 256 (slc 256 (by omega)) pd sb)))
  | 6 => sc 768 (slc 768 (by omega)) ac sa (select k0_pay2 (rl (tl 512 (slc 512 (by omega)) pd sb)) (rl (tl 384 (slc 384 (by omega)) pd sb)))
  | 7 => sc 896 (slc 896 (by omega)) ac sa (select k0_pay2 (rl (tl 640 (slc 640 (by omega)) pd sb)) (rl (tl 512 (slc 512 (by omega)) pd sb)))

/-- The eight score tiles of row block 7. -/
def tiles7 (ac pd : FVec F S128x1024 .f32) (sa sb : FVec F S128x128 .f32) : Fin 8 → FVec F S128x128 .f32
  | 0 => sc 0 (slc 0 (by omega)) ac sa (tl 0 (slc 0 (by omega)) pd sb)
  | 1 => sc 128 (slc 128 (by omega)) ac sa (tl 0 (slc 0 (by omega)) pd sb)
  | 2 => sc 256 (slc 256 (by omega)) ac sa (tl 0 (slc 0 (by omega)) pd sb)
  | 3 => sc 384 (slc 384 (by omega)) ac sa (tl 0 (slc 0 (by omega)) pd sb)
  | 4 => sc 512 (slc 512 (by omega)) ac sa (select k0_pay2 (rl (tl 128 (slc 128 (by omega)) pd sb)) (tl 0 (slc 0 (by omega)) pd sb))
  | 5 => sc 640 (slc 640 (by omega)) ac sa (select k0_pay2 (rl (tl 256 (slc 256 (by omega)) pd sb)) (rl (tl 128 (slc 128 (by omega)) pd sb)))
  | 6 => sc 768 (slc 768 (by omega)) ac sa (select k0_pay2 (rl (tl 384 (slc 384 (by omega)) pd sb)) (rl (tl 256 (slc 256 (by omega)) pd sb)))
  | 7 => sc 896 (slc 896 (by omega)) ac sa (select k0_pay2 (rl (tl 512 (slc 512 (by omega)) pd sb)) (rl (tl 384 (slc 384 (by omega)) pd sb)))

end Ops

/-! ## Read at an index -/

theorem tl_apply (o : ℕ) (h : S128x1024.Slices ![0, o] S128x128) (ho : o ≤ 896) (pd : FVec Ideal S128x1024 .f32) (sb : FVec Ideal S128x128 .f32)
    (i j : Fin 128) : tl o h pd sb (ix2 i j) = pd (ix2 i ⟨o + j, by omega⟩) * sb (ix2 i j) := by
  unfold tl
  rw [mulf_apply, extractStridedSlice_apply _ _ _ _ (ix2 i ⟨o + j, by omega⟩)]
  intro a
  match a with
  | ⟨0, _⟩ => exact (Nat.zero_add _).symm
  | ⟨1, _⟩ => rfl

theorem rl_apply (t : FVec Ideal S128x128 .f32) (i j : Fin 128) : rl t (ix2 i j) = t (ix2 i ⟨(j + 128 - i) % 128, by omega⟩) := by
  unfold rl dynamicRotate
  refine congrArg t (funext fun a => ?_)
  match a with
  | ⟨0, _⟩ => rfl
  | ⟨1, _⟩ =>
    refine Fin.ext ?_
    show ((j : ℕ) + 128 - (0 + 1 * (i : ℕ)) % 128) % 128 = _
    rw [Nat.zero_add, Nat.one_mul, Nat.mod_eq_of_lt i.isLt]

theorem upper_apply (i j : Fin 128) : k0_pay2 (ix2 i j) = BitVec.ofBool (decide (i.val ≤ j.val)) := by
  show IntOp.cmpi .sge (BitVec.ofNat 32 (0 * 128 + j.val)) (BitVec.ofNat 32 (0 * 128 + i.val)) = _
  revert i j
  decide +kernel

/-- The row of the position table that scores row `I` against column `J`. -/
def rr (I J : ℕ) : ℕ := min (384 + J - I) 768

/-- The position table's row under an extended column. -/
def cc (col : ℕ) : ℕ := min (col - 128) 768

section Tiles
variable (pd : FVec Ideal S128x1024 .f32) (sb : FVec Ideal S128x128 .f32) (P : Fin 128 → ℕ → EReal) (s : Fin 128 → EReal)
  (hpd : ∀ (i : Fin 128) (col : Fin 1024), pd (ix2 i col) = P i (cc col)) (hsb : ∀ i j : Fin 128, sb (ix2 i j) = s i)
include hpd hsb

theorem left_ok (b c : ℕ) (h : c + 3 < b) (hs) (i j : Fin 128) :
    tl 0 hs pd sb (ix2 i j) = P i (rr (128 * b + i) (128 * c + j)) * s i := by
  rw [tl_apply _ _ (by omega), hpd, hsb]
  congr 2
  show cc (0 + j) = _
  unfold cc rr; omega

theorem right_ok (b c : ℕ) (h : b + 3 < c) (hs) (i j : Fin 128) :
    tl 896 hs pd sb (ix2 i j) = P i (rr (128 * b + i) (128 * c + j)) * s i := by
  rw [tl_apply _ _ (by omega), hpd, hsb]
  congr 2
  show cc (896 + j) = _
  unfold cc rr; omega

theorem up_ok (b c o : ℕ) (h : o + 128 * b = 128 * c + 512) (ho : o ≤ 896) (hs) (i j : Fin 128) (hij : i.val ≤ j.val) :
    rl (tl o hs pd sb) (ix2 i j) = P i (rr (128 * b + i) (128 * c + j)) * s i := by
  rw [rl_apply, tl_apply _ _ ho, hpd, hsb]
  congr 2
  show cc (o + (j.val + 128 - i.val) % 128) = _
  have := i.isLt; have := j.isLt
  unfold cc rr; omega

theorem dn_ok (b c o : ℕ) (h : o + 128 * b = 128 * c + 384) (ho : o ≤ 896) (hs) (i j : Fin 128) (hij : ¬ i.val ≤ j.val) :
    rl (tl o hs pd sb) (ix2 i j) = P i (rr (128 * b + i) (128 * c + j)) * s i := by
  rw [rl_apply, tl_apply _ _ ho, hpd, hsb]
  congr 2
  show cc (o + (j.val + 128 - i.val) % 128) = _
  have := i.isLt; have := j.isLt
  unfold cc rr; omega

theorem up_ok' (b c : ℕ) (h : c = b + 3) (hs) (i j : Fin 128) (hij : i.val ≤ j.val) :
    tl 896 hs pd sb (ix2 i j) = P i (rr (128 * b + i) (128 * c + j)) * s i := by
  rw [tl_apply _ _ (by omega), hpd, hsb]
  congr 2
  show cc (896 + j) = _
  unfold cc rr; omega

theorem dn_ok' (b c : ℕ) (h : b = c + 3) (hs) (i j : Fin 128) (hij : ¬ i.val ≤ j.val) :
    tl 0 hs pd sb (ix2 i j) = P i (rr (128 * b + i) (128 * c + j)) * s i := by
  rw [tl_apply _ _ (by omega), hpd, hsb]
  congr 2
  show cc (0 + j) = _
  unfold cc rr; omega

end Tiles

theorem select_upper (x y : FVec Ideal S128x128 .f32) (i j : Fin 128) (r : EReal)
    (hx : i.val ≤ j.val → x (ix2 i j) = r) (hy : ¬ i.val ≤ j.val → y (ix2 i j) = r) : select k0_pay2 x y (ix2 i j) = r := by
  rw [select_apply, upper_apply]
  by_cases h : i.val ≤ j.val
  · rw [decide_eq_true h]; exact hx h
  · rw [decide_eq_false h]; exact hy h

theorem sc_apply (o : ℕ) (h : S128x1024.Slices ![0, o] S128x128) (ho : o ≤ 896) (ac : FVec Ideal S128x1024 .f32) (sa bd : FVec Ideal S128x128 .f32)
    (i j : Fin 128) (r : EReal) (hr : bd (ix2 i j) = r) :
    sc o h ac sa bd (ix2 i j) = ac (ix2 i ⟨o + j, by omega⟩) * sa (ix2 i j) + r := by
  unfold sc
  rw [addf_apply, mulf_apply, hr, extractStridedSlice_apply _ _ _ _ (ix2 i ⟨o + j, by omega⟩)]
  intro a
  match a with
  | ⟨0, _⟩ => exact (Nat.zero_add _).symm
  | ⟨1, _⟩ => rfl

/-- What every score tile of row block `b` holds. -/
def TileSpec (b : ℕ) (x : Fin 8 → FVec Ideal S128x128 .f32) (ac : FVec Ideal S128x1024 .f32) (sa : FVec Ideal S128x128 .f32)
    (P : Fin 128 → ℕ → EReal) (s : Fin 128 → EReal) : Prop :=
  ∀ (c : Fin 8) (i j : Fin 128), x c (ix2 i j) = ac (ix2 i ⟨128 * c + j, by omega⟩) * sa (ix2 i j)
    + P i (rr (128 * b + i) (128 * c + j)) * s i

section Spec
variable (ac pd : FVec Ideal S128x1024 .f32) (sa sb : FVec Ideal S128x128 .f32) (P : Fin 128 → ℕ → EReal) (s : Fin 128 → EReal)
  (hpd : ∀ (i : Fin 128) (col : Fin 1024), pd (ix2 i col) = P i (cc col)) (hsb : ∀ i j : Fin 128, sb (ix2 i j) = s i)
include hpd hsb

theorem tiles0_spec : TileSpec 0 (tiles0 ac pd sa sb) ac sa P s := by
  intro c i j
  match c with
  | ⟨0, _⟩ => exact sc_apply 0 _ (by omega) ac sa _ i j _ (select_upper _ _ i j _ (up_ok pd sb P s hpd hsb 0 0 512 (by omega) (by omega) _ i j) (dn_ok pd sb P s hpd hsb 0 0 384 (by omega) (by omega) _ i j))
  | ⟨1, _⟩ => exact sc_apply 128 _ (by omega) ac sa _ i j _ (select_upper _ _ i j _ (up_ok pd sb P s hpd hsb 0 1 640 (by omega) (by omega) _ i j) (dn_ok pd sb P s hpd hsb 0 1 512 (by omega) (by omega) _ i j))
  | ⟨2, _⟩ => exact sc_apply 256 _ (by omega) ac sa _ i j _ (select_upper _ _ i j _ (up_ok pd sb P s hpd hsb 0 2 768 (by omega) (by omega) _ i j) (dn_ok pd sb P s hpd hsb 0 2 640 (by omega) (by omega) _ i j))
  | ⟨3, _⟩ => exact sc_apply 384 _ (by omega) ac sa _ i j _ (select_upper _ _ i j _ (up_ok' pd sb P s hpd hsb 0 3 (by omega) _ i j) (dn_ok pd sb P s hpd hsb 0 3 768 (by omega) (by omega) _ i j))
  | ⟨4, _⟩ => exact sc_apply 512 _ (by omega) ac sa _ i j _ (right_ok pd sb P s hpd hsb 0 4 (by omega) _ i j)
  | ⟨5, _⟩ => exact sc_apply 640 _ (by omega) ac sa _ i j _ (right_ok pd sb P s hpd hsb 0 5 (by omega) _ i j)
  | ⟨6, _⟩ => exact sc_apply 768 _ (by omega) ac sa _ i j _ (right_ok pd sb P s hpd hsb 0 6 (by omega) _ i j)
  | ⟨7, _⟩ => exact sc_apply 896 _ (by omega) ac sa _ i j _ (right_ok pd sb P s hpd hsb 0 7 (by omega) _ i j)

theorem tiles1_spec : TileSpec 1 (tiles1 ac pd sa sb) ac sa P s := by
  intro c i j
  match c with
  | ⟨0, _⟩ => exact sc_apply 0 _ (by omega) ac sa _ i j _ (select_upper _ _ i j _ (up_ok pd sb P s hpd hsb 1 0 384 (by omega) (by omega) _ i j) (dn_ok pd sb P s hpd hsb 1 0 256 (by omega) (by omega) _ i j))
  | ⟨1, _⟩ => exact sc_apply 128 _ (by omega) ac sa _ i j _ (select_upper _ _ i j _ (up_ok pd sb P s hpd hsb 1 1 512 (by omega) (by omega) _ i j) (dn_ok pd sb P s hpd hsb 1 1 384 (by omega) (by omega) _ i j))
  | ⟨2, _⟩ => exact sc_apply 256 _ (by omega) ac sa _ i j _ (select_upper _ _ i j _ (up_ok pd sb P s hpd hsb 1 2 640 (by omega) (by omega) _ i j) (dn_ok pd sb P s hpd hsb 1 2 512 (by omega) (by omega) _ i j))
  | ⟨3, _⟩ => exact sc_apply 384 _ (by omega) ac sa _ i j _ (select_upper _ _ i j _ (up_ok pd sb P s hpd hsb 1 3 768 (by omega) (by omega) _ i j) (dn_ok pd sb P s hpd hsb 1 3 640 (by omega) (by omega) _ i j))
  | ⟨4, _⟩ => exact sc_apply 512 _ (by omega) ac sa _ i j _ (select_upper _ _ i j _ (up_ok' pd sb P s hpd hsb 1 4 (by omega) _ i j) (dn_ok pd sb P s hpd hsb 1 4 768 (by omega) (by omega) _ i j))
  | ⟨5, _⟩ => exact sc_apply 640 _ (by omega) ac sa _ i j _ (right_ok pd sb P s hpd hsb 1 5 (by omega) _ i j)
  | ⟨6, _⟩ => exact sc_apply 768 _ (by omega) ac sa _ i j _ (right_ok pd sb P s hpd hsb 1 6 (by omega) _ i j)
  | ⟨7, _⟩ => exact sc_apply 896 _ (by omega) ac sa _ i j _ (right_ok pd sb P s hpd hsb 1 7 (by omega) _ i j)

theorem tiles2_spec : TileSpec 2 (tiles2 ac pd sa sb) ac sa P s := by
  intro c i j
  match c with
  | ⟨0, _⟩ => exact sc_apply 0 _ (by omega) ac sa _ i j _ (select_upper _ _ i j _ (up_ok pd sb P s hpd hsb 2 0 256 (by omega) (by omega) _ i j) (dn_ok pd sb P s hpd hsb 2 0 128 (by omega) (by omega) _ i j))
  | ⟨1, _⟩ => exact sc_apply 128 _ (by omega) ac sa _ i j _ (select_upper _ _ i j _ (up_ok pd sb P s hpd hsb 2 1 384 (by omega) (by omega) _ i j) (dn_ok pd sb P s hpd hsb 2 1 256 (by omega) (by omega) _ i j))
  | ⟨2, _⟩ => exact sc_apply 256 _ (by omega) ac sa _ i j _ (select_upper _ _ i j _ (up_ok pd sb P s hpd hsb 2 2 512 (by omega) (by omega) _ i j) (dn_ok pd sb P s hpd hsb 2 2 384 (by omega) (by omega) _ i j))
  | ⟨3, _⟩ => exact sc_apply 384 _ (by omega) ac sa _ i j _ (select_upper _ _ i j _ (up_ok pd sb P s hpd hsb 2 3 640 (by omega) (by omega) _ i j) (dn_ok pd sb P s hpd hsb 2 3 512 (by omega) (by omega) _ i j))
  | ⟨4, _⟩ => exact sc_apply 512 _ (by omega) ac sa _ i j _ (select_upper _ _ i j _ (up_ok pd sb P s hpd hsb 2 4 768 (by omega) (by omega) _ i j) (dn_ok pd sb P s hpd hsb 2 4 640 (by omega) (by omega) _ i j))
  | ⟨5, _⟩ => exact sc_apply 640 _ (by omega) ac sa _ i j _ (select_upper _ _ i j _ (up_ok' pd sb P s hpd hsb 2 5 (by omega) _ i j) (dn_ok pd sb P s hpd hsb 2 5 768 (by omega) (by omega) _ i j))
  | ⟨6, _⟩ => exact sc_apply 768 _ (by omega) ac sa _ i j _ (right_ok pd sb P s hpd hsb 2 6 (by omega) _ i j)
  | ⟨7, _⟩ => exact sc_apply 896 _ (by omega) ac sa _ i j _ (right_ok pd sb P s hpd hsb 2 7 (by omega) _ i j)

theorem tiles3_spec : TileSpec 3 (tiles3 ac pd sa sb) ac sa P s := by
  intro c i j
  match c with
  | ⟨0, _⟩ => exact sc_apply 0 _ (by omega) ac sa _ i j _ (select_upper _ _ i j _ (up_ok pd sb P s hpd hsb 3 0 128 (by omega) (by omega) _ i j) (dn_ok' pd sb P s hpd hsb 3 0 (by omega) _ i j))
  | ⟨1, _⟩ => exact sc_apply 128 _ (by omega) ac sa _ i j _ (select_upper _ _ i j _ (up_ok pd sb P s hpd hsb 3 1 256 (by omega) (by omega) _ i j) (dn_ok pd sb P s hpd hsb 3 1 128 (by omega) (by omega) _ i j))
  | ⟨2, _⟩ => exact sc_apply 256 _ (by omega) ac sa _ i j _ (select_upper _ _ i j _ (up_ok pd sb P s hpd hsb 3 2 384 (by omega) (by omega) _ i j) (dn_ok pd sb P s hpd hsb 3 2 256 (by omega) (by omega) _ i j))
  | ⟨3, _⟩ => exact sc_apply 384 _ (by omega) ac sa _ i j _ (select_upper _ _ i j _ (up_ok pd sb P s hpd hsb 3 3 512 (by omega) (by omega) _ i j) (dn_ok pd sb P s hpd hsb 3 3 384 (by omega) (by omega) _ i j))
  | ⟨4, _⟩ => exact sc_apply 512 _ (by omega) ac sa _ i j _ (select_upper _ _ i j _ (up_ok pd sb P s hpd hsb 3 4 640 (by omega) (by omega) _ i j) (dn_ok pd sb P s hpd hsb 3 4 512 (by omega) (by omega) _ i j))
  | ⟨5, _⟩ => exact sc_apply 640 _ (by omega) ac sa _ i j _ (select_upper _ _ i j _ (up_ok pd sb P s hpd hsb 3 5 768 (by omega) (by omega) _ i j) (dn_ok pd sb P s hpd hsb 3 5 640 (by omega) (by omega) _ i j))
  | ⟨6, _⟩ => exact sc_apply 768 _ (by omega) ac sa _ i j _ (select_upper _ _ i j _ (up_ok' pd sb P s hpd hsb 3 6 (by omega) _ i j) (dn_ok pd sb P s hpd hsb 3 6 768 (by omega) (by omega) _ i j))
  | ⟨7, _⟩ => exact sc_apply 896 _ (by omega) ac sa _ i j _ (right_ok pd sb P s hpd hsb 3 7 (by omega) _ i j)

theorem tiles4_spec : TileSpec 4 (tiles4 ac pd sa sb) ac sa P s := by
  intro c i j
  match c with
  | ⟨0, _⟩ => exact sc_apply 0 _ (by omega) ac sa _ i j _ (left_ok pd sb P s hpd hsb 4 0 (by omega) _ i j)
  | ⟨1, _⟩ => exact sc_apply 128 _ (by omega) ac sa _ i j _ (select_upper _ _ i j _ (up_ok pd sb P s hpd hsb 4 1 128 (by omega) (by omega) _ i j) (dn_ok' pd sb P s hpd hsb 4 1 (by omega) _ i j))
  | ⟨2, _⟩ => exact sc_apply 256 _ (by omega) ac sa _ i j _ (select_upper _ _ i j _ (up_ok pd sb P s hpd hsb 4 2 256 (by omega) (by omega) _ i j) (dn_ok pd sb P s hpd hsb 4 2 128 (by omega) (by omega) _ i j))
  | ⟨3, _⟩ => exact sc_apply 384 _ (by omega) ac sa _ i j _ (select_upper _ _ i j _ (up_ok pd sb P s hpd hsb 4 3 384 (by omega) (by omega) _ i j) (dn_ok pd sb P s hpd hsb 4 3 256 (by omega) (by omega) _ i j))
  | ⟨4, _⟩ => exact sc_apply 512 _ (by omega) ac sa _ i j _ (select_upper _ _ i j _ (up_ok pd sb P s hpd hsb 4 4 512 (by omega) (by omega) _ i j) (dn_ok pd sb P s hpd hsb 4 4 384 (by omega) (by omega) _ i j))
  | ⟨5, _⟩ => exact sc_apply 640 _ (by omega) ac sa _ i j _ (select_upper _ _ i j _ (up_ok pd sb P s hpd hsb 4 5 640 (by omega) (by omega) _ i j) (dn_ok pd sb P s hpd hsb 4 5 512 (by omega) (by omega) _ i j))
  | ⟨6, _⟩ => exact sc_apply 768 _ (by omega) ac sa _ i j _ (select_upper _ _ i j _ (up_ok pd sb P s hpd hsb 4 6 768 (by omega) (by omega) _ i j) (dn_ok pd sb P s hpd hsb 4 6 640 (by omega) (by omega) _ i j))
  | ⟨7, _⟩ => exact sc_apply 896 _ (by omega) ac sa _ i j _ (select_upper _ _ i j _ (up_ok' pd sb P s hpd hsb 4 7 (by omega) _ i j) (dn_ok pd sb P s hpd hsb 4 7 768 (by omega) (by omega) _ i j))

theorem tiles5_spec : TileSpec 5 (tiles5 ac pd sa sb) ac sa P s := by
  intro c i j
  match c with
  | ⟨0, _⟩ => exact sc_apply 0 _ (by omega) ac sa _ i j _ (left_ok pd sb P s hpd hsb 5 0 (by omega) _ i j)
  | ⟨1, _⟩ => exact sc_apply 128 _ (by omega) ac sa _ i j _ (left_ok pd sb P s hpd hsb 5 1 (by omega) _ i j)
  | ⟨2, _⟩ => exact sc_apply 256 _ (by omega) ac sa _ i j _ (select_upper _ _ i j _ (up_ok pd sb P s hpd hsb 5 2 128 (by omega) (by omega) _ i j) (dn_ok' pd sb P s hpd hsb 5 2 (by omega) _ i j))
  | ⟨3, _⟩ => exact sc_apply 384 _ (by omega) ac sa _ i j _ (select_upper _ _ i j _ (up_ok pd sb P s hpd hsb 5 3 256 (by omega) (by omega) _ i j) (dn_ok pd sb P s hpd hsb 5 3 128 (by omega) (by omega) _ i j))
  | ⟨4, _⟩ => exact sc_apply 512 _ (by omega) ac sa _ i j _ (select_upper _ _ i j _ (up_ok pd sb P s hpd hsb 5 4 384 (by omega) (by omega) _ i j) (dn_ok pd sb P s hpd hsb 5 4 256 (by omega) (by omega) _ i j))
  | ⟨5, _⟩ => exact sc_apply 640 _ (by omega) ac sa _ i j _ (select_upper _ _ i j _ (up_ok pd sb P s hpd hsb 5 5 512 (by omega) (by omega) _ i j) (dn_ok pd sb P s hpd hsb 5 5 384 (by omega) (by omega) _ i j))
  | ⟨6, _⟩ => exact sc_apply 768 _ (by omega) ac sa _ i j _ (select_upper _ _ i j _ (up_ok pd sb P s hpd hsb 5 6 640 (by omega) (by omega) _ i j) (dn_ok pd sb P s hpd hsb 5 6 512 (by omega) (by omega) _ i j))
  | ⟨7, _⟩ => exact sc_apply 896 _ (by omega) ac sa _ i j _ (select_upper _ _ i j _ (up_ok pd sb P s hpd hsb 5 7 768 (by omega) (by omega) _ i j) (dn_ok pd sb P s hpd hsb 5 7 640 (by omega) (by omega) _ i j))

theorem tiles6_spec : TileSpec 6 (tiles6 ac pd sa sb) ac sa P s := by
  intro c i j
  match c with
  | ⟨0, _⟩ => exact sc_apply 0 _ (by omega) ac sa _ i j _ (left_ok pd sb P s hpd hsb 6 0 (by omega) _ i j)
  | ⟨1, _⟩ => exact sc_apply 128 _ (by omega) ac sa _ i j _ (left_ok pd sb P s hpd hsb 6 1 (by omega) _ i j)
  | ⟨2, _⟩ => exact sc_apply 256 _ (by omega) ac sa _ i j _ (left_ok pd sb P s hpd hsb 6 2 (by omega) _ i j)
  | ⟨3, _⟩ => exact sc_apply 384 _ (by omega) ac sa _ i j _ (select_upper _ _ i j _ (up_ok pd sb P s hpd hsb 6 3 128 (by omega) (by omega) _ i j) (dn_ok' pd sb P s hpd hsb 6 3 (by omega) _ i j))
  | ⟨4, _⟩ => exact sc_apply 512 _ (by omega) ac sa _ i j _ (select_upper _ _ i j _ (up_ok pd sb P s hpd hsb 6 4 256 (by omega) (by omega) _ i j) (dn_ok pd sb P s hpd hsb 6 4 128 (by omega) (by omega) _ i j))
  | ⟨5, _⟩ => exact sc_apply 640 _ (by omega) ac sa _ i j _ (select_upper _ _ i j _ (up_ok pd sb P s hpd hsb 6 5 384 (by omega) (by omega) _ i j) (dn_ok pd sb P s hpd hsb 6 5 256 (by omega) (by omega) _ i j))
  | ⟨6, _⟩ => exact sc_apply 768 _ (by omega) ac sa _ i j _ (select_upper _ _ i j _ (up_ok pd sb P s hpd hsb 6 6 512 (by omega) (by omega) _ i j) (dn_ok pd sb P s hpd hsb 6 6 384 (by omega) (by omega) _ i j))
  | ⟨7, _⟩ => exact sc_apply 896 _ (by omega) ac sa _ i j _ (select_upper _ _ i j _ (up_ok pd sb P s hpd hsb 6 7 640 (by omega) (by omega) _ i j) (dn_ok pd sb P s hpd hsb 6 7 512 (by omega) (by omega) _ i j))

theorem tiles7_spec : TileSpec 7 (tiles7 ac pd sa sb) ac sa P s := by
  intro c i j
  match c with
  | ⟨0, _⟩ => exact sc_apply 0 _ (by omega) ac sa _ i j _ (left_ok pd sb P s hpd hsb 7 0 (by omega) _ i j)
  | ⟨1, _⟩ => exact sc_apply 128 _ (by omega) ac sa _ i j _ (left_ok pd sb P s hpd hsb 7 1 (by omega) _ i j)
  | ⟨2, _⟩ => exact sc_apply 256 _ (by omega) ac sa _ i j _ (left_ok pd sb P s hpd hsb 7 2 (by omega) _ i j)
  | ⟨3, _⟩ => exact sc_apply 384 _ (by omega) ac sa _ i j _ (left_ok pd sb P s hpd hsb 7 3 (by omega) _ i j)
  | ⟨4, _⟩ => exact sc_apply 512 _ (by omega) ac sa _ i j _ (select_upper _ _ i j _ (up_ok pd sb P s hpd hsb 7 4 128 (by omega) (by omega) _ i j) (dn_ok' pd sb P s hpd hsb 7 4 (by omega) _ i j))
  | ⟨5, _⟩ => exact sc_apply 640 _ (by omega) ac sa _ i j _ (select_upper _ _ i j _ (up_ok pd sb P s hpd hsb 7 5 256 (by omega) (by omega) _ i j) (dn_ok pd sb P s hpd hsb 7 5 128 (by omega) (by omega) _ i j))
  | ⟨6, _⟩ => exact sc_apply 768 _ (by omega) ac sa _ i j _ (select_upper _ _ i j _ (up_ok pd sb P s hpd hsb 7 6 384 (by omega) (by omega) _ i j) (dn_ok pd sb P s hpd hsb 7 6 256 (by omega) (by omega) _ i j))
  | ⟨7, _⟩ => exact sc_apply 896 _ (by omega) ac sa _ i j _ (select_upper _ _ i j _ (up_ok pd sb P s hpd hsb 7 7 512 (by omega) (by omega) _ i j) (dn_ok pd sb P s hpd hsb 7 7 384 (by omega) (by omega) _ i j))

end Spec

end Cert.KernelIdeal.Val

end
-- ==== Proof.Val.Pay.lean ====
module

public import proofs.«01_k».proof.Proof.KI.Run
public import proofs.«01_k».proof.Proof.Val.Blk

@[expose] public section

set_option maxRecDepth 16384

noncomputable section

namespace Cert.KernelIdeal.Val

open Idealize.ShloMosaic Idealize.ShloMosaic.TcCoe Idealize.ShloMosaic.ValueIdx Cert.KernelIdeal.Gen

variable {F : FTy → Type} [FloatOps F] [Named F]

/-- The products of a row block with the columns of a 64 by 1024 array. -/
def dots (l : Vec F S128x64 .fp8e4m3) (r : FVec F S64x1024 .fp8e4m3) : FVec F S128x1024 .f32 :=
  matmul dot_S128x64_S64x1024_S128x1024_1_0_0_1_n_n none l r (constant S128x1024 .f32 0x00000000#32)

theorem out0_0 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec F S2x10 .f32) (x1 : Vec F S2x10 .f32) (x2 : Vec F S10 .f32) (x3 : Vec F S1x2x64x1024 .bf16) (x4 : Vec F S1x2x64x1024 .fp8e4m3) (x5 : Vec F S1x2x64x1024 .fp8e4m3) (x6 : Vec F S2x64x769 .fp8e4m3) (x7 : Vec F S2x64x1 .f32) (x8 : Vec F S2x64x1 .f32) :
    (kernelRun.sl.v412 c i arg2 harg2 arg3 harg3 arg4 harg4 arg5 harg5 arg6 harg6 arg7 harg7 arg8 harg8 arg9 harg9 arg10 harg10 arg16 arg17 arg18 arg19 arg20 x0 x1 x2 x3 x4 x5 x6 x7 x8)
      = att (tiles0 (dots (kernelRun.sl.v299 c arg5 harg5 arg9 harg9 arg17 x3 x7) (shapeCast S64x1024 (View.readAt (Elt F) arg6.view (Rect.unit (s := S1x2x64x1024) ![0, 0, 0, 0] S1x1x64x1024.size inb_S1x2x64x1024_S1x1x64x1024_0_0_0_0).toLoadRect (harg6.unread x4)) shapeCasts_S1x1x64x1024_S64x1024)) (dots (kernelRun.sl.v303 c arg5 harg5 arg10 harg10 arg18 x3 x8) (kernelRun.sl.v304 c arg8 harg8 arg16 x6)) (kernelRun.sl.v306 c i arg2 harg2 arg5 harg5 arg9 harg9 arg19 x0 x3 x7) (kernelRun.sl.v307 c i arg4 harg4 arg5 harg5 arg10 harg10 arg20 x2 x3 x8)) (View.readAt (Elt F) arg7.view (Rect.unit (s := S1x2x64x1024) ![0, 0, 0, 0] S1x1x64x1024.size inb_S1x2x64x1024_S1x1x64x1024_0_0_0_0).toLoadRect (harg7.unread x5)) (kernelRun.sl.r_1 c i arg3 harg3 x1) := rfl

theorem out0_1 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec F S2x10 .f32) (x1 : Vec F S2x10 .f32) (x2 : Vec F S10 .f32) (x3 : Vec F S1x2x64x1024 .bf16) (x4 : Vec F S1x2x64x1024 .fp8e4m3) (x5 : Vec F S1x2x64x1024 .fp8e4m3) (x6 : Vec F S2x64x769 .fp8e4m3) (x7 : Vec F S2x64x1 .f32) (x8 : Vec F S2x64x1 .f32) :
    (kernelRun.sl.v530 c i arg2 harg2 arg3 harg3 arg4 harg4 arg5 harg5 arg6 harg6 arg7 harg7 arg8 harg8 arg9 harg9 arg10 harg10 arg16 arg17 arg18 arg19 arg20 x0 x1 x2 x3 x4 x5 x6 x7 x8)
      = att (tiles1 (dots (kernelRun.sl.v413 c arg5 harg5 arg9 harg9 arg17 x3 x7) (shapeCast S64x1024 (View.readAt (Elt F) arg6.view (Rect.unit (s := S1x2x64x1024) ![0, 0, 0, 0] S1x1x64x1024.size inb_S1x2x64x1024_S1x1x64x1024_0_0_0_0).toLoadRect (harg6.unread x4)) shapeCasts_S1x1x64x1024_S64x1024)) (dots (kernelRun.sl.v417 c arg5 harg5 arg10 harg10 arg18 x3 x8) (kernelRun.sl.v418 c arg8 harg8 arg16 x6)) (kernelRun.sl.v420 c i arg2 harg2 arg5 harg5 arg9 harg9 arg19 x0 x3 x7) (kernelRun.sl.v421 c i arg4 harg4 arg5 harg5 arg10 harg10 arg20 x2 x3 x8)) (View.readAt (Elt F) arg7.view (Rect.unit (s := S1x2x64x1024) ![0, 0, 0, 0] S1x1x64x1024.size inb_S1x2x64x1024_S1x1x64x1024_0_0_0_0).toLoadRect (harg7.unread x5)) (kernelRun.sl.r_1 c i arg3 harg3 x1) := rfl

theorem out0_2 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec F S2x10 .f32) (x1 : Vec F S2x10 .f32) (x2 : Vec F S10 .f32) (x3 : Vec F S1x2x64x1024 .bf16) (x4 : Vec F S1x2x64x1024 .fp8e4m3) (x5 : Vec F S1x2x64x1024 .fp8e4m3) (x6 : Vec F S2x64x769 .fp8e4m3) (x7 : Vec F S2x64x1 .f32) (x8 : Vec F S2x64x1 .f32) :
    (kernelRun.sl.v652 c i arg2 harg2 arg3 harg3 arg4 harg4 arg5 harg5 arg6 harg6 arg7 harg7 arg8 harg8 arg9 harg9 arg10 harg10 arg16 arg17 arg18 arg19 arg20 x0 x1 x2 x3 x4 x5 x6 x7 x8)
      = att (tiles2 (dots (kernelRun.sl.v531 c arg5 harg5 arg9 harg9 arg17 x3 x7) (shapeCast S64x1024 (View.readAt (Elt F) arg6.view (Rect.unit (s := S1x2x64x1024) ![0, 0, 0, 0] S1x1x64x1024.size inb_S1x2x64x1024_S1x1x64x1024_0_0_0_0).toLoadRect (harg6.unread x4)) shapeCasts_S1x1x64x1024_S64x1024)) (dots (kernelRun.sl.v535 c arg5 harg5 arg10 harg10 arg18 x3 x8) (kernelRun.sl.v418 c arg8 harg8 arg16 x6)) (kernelRun.sl.v538 c i arg2 harg2 arg5 harg5 arg9 harg9 arg19 x0 x3 x7) (kernelRun.sl.v539 c i arg4 harg4 arg5 harg5 arg10 harg10 arg20 x2 x3 x8)) (View.readAt (Elt F) arg7.view (Rect.unit (s := S1x2x64x1024) ![0, 0, 0, 0] S1x1x64x1024.size inb_S1x2x64x1024_S1x1x64x1024_0_0_0_0).toLoadRect (harg7.unread x5)) (kernelRun.sl.r_1 c i arg3 harg3 x1) := rfl

theorem out0_3 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec F S2x10 .f32) (x1 : Vec F S2x10 .f32) (x2 : Vec F S10 .f32) (x3 : Vec F S1x2x64x1024 .bf16) (x4 : Vec F S1x2x64x1024 .fp8e4m3) (x5 : Vec F S1x2x64x1024 .fp8e4m3) (x6 : Vec F S2x64x769 .fp8e4m3) (x7 : Vec F S2x64x1 .f32) (x8 : Vec F S2x64x1 .f32) :
    (kernelRun.sl.v777 c i arg2 harg2 arg3 harg3 arg4 harg4 arg5 harg5 arg6 harg6 arg7 harg7 arg8 harg8 arg9 harg9 arg10 harg10 arg16 arg17 arg18 arg19 arg20 x0 x1 x2 x3 x4 x5 x6 x7 x8)
      = att (tiles3 (dots (kernelRun.sl.v653 c arg5 harg5 arg9 harg9 arg17 x3 x7) (shapeCast S64x1024 (View.readAt (Elt F) arg6.view (Rect.unit (s := S1x2x64x1024) ![0, 0, 0, 0] S1x1x64x1024.size inb_S1x2x64x1024_S1x1x64x1024_0_0_0_0).toLoadRect (harg6.unread x4)) shapeCasts_S1x1x64x1024_S64x1024)) (dots (kernelRun.sl.v657 c arg5 harg5 arg10 harg10 arg18 x3 x8) (kernelRun.sl.v418 c arg8 harg8 arg16 x6)) (kernelRun.sl.v660 c i arg2 harg2 arg5 harg5 arg9 harg9 arg19 x0 x3 x7) (kernelRun.sl.v661 c i arg4 harg4 arg5 harg5 arg10 harg10 arg20 x2 x3 x8)) (View.readAt (Elt F) arg7.view (Rect.unit (s := S1x2x64x1024) ![0, 0, 0, 0] S1x1x64x1024.size inb_S1x2x64x1024_S1x1x64x1024_0_0_0_0).toLoadRect (harg7.unread x5)) (kernelRun.sl.r_1 c i arg3 harg3 x1) := rfl

theorem out0_4 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec F S2x10 .f32) (x1 : Vec F S2x10 .f32) (x2 : Vec F S10 .f32) (x3 : Vec F S1x2x64x1024 .bf16) (x4 : Vec F S1x2x64x1024 .fp8e4m3) (x5 : Vec F S1x2x64x1024 .fp8e4m3) (x6 : Vec F S2x64x769 .fp8e4m3) (x7 : Vec F S2x64x1 .f32) (x8 : Vec F S2x64x1 .f32) :
    (kernelRun.sl.v902 c i arg2 harg2 arg3 harg3 arg4 harg4 arg5 harg5 arg6 harg6 arg7 harg7 arg8 harg8 arg9 harg9 arg10 harg10 arg16 arg17 arg18 arg19 arg20 x0 x1 x2 x3 x4 x5 x6 x7 x8)
      = att (tiles4 (dots (kernelRun.sl.v778 c arg5 harg5 arg9 harg9 arg17 x3 x7) (shapeCast S64x1024 (View.readAt (Elt F) arg6.view (Rect.unit (s := S1x2x64x1024) ![0, 0, 0, 0] S1x1x64x1024.size inb_S1x2x64x1024_S1x1x64x1024_0_0_0_0).toLoadRect (harg6.unread x4)) shapeCasts_S1x1x64x1024_S64x1024)) (dots (kernelRun.sl.v782 c arg5 harg5 arg10 harg10 arg18 x3 x8) (kernelRun.sl.v418 c arg8 harg8 arg16 x6)) (kernelRun.sl.v785 c i arg2 harg2 arg5 harg5 arg9 harg9 arg19 x0 x3 x7) (kernelRun.sl.v786 c i arg4 harg4 arg5 harg5 arg10 harg10 arg20 x2 x3 x8)) (View.readAt (Elt F) arg7.view (Rect.unit (s := S1x2x64x1024) ![0, 0, 0, 0] S1x1x64x1024.size inb_S1x2x64x1024_S1x1x64x1024_0_0_0_0).toLoadRect (harg7.unread x5)) (kernelRun.sl.r_1 c i arg3 harg3 x1) := rfl

theorem out0_5 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec F S2x10 .f32) (x1 : Vec F S2x10 .f32) (x2 : Vec F S10 .f32) (x3 : Vec F S1x2x64x1024 .bf16) (x4 : Vec F S1x2x64x1024 .fp8e4m3) (x5 : Vec F S1x2x64x1024 .fp8e4m3) (x6 : Vec F S2x64x769 .fp8e4m3) (x7 : Vec F S2x64x1 .f32) (x8 : Vec F S2x64x1 .f32) :
    (kernelRun.sl.v1024 c i arg2 harg2 arg3 harg3 arg4 harg4 arg5 harg5 arg6 harg6 arg7 harg7 arg8 harg8 arg9 harg9 arg10 harg10 arg16 arg17 arg18 arg19 arg20 x0 x1 x2 x3 x4 x5 x6 x7 x8)
      = att (tiles5 (dots (kernelRun.sl.v903 c arg5 harg5 arg9 harg9 arg17 x3 x7) (shapeCast S64x1024 (View.readAt (Elt F) arg6.view (Rect.unit (s := S1x2x64x1024) ![0, 0, 0, 0] S1x1x64x1024.size inb_S1x2x64x1024_S1x1x64x1024_0_0_0_0).toLoadRect (harg6.unread x4)) shapeCasts_S1x1x64x1024_S64x1024)) (dots (kernelRun.sl.v907 c arg5 harg5 arg10 harg10 arg18 x3 x8) (kernelRun.sl.v418 c arg8 harg8 arg16 x6)) (kernelRun.sl.v910 c i arg2 harg2 arg5 harg5 arg9 harg9 arg19 x0 x3 x7) (kernelRun.sl.v911 c i arg4 harg4 arg5 harg5 arg10 harg10 arg20 x2 x3 x8)) (View.readAt (Elt F) arg7.view (Rect.unit (s := S1x2x64x1024) ![0, 0, 0, 0] S1x1x64x1024.size inb_S1x2x64x1024_S1x1x64x1024_0_0_0_0).toLoadRect (harg7.unread x5)) (kernelRun.sl.r_1 c i arg3 harg3 x1) := rfl

theorem out0_6 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec F S2x10 .f32) (x1 : Vec F S2x10 .f32) (x2 : Vec F S10 .f32) (x3 : Vec F S1x2x64x1024 .bf16) (x4 : Vec F S1x2x64x1024 .fp8e4m3) (x5 : Vec F S1x2x64x1024 .fp8e4m3) (x6 : Vec F S2x64x769 .fp8e4m3) (x7 : Vec F S2x64x1 .f32) (x8 : Vec F S2x64x1 .f32) :
    (kernelRun.sl.v1142 c i arg2 harg2 arg3 harg3 arg4 harg4 arg5 harg5 arg6 harg6 arg7 harg7 arg8 harg8 arg9 harg9 arg10 harg10 arg16 arg17 arg18 arg19 arg20 x0 x1 x2 x3 x4 x5 x6 x7 x8)
      = att (tiles6 (dots (kernelRun.sl.v1025 c arg5 harg5 arg9 harg9 arg17 x3 x7) (shapeCast S64x1024 (View.readAt (Elt F) arg6.view (Rect.unit (s := S1x2x64x1024) ![0, 0, 0, 0] S1x1x64x1024.size inb_S1x2x64x1024_S1x1x64x1024_0_0_0_0).toLoadRect (harg6.unread x4)) shapeCasts_S1x1x64x1024_S64x1024)) (dots (kernelRun.sl.v1029 c arg5 harg5 arg10 harg10 arg18 x3 x8) (kernelRun.sl.v418 c arg8 harg8 arg16 x6)) (kernelRun.sl.v1032 c i arg2 harg2 arg5 harg5 arg9 harg9 arg19 x0 x3 x7) (kernelRun.sl.v1033 c i arg4 harg4 arg5 harg5 arg10 harg10 arg20 x2 x3 x8)) (View.readAt (Elt F) arg7.view (Rect.unit (s := S1x2x64x1024) ![0, 0, 0, 0] S1x1x64x1024.size inb_S1x2x64x1024_S1x1x64x1024_0_0_0_0).toLoadRect (harg7.unread x5)) (kernelRun.sl.r_1 c i arg3 harg3 x1) := rfl

theorem out0_7 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec F S2x10 .f32) (x1 : Vec F S2x10 .f32) (x2 : Vec F S10 .f32) (x3 : Vec F S1x2x64x1024 .bf16) (x4 : Vec F S1x2x64x1024 .fp8e4m3) (x5 : Vec F S1x2x64x1024 .fp8e4m3) (x6 : Vec F S2x64x769 .fp8e4m3) (x7 : Vec F S2x64x1 .f32) (x8 : Vec F S2x64x1 .f32) :
    (kernelRun.sl.v1256 c i arg2 harg2 arg3 harg3 arg4 harg4 arg5 harg5 arg6 harg6 arg7 harg7 arg8 harg8 arg9 harg9 arg10 harg10 arg16 arg17 arg18 arg19 arg20 x0 x1 x2 x3 x4 x5 x6 x7 x8)
      = att (tiles7 (dots (kernelRun.sl.v1143 c arg5 harg5 arg9 harg9 arg17 x3 x7) (shapeCast S64x1024 (View.readAt (Elt F) arg6.view (Rect.unit (s := S1x2x64x1024) ![0, 0, 0, 0] S1x1x64x1024.size inb_S1x2x64x1024_S1x1x64x1024_0_0_0_0).toLoadRect (harg6.unread x4)) shapeCasts_S1x1x64x1024_S64x1024)) (dots (kernelRun.sl.v1147 c arg5 harg5 arg10 harg10 arg18 x3 x8) (kernelRun.sl.v418 c arg8 harg8 arg16 x6)) (kernelRun.sl.v1150 c i arg2 harg2 arg5 harg5 arg9 harg9 arg19 x0 x3 x7) (kernelRun.sl.v1151 c i arg4 harg4 arg5 harg5 arg10 harg10 arg20 x2 x3 x8)) (View.readAt (Elt F) arg7.view (Rect.unit (s := S1x2x64x1024) ![0, 0, 0, 0] S1x1x64x1024.size inb_S1x2x64x1024_S1x1x64x1024_0_0_0_0).toLoadRect (harg7.unread x5)) (kernelRun.sl.r_1 c i arg3 harg3 x1) := rfl

theorem out1_0 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec F S2x10 .f32) (x1 : Vec F S2x10 .f32) (x2 : Vec F S10 .f32) (x3 : Vec F S1x2x64x1024 .bf16) (x4 : Vec F S1x2x64x1024 .fp8e4m3) (x5 : Vec F S1x2x64x1024 .fp8e4m3) (x6 : Vec F S2x64x769 .fp8e4m3) (x7 : Vec F S2x64x1 .f32) (x8 : Vec F S2x64x1 .f32) :
    (kernelRun.sl.v1666 c i arg2 harg2 arg3 harg3 arg4 harg4 arg5 harg5 arg6 harg6 arg7 harg7 arg8 harg8 arg9 harg9 arg10 harg10 arg16 arg17 arg18 arg19 arg20 x0 x1 x2 x3 x4 x5 x6 x7 x8)
      = att (tiles0 (dots (kernelRun.sl.v1553 c arg5 harg5 arg9 harg9 arg17 x3 x7) (shapeCast S64x1024 (View.readAt (Elt F) arg6.view (Rect.unit (s := S1x2x64x1024) ![0, 1, 0, 0] S1x1x64x1024.size inb_S1x2x64x1024_S1x1x64x1024_0_1_0_0).toLoadRect (harg6.unread x4)) shapeCasts_S1x1x64x1024_S64x1024)) (dots (kernelRun.sl.v1557 c arg5 harg5 arg10 harg10 arg18 x3 x8) (kernelRun.sl.v1558 c arg8 harg8 arg16 x6)) (kernelRun.sl.v1560 c i arg2 harg2 arg5 harg5 arg9 harg9 arg19 x0 x3 x7) (kernelRun.sl.v1561 c i arg4 harg4 arg5 harg5 arg10 harg10 arg20 x2 x3 x8)) (View.readAt (Elt F) arg7.view (Rect.unit (s := S1x2x64x1024) ![0, 1, 0, 0] S1x1x64x1024.size inb_S1x2x64x1024_S1x1x64x1024_0_1_0_0).toLoadRect (harg7.unread x5)) (kernelRun.sl.r_13 c i arg3 harg3 x1) := rfl

theorem out1_1 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec F S2x10 .f32) (x1 : Vec F S2x10 .f32) (x2 : Vec F S10 .f32) (x3 : Vec F S1x2x64x1024 .bf16) (x4 : Vec F S1x2x64x1024 .fp8e4m3) (x5 : Vec F S1x2x64x1024 .fp8e4m3) (x6 : Vec F S2x64x769 .fp8e4m3) (x7 : Vec F S2x64x1 .f32) (x8 : Vec F S2x64x1 .f32) :
    (kernelRun.sl.v1784 c i arg2 harg2 arg3 harg3 arg4 harg4 arg5 harg5 arg6 harg6 arg7 harg7 arg8 harg8 arg9 harg9 arg10 harg10 arg16 arg17 arg18 arg19 arg20 x0 x1 x2 x3 x4 x5 x6 x7 x8)
      = att (tiles1 (dots (kernelRun.sl.v1667 c arg5 harg5 arg9 harg9 arg17 x3 x7) (shapeCast S64x1024 (View.readAt (Elt F) arg6.view (Rect.unit (s := S1x2x64x1024) ![0, 1, 0, 0] S1x1x64x1024.size inb_S1x2x64x1024_S1x1x64x1024_0_1_0_0).toLoadRect (harg6.unread x4)) shapeCasts_S1x1x64x1024_S64x1024)) (dots (kernelRun.sl.v1671 c arg5 harg5 arg10 harg10 arg18 x3 x8) (kernelRun.sl.v1672 c arg8 harg8 arg16 x6)) (kernelRun.sl.v1674 c i arg2 harg2 arg5 harg5 arg9 harg9 arg19 x0 x3 x7) (kernelRun.sl.v1675 c i arg4 harg4 arg5 harg5 arg10 harg10 arg20 x2 x3 x8)) (View.readAt (Elt F) arg7.view (Rect.unit (s := S1x2x64x1024) ![0, 1, 0, 0] S1x1x64x1024.size inb_S1x2x64x1024_S1x1x64x1024_0_1_0_0).toLoadRect (harg7.unread x5)) (kernelRun.sl.r_13 c i arg3 harg3 x1) := rfl

theorem out1_2 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec F S2x10 .f32) (x1 : Vec F S2x10 .f32) (x2 : Vec F S10 .f32) (x3 : Vec F S1x2x64x1024 .bf16) (x4 : Vec F S1x2x64x1024 .fp8e4m3) (x5 : Vec F S1x2x64x1024 .fp8e4m3) (x6 : Vec F S2x64x769 .fp8e4m3) (x7 : Vec F S2x64x1 .f32) (x8 : Vec F S2x64x1 .f32) :
    (kernelRun.sl.v1906 c i arg2 harg2 arg3 harg3 arg4 harg4 arg5 harg5 arg6 harg6 arg7 harg7 arg8 harg8 arg9 harg9 arg10 harg10 arg16 arg17 arg18 arg19 arg20 x0 x1 x2 x3 x4 x5 x6 x7 x8)
      = att (tiles2 (dots (kernelRun.sl.v1785 c arg5 harg5 arg9 harg9 arg17 x3 x7) (shapeCast S64x1024 (View.readAt (Elt F) arg6.view (Rect.unit (s := S1x2x64x1024) ![0, 1, 0, 0] S1x1x64x1024.size inb_S1x2x64x1024_S1x1x64x1024_0_1_0_0).toLoadRect (harg6.unread x4)) shapeCasts_S1x1x64x1024_S64x1024)) (dots (kernelRun.sl.v1789 c arg5 harg5 arg10 harg10 arg18 x3 x8) (kernelRun.sl.v1672 c arg8 harg8 arg16 x6)) (kernelRun.sl.v1792 c i arg2 harg2 arg5 harg5 arg9 harg9 arg19 x0 x3 x7) (kernelRun.sl.v1793 c i arg4 harg4 arg5 harg5 arg10 harg10 arg20 x2 x3 x8)) (View.readAt (Elt F) arg7.view (Rect.unit (s := S1x2x64x1024) ![0, 1, 0, 0] S1x1x64x1024.size inb_S1x2x64x1024_S1x1x64x1024_0_1_0_0).toLoadRect (harg7.unread x5)) (kernelRun.sl.r_13 c i arg3 harg3 x1) := rfl

theorem out1_3 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec F S2x10 .f32) (x1 : Vec F S2x10 .f32) (x2 : Vec F S10 .f32) (x3 : Vec F S1x2x64x1024 .bf16) (x4 : Vec F S1x2x64x1024 .fp8e4m3) (x5 : Vec F S1x2x64x1024 .fp8e4m3) (x6 : Vec F S2x64x769 .fp8e4m3) (x7 : Vec F S2x64x1 .f32) (x8 : Vec F S2x64x1 .f32) :
    (kernelRun.sl.v2031 c i arg2 harg2 arg3 harg3 arg4 harg4 arg5 harg5 arg6 harg6 arg7 harg7 arg8 harg8 arg9 harg9 arg10 harg10 arg16 arg17 arg18 arg19 arg20 x0 x1 x2 x3 x4 x5 x6 x7 x8)
      = att (tiles3 (dots (kernelRun.sl.v1907 c arg5 harg5 arg9 harg9 arg17 x3 x7) (shapeCast S64x1024 (View.readAt (Elt F) arg6.view (Rect.unit (s := S1x2x64x1024) ![0, 1, 0, 0] S1x1x64x1024.size inb_S1x2x64x1024_S1x1x64x1024_0_1_0_0).toLoadRect (harg6.unread x4)) shapeCasts_S1x1x64x1024_S64x1024)) (dots (kernelRun.sl.v1911 c arg5 harg5 arg10 harg10 arg18 x3 x8) (kernelRun.sl.v1672 c arg8 harg8 arg16 x6)) (kernelRun.sl.v1914 c i arg2 harg2 arg5 harg5 arg9 harg9 arg19 x0 x3 x7) (kernelRun.sl.v1915 c i arg4 harg4 arg5 harg5 arg10 harg10 arg20 x2 x3 x8)) (View.readAt (Elt F) arg7.view (Rect.unit (s := S1x2x64x1024) ![0, 1, 0, 0] S1x1x64x1024.size inb_S1x2x64x1024_S1x1x64x1024_0_1_0_0).toLoadRect (harg7.unread x5)) (kernelRun.sl.r_13 c i arg3 harg3 x1) := rfl

theorem out1_4 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec F S2x10 .f32) (x1 : Vec F S2x10 .f32) (x2 : Vec F S10 .f32) (x3 : Vec F S1x2x64x1024 .bf16) (x4 : Vec F S1x2x64x1024 .fp8e4m3) (x5 : Vec F S1x2x64x1024 .fp8e4m3) (x6 : Vec F S2x64x769 .fp8e4m3) (x7 : Vec F S2x64x1 .f32) (x8 : Vec F S2x64x1 .f32) :
    (kernelRun.sl.v2156 c i arg2 harg2 arg3 harg3 arg4 harg4 arg5 harg5 arg6 harg6 arg7 harg7 arg8 harg8 arg9 harg9 arg10 harg10 arg16 arg17 arg18 arg19 arg20 x0 x1 x2 x3 x4 x5 x6 x7 x8)
      = att (tiles4 (dots (kernelRun.sl.v2032 c arg5 harg5 arg9 harg9 arg17 x3 x7) (shapeCast S64x1024 (View.readAt (Elt F) arg6.view (Rect.unit (s := S1x2x64x1024) ![0, 1, 0, 0] S1x1x64x1024.size inb_S1x2x64x1024_S1x1x64x1024_0_1_0_0).toLoadRect (harg6.unread x4)) shapeCasts_S1x1x64x1024_S64x1024)) (dots (kernelRun.sl.v2036 c arg5 harg5 arg10 harg10 arg18 x3 x8) (kernelRun.sl.v1672 c arg8 harg8 arg16 x6)) (kernelRun.sl.v2039 c i arg2 harg2 arg5 harg5 arg9 harg9 arg19 x0 x3 x7) (kernelRun.sl.v2040 c i arg4 harg4 arg5 harg5 arg10 harg10 arg20 x2 x3 x8)) (View.readAt (Elt F) arg7.view (Rect.unit (s := S1x2x64x1024) ![0, 1, 0, 0] S1x1x64x1024.size inb_S1x2x64x1024_S1x1x64x1024_0_1_0_0).toLoadRect (harg7.unread x5)) (kernelRun.sl.r_13 c i arg3 harg3 x1) := rfl

theorem out1_5 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec F S2x10 .f32) (x1 : Vec F S2x10 .f32) (x2 : Vec F S10 .f32) (x3 : Vec F S1x2x64x1024 .bf16) (x4 : Vec F S1x2x64x1024 .fp8e4m3) (x5 : Vec F S1x2x64x1024 .fp8e4m3) (x6 : Vec F S2x64x769 .fp8e4m3) (x7 : Vec F S2x64x1 .f32) (x8 : Vec F S2x64x1 .f32) :
    (kernelRun.sl.v2278 c i arg2 harg2 arg3 harg3 arg4 harg4 arg5 harg5 arg6 harg6 arg7 harg7 arg8 harg8 arg9 harg9 arg10 harg10 arg16 arg17 arg18 arg19 arg20 x0 x1 x2 x3 x4 x5 x6 x7 x8)
      = att (tiles5 (dots (kernelRun.sl.v2157 c arg5 harg5 arg9 harg9 arg17 x3 x7) (shapeCast S64x1024 (View.readAt (Elt F) arg6.view (Rect.unit (s := S1x2x64x1024) ![0, 1, 0, 0] S1x1x64x1024.size inb_S1x2x64x1024_S1x1x64x1024_0_1_0_0).toLoadRect (harg6.unread x4)) shapeCasts_S1x1x64x1024_S64x1024)) (dots (kernelRun.sl.v2161 c arg5 harg5 arg10 harg10 arg18 x3 x8) (kernelRun.sl.v1672 c arg8 harg8 arg16 x6)) (kernelRun.sl.v2164 c i arg2 harg2 arg5 harg5 arg9 harg9 arg19 x0 x3 x7) (kernelRun.sl.v2165 c i arg4 harg4 arg5 harg5 arg10 harg10 arg20 x2 x3 x8)) (View.readAt (Elt F) arg7.view (Rect.unit (s := S1x2x64x1024) ![0, 1, 0, 0] S1x1x64x1024.size inb_S1x2x64x1024_S1x1x64x1024_0_1_0_0).toLoadRect (harg7.unread x5)) (kernelRun.sl.r_13 c i arg3 harg3 x1) := rfl

theorem out1_6 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec F S2x10 .f32) (x1 : Vec F S2x10 .f32) (x2 : Vec F S10 .f32) (x3 : Vec F S1x2x64x1024 .bf16) (x4 : Vec F S1x2x64x1024 .fp8e4m3) (x5 : Vec F S1x2x64x1024 .fp8e4m3) (x6 : Vec F S2x64x769 .fp8e4m3) (x7 : Vec F S2x64x1 .f32) (x8 : Vec F S2x64x1 .f32) :
    (kernelRun.sl.v2396 c i arg2 harg2 arg3 harg3 arg4 harg4 arg5 harg5 arg6 harg6 arg7 harg7 arg8 harg8 arg9 harg9 arg10 harg10 arg16 arg17 arg18 arg19 arg20 x0 x1 x2 x3 x4 x5 x6 x7 x8)
      = att (tiles6 (dots (kernelRun.sl.v2279 c arg5 harg5 arg9 harg9 arg17 x3 x7) (shapeCast S64x1024 (View.readAt (Elt F) arg6.view (Rect.unit (s := S1x2x64x1024) ![0, 1, 0, 0] S1x1x64x1024.size inb_S1x2x64x1024_S1x1x64x1024_0_1_0_0).toLoadRect (harg6.unread x4)) shapeCasts_S1x1x64x1024_S64x1024)) (dots (kernelRun.sl.v2283 c arg5 harg5 arg10 harg10 arg18 x3 x8) (kernelRun.sl.v1672 c arg8 harg8 arg16 x6)) (kernelRun.sl.v2286 c i arg2 harg2 arg5 harg5 arg9 harg9 arg19 x0 x3 x7) (kernelRun.sl.v2287 c i arg4 harg4 arg5 harg5 arg10 harg10 arg20 x2 x3 x8)) (View.readAt (Elt F) arg7.view (Rect.unit (s := S1x2x64x1024) ![0, 1, 0, 0] S1x1x64x1024.size inb_S1x2x64x1024_S1x1x64x1024_0_1_0_0).toLoadRect (harg7.unread x5)) (kernelRun.sl.r_13 c i arg3 harg3 x1) := rfl

theorem out1_7 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec F S2x10 .f32) (x1 : Vec F S2x10 .f32) (x2 : Vec F S10 .f32) (x3 : Vec F S1x2x64x1024 .bf16) (x4 : Vec F S1x2x64x1024 .fp8e4m3) (x5 : Vec F S1x2x64x1024 .fp8e4m3) (x6 : Vec F S2x64x769 .fp8e4m3) (x7 : Vec F S2x64x1 .f32) (x8 : Vec F S2x64x1 .f32) :
    (k0_pay1 (kernelRun.sl.r_13 c i arg3 harg3 x1) (kernelRun.sl.v2435 c i arg2 harg2 arg4 harg4 arg5 harg5 arg6 harg6 arg8 harg8 arg9 harg9 arg10 harg10 arg16 arg17 arg18 arg19 arg20 x0 x2 x3 x4 x6 x7 x8) (kernelRun.sl.v2439 c i arg2 harg2 arg4 harg4 arg5 harg5 arg6 harg6 arg8 harg8 arg9 harg9 arg10 harg10 arg16 arg17 arg18 arg19 arg20 x0 x2 x3 x4 x6 x7 x8) (kernelRun.sl.v2443 c i arg2 harg2 arg4 harg4 arg5 harg5 arg6 harg6 arg8 harg8 arg9 harg9 arg10 harg10 arg16 arg17 arg18 arg19 arg20 x0 x2 x3 x4 x6 x7 x8) (kernelRun.sl.v2447 c i arg2 harg2 arg4 harg4 arg5 harg5 arg6 harg6 arg8 harg8 arg9 harg9 arg10 harg10 arg16 arg17 arg18 arg19 arg20 x0 x2 x3 x4 x6 x7 x8) (kernelRun.sl.v2456 c i arg2 harg2 arg4 harg4 arg5 harg5 arg6 harg6 arg8 harg8 arg9 harg9 arg10 harg10 arg16 arg17 arg18 arg19 arg20 x0 x2 x3 x4 x6 x7 x8) (kernelRun.sl.v2459 c i arg2 harg2 arg4 harg4 arg5 harg5 arg6 harg6 arg8 harg8 arg9 harg9 arg10 harg10 arg16 arg17 arg18 arg19 arg20 x0 x2 x3 x4 x6 x7 x8) (kernelRun.sl.v2462 c i arg2 harg2 arg4 harg4 arg5 harg5 arg6 harg6 arg8 harg8 arg9 harg9 arg10 harg10 arg16 arg17 arg18 arg19 arg20 x0 x2 x3 x4 x6 x7 x8) (kernelRun.sl.r_20 c i arg2 harg2 arg4 harg4 arg5 harg5 arg6 harg6 arg8 harg8 arg9 harg9 arg10 harg10 arg16 arg17 arg18 arg19 arg20 x0 x2 x3 x4 x6 x7 x8) (kernelRun.sl.r_21 c i arg2 harg2 arg4 harg4 arg5 harg5 arg6 harg6 arg8 harg8 arg9 harg9 arg10 harg10 arg16 arg17 arg18 arg19 arg20 x0 x2 x3 x4 x6 x7 x8) (kernelRun.sl.r_22 c i arg2 harg2 arg4 harg4 arg5 harg5 arg6 harg6 arg8 harg8 arg9 harg9 arg10 harg10 arg16 arg17 arg18 arg19 arg20 x0 x2 x3 x4 x6 x7 x8) (kernelRun.sl.v2499 c arg7 harg7 x5))
      = att (tiles7 (dots (kernelRun.sl.v2397 c arg5 harg5 arg9 harg9 arg17 x3 x7) (shapeCast S64x1024 (View.readAt (Elt F) arg6.view (Rect.unit (s := S1x2x64x1024) ![0, 1, 0, 0] S1x1x64x1024.size inb_S1x2x64x1024_S1x1x64x1024_0_1_0_0).toLoadRect (harg6.unread x4)) shapeCasts_S1x1x64x1024_S64x1024)) (dots (kernelRun.sl.v2401 c arg5 harg5 arg10 harg10 arg18 x3 x8) (kernelRun.sl.v1672 c arg8 harg8 arg16 x6)) (kernelRun.sl.v2404 c i arg2 harg2 arg5 harg5 arg9 harg9 arg19 x0 x3 x7) (kernelRun.sl.v2405 c i arg4 harg4 arg5 harg5 arg10 harg10 arg20 x2 x3 x8)) (View.readAt (Elt F) arg7.view (Rect.unit (s := S1x2x64x1024) ![0, 1, 0, 0] S1x1x64x1024.size inb_S1x2x64x1024_S1x1x64x1024_0_1_0_0).toLoadRect (harg7.unread x5)) (kernelRun.sl.r_13 c i arg3 harg3 x1) := rfl

end Cert.KernelIdeal.Val

end
-- ==== Proof.Val.QPay.lean ====
module

public import proofs.«01_k».proof.Proof.Val.Pay

@[expose] public section

set_option maxRecDepth 16384

noncomputable section

namespace Cert.KernelIdeal.Val

open Idealize.ShloMosaic Idealize.ShloMosaic.TcCoe Idealize.ShloMosaic.ValueIdx Cert.KernelIdeal.Gen

variable {F : FTy → Type} [FloatOps F] [Named F]

/-- The queries of a head, widened, plus a bias. -/
def qx (q : Vec F S1x1x64x1024 .bf16) (b : Vec F S1x64x1 .f32) : FVec F S64x1024 .f32 :=
  addf (extf .f32 (shapeCast S64x1024 q shapeCasts_S1x1x64x1024_S64x1024) bitsLt_bf16_f32)
    (broadcastTo S64x1024 (shapeCast S64x1 b shapeCasts_S1x64x1_S64x1) broadcasts_S64x1_S64x1024)

/-- The greatest magnitude of each column, over 448. -/
def qt (x : FVec F S64x1024 .f32) : FVec F S1x1024 .f32 :=
  mulf (shapeCast S1x1024 (multiReduction .maximumf [0] S1024 (absf x) 0xFF800000#32 reduces_S64x1024_S1024 (.inl rfl) rfl) shapeCasts_S1024_S1x1024)
    (broadcast S1x1024 (Scalar.ofBits .f32 0x3B124925#32))

/-- One step of the bisection for the exponent field. -/
def qstep (t : FVec F S1x1024 .f32) (k : BitVec 32) (v : IVec S1x1024 32) : IVec S1x1024 32 :=
  select (cmpf .oge t (bitcastToFloat .f32 (shli (addi v (broadcast S1x1024 k)) (broadcast S1x1024 23#32)))) (addi v (broadcast S1x1024 k)) v

/-- The exponent field. -/
def qe (t : FVec F S1x1024 .f32) : IVec S1x1024 32 :=
  qstep t 1#32 (qstep t 2#32 (qstep t 4#32 (qstep t 8#32 (qstep t 16#32 (qstep t 32#32 (qstep t 64#32 (qstep t 128#32 (broadcast S1x1024 0#32))))))))

/-- The exponent of the scale. -/
def qk (e : IVec S1x1024 32) : IVec S1x1024 32 :=
  select (ori (cmpi .eq e (broadcast S1x1024 0#32)) (cmpi .eq e (broadcast S1x1024 255#32))) (broadcast S1x1024 0#32) (subi e (broadcast S1x1024 126#32))

/-- The scale. -/
def qscl (x : FVec F S64x1024 .f32) : FVec F S1x1024 .f32 :=
  bitcastToFloat .f32 (shli (addi (broadcast S1x1024 127#32) (qk (qe (qt x)))) (broadcast S1x1024 23#32))

/-- The scale's inverse. -/
def qinv (x : FVec F S64x1024 .f32) : FVec F S1x1024 .f32 :=
  bitcastToFloat .f32 (shli (subi (broadcast S1x1024 127#32) (qk (qe (qt x)))) (broadcast S1x1024 23#32))

/-- The codes. -/
def qcod (x : FVec F S64x1024 .f32) : FVec F S64x1024 .fp8e4m3 :=
  truncf .fp8e4m3 (minimumf (broadcast S64x1024 (Scalar.ofBits .f32 0x43E00000#32))
    (maximumf (broadcast S64x1024 (Scalar.ofBits .f32 0xC3E00000#32)) (mulf x (broadcastTo S64x1024 (qinv x) broadcasts_S1x1024_S64x1024)))) bitsLt_fp8e4m3_f32

/-- The codes as stored. -/
def qcodO (x : FVec F S64x1024 .f32) : FVec F S1x1x64x1024 .fp8e4m3 := shapeCast S1x1x64x1024 (qcod x) shapeCasts_S64x1024_S1x1x64x1024

/-- The scale as stored. -/
def qsclO (x : FVec F S64x1024 .f32) : FVec F S1x1x1024 .f32 := shapeCast S1x1x1024 (qscl x) shapeCasts_S1x1024_S1x1x1024

/-- The codes transposed. -/
def qcodT (x : FVec F S64x1024 .f32) : FVec F S1024x64 .fp8e4m3 :=
  shapeCast S1024x64 (truncf .fp8e4m3 (transpose S1024x64 [1, 0] (extf .f32 (qcod x) bitsLt_fp8e4m3_f32) transposes_S64x1024_p1_0_S1024x64) bitsLt_fp8e4m3_f32)
    shapeCasts_S1024x64_S1024x64

/-- The scales times a scalar and the constant, one row per query. -/
def qrow (x : FVec F S64x1024 .f32) (a : Elt F .f32) : FVec F S1024x128 .f32 :=
  shapeCast S1024x128 (transpose S1024x128 [1, 0] (broadcastTo S128x1024 (shapeCast S1x1024
    (mulf (qscl x) (broadcast S1x1024 (Scalar.mulf a (Named.named κ "log2e_over_8" 0x3E38AA3B#32)))) shapeCasts_S1x1024_S1x1024) broadcasts_S1x1024_S128x1024)
    transposes_S128x1024_p1_0_S1024x128) shapeCasts_S1024x128_S1024x128

/-- A column of the position codes, over 128 lanes. -/
def pcol (p : Vec F S1x64x1 .fp8e4m3) : FVec F S64x128 .fp8e4m3 :=
  shapeCast S64x128 (truncf .fp8e4m3 (broadcastTo S64x128 (shapeCast S64x1 (extf .f32 (shapeCast S64x1 p shapeCasts_S1x64x1_S64x1) bitsLt_fp8e4m3_f32) shapeCasts_S64x1_S64x1)
    broadcasts_S64x1_S64x128) bitsLt_fp8e4m3_f32) shapeCasts_S64x128_S64x128

/-- 768 columns of the position codes. -/
def pmid (p : Vec F S1x64x768 .fp8e4m3) : FVec F S64x768 .fp8e4m3 :=
  shapeCast S64x768 (shapeCast S64x768 p shapeCasts_S1x64x768_S64x768) shapeCasts_S64x768_S64x768

theorem pay_cod_u0 (c : Dev nD) (arg5 : Memref sig .tc .vmem S1x2x64x1024 .bf16) (harg5 : arg5.IsWhole) (arg9 : Memref sig .tc .vmem S2x64x1 .f32) (harg9 : arg9.IsWhole) (x3 : Vec F S1x2x64x1024 .bf16) (x7 : Vec F S2x64x1 .f32) :
    (k0_pay16 (kernelRun.sl.v42 c arg5 harg5 arg9 harg9 x3 x7) (kernelRun.sl.v120 c arg5 harg5 arg9 harg9 x3 x7) (kernelRun.sl.v122 c arg5 harg5 arg9 harg9 x3 x7)) = qcodO (qx (View.readAt (Elt F) arg5.view (Rect.unit (s := S1x2x64x1024) ![0, 0, 0, 0] S1x1x64x1024.size inb_S1x2x64x1024_S1x1x64x1024_0_0_0_0).toLoadRect (harg5.unread x3)) (View.readAt (Elt F) arg9.view (Rect.unit (s := S2x64x1) ![0, 0, 0] S1x64x1.size inb_S2x64x1_S1x64x1_0_0_0).toLoadRect (harg9.unread x7))) := rfl

theorem pay_scl_u0 (c : Dev nD) (arg5 : Memref sig .tc .vmem S1x2x64x1024 .bf16) (harg5 : arg5.IsWhole) (arg9 : Memref sig .tc .vmem S2x64x1 .f32) (harg9 : arg9.IsWhole) (x3 : Vec F S1x2x64x1024 .bf16) (x7 : Vec F S2x64x1 .f32) :
    (k0_pay17 (F := F) (kernelRun.sl.v120 c arg5 harg5 arg9 harg9 x3 x7) (kernelRun.sl.v122 c arg5 harg5 arg9 harg9 x3 x7)) = qsclO (qx (View.readAt (Elt F) arg5.view (Rect.unit (s := S1x2x64x1024) ![0, 0, 0, 0] S1x1x64x1024.size inb_S1x2x64x1024_S1x1x64x1024_0_0_0_0).toLoadRect (harg5.unread x3)) (View.readAt (Elt F) arg9.view (Rect.unit (s := S2x64x1) ![0, 0, 0] S1x64x1.size inb_S2x64x1_S1x64x1_0_0_0).toLoadRect (harg9.unread x7))) := rfl

theorem pay_codT_u0 (c : Dev nD) (arg5 : Memref sig .tc .vmem S1x2x64x1024 .bf16) (harg5 : arg5.IsWhole) (arg9 : Memref sig .tc .vmem S2x64x1 .f32) (harg9 : arg9.IsWhole) (x3 : Vec F S1x2x64x1024 .bf16) (x7 : Vec F S2x64x1 .f32) :
    (k0_pay18 (kernelRun.sl.v42 c arg5 harg5 arg9 harg9 x3 x7) (kernelRun.sl.v120 c arg5 harg5 arg9 harg9 x3 x7) (kernelRun.sl.v122 c arg5 harg5 arg9 harg9 x3 x7)) = qcodT (qx (View.readAt (Elt F) arg5.view (Rect.unit (s := S1x2x64x1024) ![0, 0, 0, 0] S1x1x64x1024.size inb_S1x2x64x1024_S1x1x64x1024_0_0_0_0).toLoadRect (harg5.unread x3)) (View.readAt (Elt F) arg9.view (Rect.unit (s := S2x64x1) ![0, 0, 0] S1x64x1.size inb_S2x64x1_S1x64x1_0_0_0).toLoadRect (harg9.unread x7))) := rfl

theorem pay_row_u0 (c : Dev nD) (i : grid0.Coords) (arg2 : Memref sig .tc .smem S2x10 .f32) (harg2 : arg2.IsWhole) (arg5 : Memref sig .tc .vmem S1x2x64x1024 .bf16) (harg5 : arg5.IsWhole) (arg9 : Memref sig .tc .vmem S2x64x1 .f32) (harg9 : arg9.IsWhole) (x0 : Vec F S2x10 .f32) (x3 : Vec F S1x2x64x1024 .bf16) (x7 : Vec F S2x64x1 .f32) :
    (kernelRun.sl.v168 c i arg2 harg2 arg5 harg5 arg9 harg9 x0 x3 x7) = qrow (qx (View.readAt (Elt F) arg5.view (Rect.unit (s := S1x2x64x1024) ![0, 0, 0, 0] S1x1x64x1024.size inb_S1x2x64x1024_S1x1x64x1024_0_0_0_0).toLoadRect (harg5.unread x3)) (View.readAt (Elt F) arg9.view (Rect.unit (s := S2x64x1) ![0, 0, 0] S1x64x1.size inb_S2x64x1_S1x64x1_0_0_0).toLoadRect (harg9.unread x7))) (kernelRun.sl.r c i arg2 harg2 x0) := rfl

theorem pay_cod_v0 (c : Dev nD) (arg5 : Memref sig .tc .vmem S1x2x64x1024 .bf16) (harg5 : arg5.IsWhole) (arg10 : Memref sig .tc .vmem S2x64x1 .f32) (harg10 : arg10.IsWhole) (x3 : Vec F S1x2x64x1024 .bf16) (x8 : Vec F S2x64x1 .f32) :
    (kernelRun.sl.v279 c arg5 harg5 arg10 harg10 x3 x8) = qcodO (qx (View.readAt (Elt F) arg5.view (Rect.unit (s := S1x2x64x1024) ![0, 0, 0, 0] S1x1x64x1024.size inb_S1x2x64x1024_S1x1x64x1024_0_0_0_0).toLoadRect (harg5.unread x3)) (View.readAt (Elt F) arg10.view (Rect.unit (s := S2x64x1) ![0, 0, 0] S1x64x1.size inb_S2x64x1_S1x64x1_0_0_0).toLoadRect (harg10.unread x8))) := rfl

theorem pay_scl_v0 (c : Dev nD) (arg5 : Memref sig .tc .vmem S1x2x64x1024 .bf16) (harg5 : arg5.IsWhole) (arg10 : Memref sig .tc .vmem S2x64x1 .f32) (harg10 : arg10.IsWhole) (x3 : Vec F S1x2x64x1024 .bf16) (x8 : Vec F S2x64x1 .f32) :
    (kernelRun.sl.v283 c arg5 harg5 arg10 harg10 x3 x8) = qsclO (qx (View.readAt (Elt F) arg5.view (Rect.unit (s := S1x2x64x1024) ![0, 0, 0, 0] S1x1x64x1024.size inb_S1x2x64x1024_S1x1x64x1024_0_0_0_0).toLoadRect (harg5.unread x3)) (View.readAt (Elt F) arg10.view (Rect.unit (s := S2x64x1) ![0, 0, 0] S1x64x1.size inb_S2x64x1_S1x64x1_0_0_0).toLoadRect (harg10.unread x8))) := rfl

theorem pay_codT_v0 (c : Dev nD) (arg5 : Memref sig .tc .vmem S1x2x64x1024 .bf16) (harg5 : arg5.IsWhole) (arg10 : Memref sig .tc .vmem S2x64x1 .f32) (harg10 : arg10.IsWhole) (x3 : Vec F S1x2x64x1024 .bf16) (x8 : Vec F S2x64x1 .f32) :
    (k0_pay35 (kernelRun.sl.v286 c arg5 harg5 arg10 harg10 x3 x8)) = qcodT (qx (View.readAt (Elt F) arg5.view (Rect.unit (s := S1x2x64x1024) ![0, 0, 0, 0] S1x1x64x1024.size inb_S1x2x64x1024_S1x1x64x1024_0_0_0_0).toLoadRect (harg5.unread x3)) (View.readAt (Elt F) arg10.view (Rect.unit (s := S2x64x1) ![0, 0, 0] S1x64x1.size inb_S2x64x1_S1x64x1_0_0_0).toLoadRect (harg10.unread x8))) := rfl

theorem pay_row_v0 (c : Dev nD) (i : grid0.Coords) (arg4 : Memref sig .tc .smem S10 .f32) (harg4 : arg4.IsWhole) (arg5 : Memref sig .tc .vmem S1x2x64x1024 .bf16) (harg5 : arg5.IsWhole) (arg10 : Memref sig .tc .vmem S2x64x1 .f32) (harg10 : arg10.IsWhole) (x2 : Vec F S10 .f32) (x3 : Vec F S1x2x64x1024 .bf16) (x8 : Vec F S2x64x1 .f32) :
    (k0_pay36 (kernelRun.sl.r_2 c i arg4 harg4 x2) (kernelRun.sl.v269 c arg5 harg5 arg10 harg10 x3 x8)) = qrow (qx (View.readAt (Elt F) arg5.view (Rect.unit (s := S1x2x64x1024) ![0, 0, 0, 0] S1x1x64x1024.size inb_S1x2x64x1024_S1x1x64x1024_0_0_0_0).toLoadRect (harg5.unread x3)) (View.readAt (Elt F) arg10.view (Rect.unit (s := S2x64x1) ![0, 0, 0] S1x64x1.size inb_S2x64x1_S1x64x1_0_0_0).toLoadRect (harg10.unread x8))) (kernelRun.sl.r_2 c i arg4 harg4 x2) := rfl

theorem pay_pl0 (c : Dev nD) (arg8 : Memref sig .tc .vmem S2x64x769 .fp8e4m3) (harg8 : arg8.IsWhole) (x6 : Vec F S2x64x769 .fp8e4m3) :
    (kernelRun.sl.v21 c arg8 harg8 x6) = pcol (View.readAt (Elt F) arg8.view (Rect.unit (s := S2x64x769) ![0, 0, 0] S1x64x1.size inb_S2x64x769_S1x64x1_0_0_0).toLoadRect (harg8.unread x6)) := rfl

theorem pay_pm0 (c : Dev nD) (arg8 : Memref sig .tc .vmem S2x64x769 .fp8e4m3) (harg8 : arg8.IsWhole) (x6 : Vec F S2x64x769 .fp8e4m3) :
    (kernelRun.sl.v26 c arg8 harg8 x6) = pmid (View.readAt (Elt F) arg8.view (Rect.unit (s := S2x64x769) ![0, 0, 0] S1x64x768.size inb_S2x64x769_S1x64x768_0_0_0).toLoadRect (harg8.unread x6)) := rfl

theorem pay_pr0 (c : Dev nD) (arg8 : Memref sig .tc .vmem S2x64x769 .fp8e4m3) (harg8 : arg8.IsWhole) (x6 : Vec F S2x64x769 .fp8e4m3) :
    (kernelRun.sl.v35 c arg8 harg8 x6) = pcol (View.readAt (Elt F) arg8.view (Rect.unit (s := S2x64x769) ![0, 0, 768] S1x64x1.size inb_S2x64x769_S1x64x1_0_0_768).toLoadRect (harg8.unread x6)) := rfl

theorem pay_cod_u1 (c : Dev nD) (arg5 : Memref sig .tc .vmem S1x2x64x1024 .bf16) (harg5 : arg5.IsWhole) (arg9 : Memref sig .tc .vmem S2x64x1 .f32) (harg9 : arg9.IsWhole) (x3 : Vec F S1x2x64x1024 .bf16) (x7 : Vec F S2x64x1 .f32) :
    (k0_pay262 (kernelRun.sl.v1400 c arg5 harg5 arg9 harg9 x3 x7)) = qcodO (qx (View.readAt (Elt F) arg5.view (Rect.unit (s := S1x2x64x1024) ![0, 1, 0, 0] S1x1x64x1024.size inb_S1x2x64x1024_S1x1x64x1024_0_1_0_0).toLoadRect (harg5.unread x3)) (View.readAt (Elt F) arg9.view (Rect.unit (s := S2x64x1) ![1, 0, 0] S1x64x1.size inb_S2x64x1_S1x64x1_1_0_0).toLoadRect (harg9.unread x7))) := rfl

theorem pay_scl_u1 (c : Dev nD) (arg5 : Memref sig .tc .vmem S1x2x64x1024 .bf16) (harg5 : arg5.IsWhole) (arg9 : Memref sig .tc .vmem S2x64x1 .f32) (harg9 : arg9.IsWhole) (x3 : Vec F S1x2x64x1024 .bf16) (x7 : Vec F S2x64x1 .f32) :
    (k0_pay263 (kernelRun.sl.v1393 c arg5 harg5 arg9 harg9 x3 x7)) = qsclO (qx (View.readAt (Elt F) arg5.view (Rect.unit (s := S1x2x64x1024) ![0, 1, 0, 0] S1x1x64x1024.size inb_S1x2x64x1024_S1x1x64x1024_0_1_0_0).toLoadRect (harg5.unread x3)) (View.readAt (Elt F) arg9.view (Rect.unit (s := S2x64x1) ![1, 0, 0] S1x64x1.size inb_S2x64x1_S1x64x1_1_0_0).toLoadRect (harg9.unread x7))) := rfl

theorem pay_codT_u1 (c : Dev nD) (arg5 : Memref sig .tc .vmem S1x2x64x1024 .bf16) (harg5 : arg5.IsWhole) (arg9 : Memref sig .tc .vmem S2x64x1 .f32) (harg9 : arg9.IsWhole) (x3 : Vec F S1x2x64x1024 .bf16) (x7 : Vec F S2x64x1 .f32) :
    (k0_pay264 (kernelRun.sl.v1400 c arg5 harg5 arg9 harg9 x3 x7)) = qcodT (qx (View.readAt (Elt F) arg5.view (Rect.unit (s := S1x2x64x1024) ![0, 1, 0, 0] S1x1x64x1024.size inb_S1x2x64x1024_S1x1x64x1024_0_1_0_0).toLoadRect (harg5.unread x3)) (View.readAt (Elt F) arg9.view (Rect.unit (s := S2x64x1) ![1, 0, 0] S1x64x1.size inb_S2x64x1_S1x64x1_1_0_0).toLoadRect (harg9.unread x7))) := rfl

theorem pay_row_u1 (c : Dev nD) (i : grid0.Coords) (arg2 : Memref sig .tc .smem S2x10 .f32) (harg2 : arg2.IsWhole) (arg5 : Memref sig .tc .vmem S1x2x64x1024 .bf16) (harg5 : arg5.IsWhole) (arg9 : Memref sig .tc .vmem S2x64x1 .f32) (harg9 : arg9.IsWhole) (x0 : Vec F S2x10 .f32) (x3 : Vec F S1x2x64x1024 .bf16) (x7 : Vec F S2x64x1 .f32) :
    (k0_pay265 (kernelRun.sl.r_12 c i arg2 harg2 x0) (kernelRun.sl.v1393 c arg5 harg5 arg9 harg9 x3 x7)) = qrow (qx (View.readAt (Elt F) arg5.view (Rect.unit (s := S1x2x64x1024) ![0, 1, 0, 0] S1x1x64x1024.size inb_S1x2x64x1024_S1x1x64x1024_0_1_0_0).toLoadRect (harg5.unread x3)) (View.readAt (Elt F) arg9.view (Rect.unit (s := S2x64x1) ![1, 0, 0] S1x64x1.size inb_S2x64x1_S1x64x1_1_0_0).toLoadRect (harg9.unread x7))) (kernelRun.sl.r_12 c i arg2 harg2 x0) := rfl

theorem pay_cod_v1 (c : Dev nD) (arg5 : Memref sig .tc .vmem S1x2x64x1024 .bf16) (harg5 : arg5.IsWhole) (arg10 : Memref sig .tc .vmem S2x64x1 .f32) (harg10 : arg10.IsWhole) (x3 : Vec F S1x2x64x1024 .bf16) (x8 : Vec F S2x64x1 .f32) :
    (k0_pay277 (kernelRun.sl.v1525 c arg5 harg5 arg10 harg10 x3 x8) kernelRun.sl.cst_93 kernelRun.sl.v272) = qcodO (qx (View.readAt (Elt F) arg5.view (Rect.unit (s := S1x2x64x1024) ![0, 1, 0, 0] S1x1x64x1024.size inb_S1x2x64x1024_S1x1x64x1024_0_1_0_0).toLoadRect (harg5.unread x3)) (View.readAt (Elt F) arg10.view (Rect.unit (s := S2x64x1) ![1, 0, 0] S1x64x1.size inb_S2x64x1_S1x64x1_1_0_0).toLoadRect (harg10.unread x8))) := rfl

theorem pay_scl_v1 (c : Dev nD) (arg5 : Memref sig .tc .vmem S1x2x64x1024 .bf16) (harg5 : arg5.IsWhole) (arg10 : Memref sig .tc .vmem S2x64x1 .f32) (harg10 : arg10.IsWhole) (x3 : Vec F S1x2x64x1024 .bf16) (x8 : Vec F S2x64x1 .f32) :
    (k0_pay278 (kernelRun.sl.v1523 c arg5 harg5 arg10 harg10 x3 x8)) = qsclO (qx (View.readAt (Elt F) arg5.view (Rect.unit (s := S1x2x64x1024) ![0, 1, 0, 0] S1x1x64x1024.size inb_S1x2x64x1024_S1x1x64x1024_0_1_0_0).toLoadRect (harg5.unread x3)) (View.readAt (Elt F) arg10.view (Rect.unit (s := S2x64x1) ![1, 0, 0] S1x64x1.size inb_S2x64x1_S1x64x1_1_0_0).toLoadRect (harg10.unread x8))) := rfl

theorem pay_codT_v1 (c : Dev nD) (arg5 : Memref sig .tc .vmem S1x2x64x1024 .bf16) (harg5 : arg5.IsWhole) (arg10 : Memref sig .tc .vmem S2x64x1 .f32) (harg10 : arg10.IsWhole) (x3 : Vec F S1x2x64x1024 .bf16) (x8 : Vec F S2x64x1 .f32) :
    (k0_pay279 (kernelRun.sl.v1525 c arg5 harg5 arg10 harg10 x3 x8) kernelRun.sl.cst_93 kernelRun.sl.v272) = qcodT (qx (View.readAt (Elt F) arg5.view (Rect.unit (s := S1x2x64x1024) ![0, 1, 0, 0] S1x1x64x1024.size inb_S1x2x64x1024_S1x1x64x1024_0_1_0_0).toLoadRect (harg5.unread x3)) (View.readAt (Elt F) arg10.view (Rect.unit (s := S2x64x1) ![1, 0, 0] S1x64x1.size inb_S2x64x1_S1x64x1_1_0_0).toLoadRect (harg10.unread x8))) := rfl

theorem pay_row_v1 (c : Dev nD) (i : grid0.Coords) (arg4 : Memref sig .tc .smem S10 .f32) (harg4 : arg4.IsWhole) (arg5 : Memref sig .tc .vmem S1x2x64x1024 .bf16) (harg5 : arg5.IsWhole) (arg10 : Memref sig .tc .vmem S2x64x1 .f32) (harg10 : arg10.IsWhole) (x2 : Vec F S10 .f32) (x3 : Vec F S1x2x64x1024 .bf16) (x8 : Vec F S2x64x1 .f32) :
    (k0_pay280 (kernelRun.sl.r_14 c i arg4 harg4 x2) (kernelRun.sl.v1523 c arg5 harg5 arg10 harg10 x3 x8)) = qrow (qx (View.readAt (Elt F) arg5.view (Rect.unit (s := S1x2x64x1024) ![0, 1, 0, 0] S1x1x64x1024.size inb_S1x2x64x1024_S1x1x64x1024_0_1_0_0).toLoadRect (harg5.unread x3)) (View.readAt (Elt F) arg10.view (Rect.unit (s := S2x64x1) ![1, 0, 0] S1x64x1.size inb_S2x64x1_S1x64x1_1_0_0).toLoadRect (harg10.unread x8))) (kernelRun.sl.r_14 c i arg4 harg4 x2) := rfl

theorem pay_pl1 (c : Dev nD) (arg8 : Memref sig .tc .vmem S2x64x769 .fp8e4m3) (harg8 : arg8.IsWhole) (x6 : Vec F S2x64x769 .fp8e4m3) :
    (kernelRun.sl.v1275 c arg8 harg8 x6) = pcol (View.readAt (Elt F) arg8.view (Rect.unit (s := S2x64x769) ![1, 0, 0] S1x64x1.size inb_S2x64x769_S1x64x1_1_0_0).toLoadRect (harg8.unread x6)) := rfl

theorem pay_pm1 (c : Dev nD) (arg8 : Memref sig .tc .vmem S2x64x769 .fp8e4m3) (harg8 : arg8.IsWhole) (x6 : Vec F S2x64x769 .fp8e4m3) :
    (kernelRun.sl.v1280 c arg8 harg8 x6) = pmid (View.readAt (Elt F) arg8.view (Rect.unit (s := S2x64x769) ![1, 0, 0] S1x64x768.size inb_S2x64x769_S1x64x768_1_0_0).toLoadRect (harg8.unread x6)) := rfl

theorem pay_pr1 (c : Dev nD) (arg8 : Memref sig .tc .vmem S2x64x769 .fp8e4m3) (harg8 : arg8.IsWhole) (x6 : Vec F S2x64x769 .fp8e4m3) :
    (kernelRun.sl.v1289 c arg8 harg8 x6) = pcol (View.readAt (Elt F) arg8.view (Rect.unit (s := S2x64x769) ![1, 0, 768] S1x64x1.size inb_S2x64x769_S1x64x1_1_0_768).toLoadRect (harg8.unread x6)) := rfl

end Cert.KernelIdeal.Val

end
-- ==== Proof.Val.Quant.lean ====
module

public import Idealize.ShloMosaic.PureOps.Ideal.Laws
public import Mathlib.Analysis.SpecialFunctions.Log.Basic
public import Mathlib.Analysis.SpecialFunctions.Pow.Real

@[expose] public section

noncomputable section

namespace Cert.Val

open Idealize.ShloMosaic

/-- What the bit pattern with exponent field `n` and no other bit set denotes. -/
def pw (n : ℕ) : EReal := if n = 0 then 0 else if n = 255 then ⊤ else (((2 : ℝ) ^ ((n : ℤ) - 127) : ℝ) : EReal)

set_option maxRecDepth 100000 in
theorem field_facts (n : ℕ) (h : n < 256) :
    ((BitVec.ofNat 32 n <<< (23#32)).extractLsb' 31 1 == 1#1) = false ∧
    ((BitVec.ofNat 32 n <<< (23#32)).extractLsb' 23 8).toNat = n ∧
    ((BitVec.ofNat 32 n <<< (23#32)).extractLsb' 0 23).toNat = 0 := by
  revert n; decide +kernel

theorem field_real (c : Bool) (hc : c = false) (n : ℕ) :
    (if c = true then (-1 : ℝ) else 1) * ((2 ^ 23 + 0 : ℕ) : ℝ) * (2 : ℝ) ^ ((n : ℤ) - (2 ^ (8 - 1) - 1) - ((23 : ℕ) : ℤ)) =
      (2 : ℝ) ^ ((n : ℤ) - 127) := by
  subst hc
  have h1 : ((2 ^ 23 + 0 : ℕ) : ℝ) = (2 : ℝ) ^ (23 : ℤ) := by norm_num
  have h2 : (n : ℤ) - (2 ^ (8 - 1) - 1) - ((23 : ℕ) : ℤ) = (n : ℤ) - 150 := by omega
  rw [if_neg Bool.false_ne_true, one_mul, h1, h2, ← zpow_add₀ (by norm_num)]
  congr 1; ring

theorem ofBits_pw (n : ℕ) (h : n < 256) : Ideal.ofBits .f32 (BitVec.ofNat 32 n <<< (23#32)) = pw n := by
  obtain ⟨h1, h2, h3⟩ := field_facts n h
  show Ideal.ieee 8 23 _ = _
  unfold Ideal.ieee pw
  simp only [show (8 + 23 : ℕ) = 31 from rfl, h1, h2, h3]
  by_cases h0 : n = 0
  · rw [if_neg (by rw [h0]; norm_num), if_pos h0, if_pos h0, Nat.cast_zero, mul_zero, zero_mul]; rfl
  by_cases h255 : n = 255
  · rw [if_pos (by rw [h255]; norm_num), if_neg h0, if_pos h255]; rfl
  · have hne : ¬ n = 2 ^ 8 - 1 := by norm_num; exact h255
    rw [if_neg hne, if_neg h0, if_neg h0, if_neg h255]
    exact congrArg _ (field_real _ rfl n)

/-- One step of the bisection: `v + k` when the power it names is at most `t`, else `v`. -/
def bstep (t : EReal) (k v : BitVec 32) : BitVec 32 :=
  Scalar.select (Ideal.cmp .oge t (Ideal.ofBits .f32 ((v + k) <<< (23#32)))) (v + k) v

/-- The eight steps. -/
def expo (t : EReal) : BitVec 32 :=
  bstep t 1#32 (bstep t 2#32 (bstep t 4#32 (bstep t 8#32 (bstep t 16#32 (bstep t 32#32 (bstep t 64#32 (bstep t 128#32 0#32)))))))

theorem bstep_inv (t : EReal) (n k : ℕ) (hk : 0 < k) (hn : n + 2 * k ≤ 256) (h1 : pw n ≤ t)
    (h2 : n + 2 * k < 256 → t < pw (n + 2 * k)) :
    ∃ n' : ℕ, bstep t (BitVec.ofNat 32 k) (BitVec.ofNat 32 n) = BitVec.ofNat 32 n' ∧ n' + k ≤ 256 ∧ pw n' ≤ t ∧
      (n' + k < 256 → t < pw (n' + k)) := by
  unfold bstep
  rw [← BitVec.ofNat_add, ofBits_pw _ (by omega)]
  by_cases h : pw (n + k) ≤ t
  · refine ⟨n + k, ?_, by omega, h, fun h' => ?_⟩
    · simp [Ideal.cmp, h, Scalar.select]
    · have := h2 (by omega)
      rwa [show n + k + k = n + 2 * k by ring]
  · refine ⟨n, ?_, by omega, h1, fun h' => not_le.mp h⟩
    · simp [Ideal.cmp, h, Scalar.select]

theorem expo_spec (t : EReal) (h0 : 0 ≤ t) :
    ∃ n : ℕ, expo t = BitVec.ofNat 32 n ∧ n < 256 ∧ pw n ≤ t ∧ (n + 1 < 256 → t < pw (n + 1)) := by
  obtain ⟨n1, e1, a1, b1, c1⟩ := bstep_inv t 0 128 (by omega) (by omega) (by simpa [pw] using h0) (fun h => absurd h (by omega))
  obtain ⟨n2, e2, a2, b2, c2⟩ := bstep_inv t n1 64 (by omega) (by omega) b1 c1
  obtain ⟨n3, e3, a3, b3, c3⟩ := bstep_inv t n2 32 (by omega) (by omega) b2 c2
  obtain ⟨n4, e4, a4, b4, c4⟩ := bstep_inv t n3 16 (by omega) (by omega) b3 c3
  obtain ⟨n5, e5, a5, b5, c5⟩ := bstep_inv t n4 8 (by omega) (by omega) b4 c4
  obtain ⟨n6, e6, a6, b6, c6⟩ := bstep_inv t n5 4 (by omega) (by omega) b5 c5
  obtain ⟨n7, e7, a7, b7, c7⟩ := bstep_inv t n6 2 (by omega) (by omega) b6 c6
  obtain ⟨n8, e8, a8, b8, c8⟩ := bstep_inv t n7 1 (by omega) (by omega) b7 c7
  refine ⟨n8, ?_, by omega, b8, c8⟩
  unfold expo
  rw [show (0#32) = BitVec.ofNat 32 0 from rfl, e1, e2, e3, e4, e5, e6, e7, e8]

/-- The exponent the kernel takes from the field. -/
def kexp (v : BitVec 32) : BitVec 32 :=
  Scalar.select (Scalar.ori (Scalar.cmpi .eq v 0#32) (Scalar.cmpi .eq v 255#32)) 0#32 (v - 126#32)

/-- The exponent as the reference has it: zero below the least normal number, else one more than the floor of the base-two
    logarithm. -/
def rexp (t : EReal) : EReal :=
  Scalar.select (Ideal.cmp .olt t (((2 : ℝ) ^ (-126 : ℤ) : ℝ) : EReal)) (0 : EReal)
    (Ideal.liftRound Int.floor (Ideal.div (Ideal.log t) (Ideal.log ((2 : ℝ) : EReal))) + 1)

theorem floor_log (r : ℝ) (z : ℤ) (h1 : (2 : ℝ) ^ z ≤ r) (h2 : r < (2 : ℝ) ^ (z + 1)) :
    ⌊Real.log r / Real.log 2⌋ = z := by
  have hl : 0 < Real.log 2 := Real.log_pos (by norm_num)
  have hp : (0 : ℝ) < (2 : ℝ) ^ z := by positivity
  have hr : 0 < r := lt_of_lt_of_le hp h1
  rw [Int.floor_eq_iff]
  constructor
  · rw [le_div_iff₀ hl]
    have := Real.log_le_log hp h1
    rwa [Real.log_zpow] at this
  · rw [div_lt_iff₀ hl]
    have := Real.log_lt_log hr h2
    rw [Real.log_zpow] at this
    exact_mod_cast this

theorem kexp_bits (n : ℕ) (h : n < 253) :
    127#32 + kexp (BitVec.ofNat 32 n) = BitVec.ofNat 32 (if n = 0 then 127 else n + 1) ∧
    127#32 - kexp (BitVec.ofNat 32 n) = BitVec.ofNat 32 (if n = 0 then 127 else 253 - n) := by
  revert n; decide +kernel

/-- The kernel's scale is the power of two of the reference's exponent, and its inverse the power of the negated one. -/
theorem quant_scale (t : ℝ) (h0 : 0 ≤ t) (h1 : t < (2 : ℝ) ^ (125 : ℤ)) :
    Ideal.ofBits .f32 ((127#32 + kexp (expo (t : EReal))) <<< (23#32)) = Ideal.exp2 (rexp (t : EReal)) ∧
    Ideal.ofBits .f32 ((127#32 - kexp (expo (t : EReal))) <<< (23#32)) = Ideal.exp2 (-(rexp (t : EReal))) := by
  obtain ⟨n, he, hn, hle, hlt⟩ := expo_spec (t : EReal) (by exact_mod_cast h0)
  have hn252 : n < 252 := by
    by_contra hc
    have : pw n ≤ ((2 : ℝ) ^ (125 : ℤ) : ℝ) := le_trans hle (by exact_mod_cast h1.le)
    unfold pw at this
    rw [if_neg (by omega)] at this
    by_cases h255 : n = 255
    · rw [if_pos h255] at this; exact absurd this (not_le.mpr (EReal.coe_lt_top _))
    · rw [if_neg h255] at this
      have h3 : ((2 : ℝ) ^ ((n : ℤ) - 127)) ≤ t := by
        have := hle; unfold pw at this; rw [if_neg (by omega), if_neg h255] at this; exact_mod_cast this
      have h4 : (2 : ℝ) ^ (125 : ℤ) ≤ (2 : ℝ) ^ ((n : ℤ) - 127) := zpow_le_zpow_right₀ (by norm_num) (by omega)
      linarith
  obtain ⟨hb1, hb2⟩ := kexp_bits n (by omega)
  rw [he, hb1, hb2, ofBits_pw _ (by split <;> omega), ofBits_pw _ (by split <;> omega)]
  have hlt' := hlt (by omega)
  have key : rexp (t : EReal) = (((if n = 0 then 0 else (n : ℤ) - 126 : ℤ) : ℝ) : EReal) := by
    unfold rexp
    by_cases hz : n = 0
    · subst hz
      have : t < (2 : ℝ) ^ (-126 : ℤ) := by
        unfold pw at hlt'; simp only [zero_add, one_ne_zero, if_false] at hlt'
        rw [if_neg (by norm_num)] at hlt'; exact_mod_cast hlt'
      have h' : ((t : EReal) < (((2 : ℝ) ^ (-126 : ℤ) : ℝ) : EReal)) := by exact_mod_cast this
      rw [show Ideal.cmp .olt (t : EReal) (((2 : ℝ) ^ (-126 : ℤ) : ℝ) : EReal) = 1#1 from by
        show BitVec.ofBool (decide _) = _; rw [decide_eq_true h']; rfl]
      simp [Scalar.select]
    · have hA : ((2 : ℝ) ^ ((n : ℤ) - 127)) ≤ t := by
        have := hle; unfold pw at this; rw [if_neg hz, if_neg (by omega)] at this; exact_mod_cast this
      have hB : t < (2 : ℝ) ^ ((n : ℤ) - 127 + 1) := by
        unfold pw at hlt'; rw [if_neg (by omega), if_neg (by omega)] at hlt'
        have : t < (2 : ℝ) ^ (((n + 1 : ℕ) : ℤ) - 127) := by exact_mod_cast hlt'
        rwa [show (((n + 1 : ℕ) : ℤ) - 127) = (n : ℤ) - 127 + 1 by push_cast; ring] at this
      have hC : (2 : ℝ) ^ (-126 : ℤ) ≤ t := le_trans (zpow_le_zpow_right₀ (by norm_num) (by omega)) hA
      have hpos : 0 < t := lt_of_lt_of_le (by positivity) hC
      have h' : ¬ ((t : EReal) < (((2 : ℝ) ^ (-126 : ℤ) : ℝ) : EReal)) := by
        rw [not_lt]; exact_mod_cast hC
      rw [show Ideal.cmp .olt (t : EReal) (((2 : ℝ) ^ (-126 : ℤ) : ℝ) : EReal) = 0#1 from by
        show BitVec.ofBool (decide _) = _; rw [decide_eq_false h']; rfl]
      have hl : Real.log 2 ≠ 0 := (Real.log_pos (by norm_num)).ne'
      have e1 : Ideal.log (t : EReal) = (Real.log t : EReal) := by
        show (if t ≤ 0 then (⊥ : EReal) else _) = _
        rw [if_neg (not_le.mpr hpos)]
      have e2 : Ideal.log ((2 : ℝ) : EReal) = (Real.log 2 : EReal) := by
        show (if (2 : ℝ) ≤ 0 then (⊥ : EReal) else _) = _
        rw [if_neg (by norm_num)]
      have e3 : Ideal.div (Real.log t : EReal) (Real.log 2 : EReal) = ((Real.log t / Real.log 2 : ℝ) : EReal) := by
        unfold Ideal.div
        rw [if_neg (by exact_mod_cast hl), div_eq_mul_inv]; rfl
      rw [e1, e2, e3]
      show Scalar.select 0#1 (0 : EReal) ((((⌊Real.log t / Real.log 2⌋ : ℤ) : ℝ) : EReal) + 1) = _
      rw [floor_log t _ hA hB, if_neg hz]
      show ((((((n : ℤ) - 127 : ℤ)) : ℝ) : EReal) + ((1 : ℝ) : EReal)) = _
      rw [← EReal.coe_add]
      congr 1; push_cast; ring
  rw [key]
  have ex : ∀ z : ℤ, Ideal.exp2 (((z : ℝ)) : EReal) = (((2 : ℝ) ^ z : ℝ) : EReal) := fun z => by
    show ((Real.rpow 2 z : ℝ) : EReal) = _
    congr 1; exact Real.rpow_intCast 2 z
  rw [show (-((((if n = 0 then 0 else (n : ℤ) - 126 : ℤ)) : ℝ) : EReal)) = (((-(if n = 0 then 0 else (n : ℤ) - 126) : ℤ) : ℝ) : EReal) by push_cast; rfl,
    ex, ex]
  unfold pw
  by_cases hz : n = 0
  · subst hz; simp
  · simp only [if_neg hz]
    constructor
    · rw [if_neg (by omega), if_neg (by omega)]
      congr 2; push_cast; ring
    · rw [if_neg (by omega), if_neg (by omega)]
      congr 2
      rw [Nat.cast_sub (by omega)]; push_cast; ring

end Cert.Val

end
-- ==== Proof.Val.Idx.lean ====
module

public import proofs.«01_k».proof.Proof.Val.QPay
public import proofs.«01_k».proof.Proof.Val.Quant
public import Idealize.ShloMosaic.Lib.MatmulPlain

@[expose] public section

set_option maxRecDepth 16384

noncomputable section

namespace Cert.KernelIdeal.Val

open Idealize.ShloMosaic Idealize.ShloMosaic.TcCoe Idealize.ShloMosaic.ValueIdx Cert.KernelIdeal.Gen Cert.Val

/-! ## The quantiser at an index -/

theorem qx_apply (q : Vec Ideal S1x1x64x1024 .bf16) (b : Vec Ideal S1x64x1 .f32) (d : Fin 64) (j : Fin 1024) :
    qx q b (ix2 d j) = (q (ix4 (0 : Fin 1) (0 : Fin 1) d j) + b (ix3 (0 : Fin 1) d (0 : Fin 1)) : EReal) := by
  unfold qx
  rw [addf_apply, broadcastTo_apply _ _ _ (ix2 d (0 : Fin 1))]
  · refine congrArg₂ (fun x y : EReal => x + y) ?_ ?_
    · exact shapeCast_apply q _ _ _ (by rw [Shape.rowMajor_val_four, Shape.rowMajor_val_two]; simp [ix4, ix2])
    · exact shapeCast_apply b _ _ _ (by rw [Shape.rowMajor_val_three, Shape.rowMajor_val_two]; simp [ix3, ix2])
  · intro a
    match a with
    | ⟨0, _⟩ => rfl
    | ⟨1, _⟩ => rfl

/-- The greatest magnitude over 448 of a family of 64. -/
def tq (f : Fin 64 → EReal) : EReal :=
  (Finset.univ : Finset (Fin 64)).fold max (Ideal.ofBits .f32 0xFF800000#32) (fun d => (FloatOps.absf (F := Ideal) (φ := .f32) (f d) : EReal)) * Ideal.ofBits .f32 0x3B124925#32

theorem qt_apply (x : FVec Ideal S64x1024 .f32) (j : Fin 1024) : qt x (ix2 (0 : Fin 1) j) = tq fun d => x (ix2 d j) := by
  unfold qt tq
  rw [mulf_apply]
  refine congrArg₂ (fun x y : EReal => x * y) ?_ rfl
  rw [shapeCast_apply _ _ _ (ix1 j) (by rw [Shape.rowMajor_val_one, Shape.rowMajor_val_two]; simp [ix1, ix2])]
  refine (Ideal.multiReduction_maximumf_single (absf x) _ reduces_S64x1024_S1024 _ _ (ix1 j)).trans ?_
  refine congrArg (Finset.fold max (Ideal.ofBits .f32 0xFF800000#32) · _) (funext fun d => ?_)
  refine congrArg (fun y => (FloatOps.absf (F := Ideal) (φ := .f32) (x y) : EReal)) (funext fun a => ?_)
  match a with
  | ⟨0, _⟩ => rfl
  | ⟨1, _⟩ => rfl

/-- The scale of a family of 64. -/
def scl (f : Fin 64 → EReal) : EReal := Ideal.ofBits .f32 ((127#32 + kexp (expo (tq f))) <<< (23#32))
/-- Its inverse. -/
def inv (f : Fin 64 → EReal) : EReal := Ideal.ofBits .f32 ((127#32 - kexp (expo (tq f))) <<< (23#32))
/-- One code. -/
def cod (f : Fin 64 → EReal) (d : Fin 64) : EReal :=
  min (Ideal.ofBits .f32 0x43E00000#32) (max (Ideal.ofBits .f32 0xC3E00000#32) (f d * inv f))

theorem qstep_apply (t : FVec Ideal S1x1024 .f32) (k : BitVec 32) (v : IVec S1x1024 32) (i : S1x1024.Idx) :
    qstep t k v i = bstep (t i) k (v i) := rfl

theorem qe_apply (t : FVec Ideal S1x1024 .f32) (i : S1x1024.Idx) : qe t i = expo (t i) := by
  unfold qe expo
  rw [qstep_apply, qstep_apply, qstep_apply, qstep_apply, qstep_apply, qstep_apply, qstep_apply, qstep_apply]
  rfl

theorem qk_apply (e : IVec S1x1024 32) (i : S1x1024.Idx) : qk e i = kexp (e i) := rfl

theorem shl_apply (v : IVec S1x1024 32) (i : S1x1024.Idx) :
    (bitcastToFloat .f32 (shli v (broadcast S1x1024 23#32)) : FVec Ideal S1x1024 .f32) i = Ideal.ofBits .f32 (v i <<< (23#32)) := rfl

theorem qscl_apply (x : FVec Ideal S64x1024 .f32) (j : Fin 1024) : qscl x (ix2 (0 : Fin 1) j) = scl fun d => x (ix2 d j) := by
  unfold scl qscl
  rw [← qt_apply, shl_apply, ← qe_apply, ← qk_apply]; rfl

theorem qinv_apply (x : FVec Ideal S64x1024 .f32) (j : Fin 1024) : qinv x (ix2 (0 : Fin 1) j) = inv fun d => x (ix2 d j) := by
  unfold inv qinv
  rw [← qt_apply, shl_apply, ← qe_apply, ← qk_apply]; rfl

theorem qcod_apply (x : FVec Ideal S64x1024 .f32) (d : Fin 64) (j : Fin 1024) : qcod x (ix2 d j) = cod (fun d => x (ix2 d j)) d := by
  unfold cod; rw [← qinv_apply]
  refine congrArg (fun y : EReal => min (Ideal.ofBits .f32 0x43E00000#32) (max (Ideal.ofBits .f32 0xC3E00000#32) (x (ix2 d j) * y))) ?_
  refine broadcastTo_apply _ _ _ _ fun a => ?_
  match a with
  | ⟨0, _⟩ => rfl
  | ⟨1, _⟩ => rfl

theorem qcodO_apply (x : FVec Ideal S64x1024 .f32) (d : Fin 64) (j : Fin 1024) :
    qcodO x (ix4 (0 : Fin 1) (0 : Fin 1) d j) = cod (fun d => x (ix2 d j)) d := by
  rw [← qcod_apply]
  exact shapeCast_apply _ _ _ _ (by rw [Shape.rowMajor_val_four, Shape.rowMajor_val_two]; simp [ix4, ix2])

theorem qsclO_apply (x : FVec Ideal S64x1024 .f32) (j : Fin 1024) :
    qsclO x (ix3 (0 : Fin 1) (0 : Fin 1) j) = scl (fun d => x (ix2 d j)) := by
  rw [← qscl_apply]
  exact shapeCast_apply _ _ _ _ (by rw [Shape.rowMajor_val_three, Shape.rowMajor_val_two]; simp [ix3, ix2])

theorem qcodT_apply (x : FVec Ideal S64x1024 .f32) (i : Fin 1024) (d : Fin 64) :
    qcodT x (ix2 i d) = cod (fun d => x (ix2 d i)) d := by
  rw [← qcod_apply]
  unfold qcodT
  rw [shapeCast_apply _ _ _ (ix2 i d) rfl]
  rw [truncf_apply]
  refine (transpose_apply _ _ transposes_S64x1024_p1_0_S1024x64 (ix2 i d) (ix2 d i) fun b => ?_).trans rfl
  match b with
  | ⟨0, _⟩ => rfl
  | ⟨1, _⟩ => rfl

theorem qrow_apply (x : FVec Ideal S64x1024 .f32) (a : Ideal .f32) (i : Fin 1024) (j : Fin 128) :
    qrow x a (ix2 i j) = scl (fun d => x (ix2 d i)) * ((a : EReal) * (((1 / 8) * (Real.log 2)⁻¹ : ℝ) : EReal)) := by
  rw [← qscl_apply]
  unfold qrow
  rw [shapeCast_apply _ _ _ (ix2 i j) rfl, transpose_apply _ _ transposes_S128x1024_p1_0_S1024x128 (ix2 i j) (ix2 j i) (fun b => by
    match b with
    | ⟨0, _⟩ => rfl
    | ⟨1, _⟩ => rfl), broadcastTo_apply _ _ _ (ix2 (0 : Fin 1) i) (fun a => by
    match a with
    | ⟨0, _⟩ => rfl
    | ⟨1, _⟩ => rfl), shapeCast_apply _ _ _ (ix2 (0 : Fin 1) i) rfl, mulf_apply, broadcast_apply]
  rw [IdealRules.named_const.ideal_named_scalar _ _ _ _ rfl]
  rfl

theorem pcol_apply (p : Vec Ideal S1x64x1 .fp8e4m3) (d : Fin 64) (j : Fin 128) : pcol p (ix2 d j) = p (ix3 (0 : Fin 1) d (0 : Fin 1)) := by
  unfold pcol
  rw [shapeCast_apply _ _ _ (ix2 d j) rfl]
  rw [truncf_apply]
  rw [broadcastTo_apply _ _ _ (ix2 d (0 : Fin 1)) (fun a => by
    match a with
    | ⟨0, _⟩ => rfl
    | ⟨1, _⟩ => rfl), shapeCast_apply _ _ _ (ix2 d (0 : Fin 1)) rfl]
  exact shapeCast_apply p _ _ _ (by rw [Shape.rowMajor_val_three, Shape.rowMajor_val_two]; simp [ix3, ix2])

theorem pmid_apply (p : Vec Ideal S1x64x768 .fp8e4m3) (d : Fin 64) (j : Fin 768) : pmid p (ix2 d j) = p (ix3 (0 : Fin 1) d j) := by
  unfold pmid
  rw [shapeCast_apply _ _ _ (ix2 d j) rfl]
  exact shapeCast_apply p _ _ _ (by rw [Shape.rowMajor_val_three, Shape.rowMajor_val_two]; simp [ix3, ix2])

theorem dots_apply (l : Vec Ideal S128x64 .fp8e4m3) (r : FVec Ideal S64x1024 .fp8e4m3) (i : Fin 128) (j : Fin 1024) :
    dots l r (ix2 i j) = ∑ k : Fin 64, (l (ix2 i k) : EReal) * r (ix2 k j) := by
  have h := Ideal.matmul_plain_apply (M := 128) (K := 64) (N := 1024) (φ₁ := .fp8e4m3) (φ₂ := .fp8e4m3) none l r (constant S128x1024 .f32 0x00000000#32) i j
  rw [show (constant S128x1024 .f32 0x00000000#32 : FVec Ideal S128x1024 .f32) (ix2 i j) = (0 : EReal) from Ideal.ofBits_zero_f32, zero_add] at h
  exact h

end Cert.KernelIdeal.Val

end
-- ==== Proof.Val.Att.lean ====
module

public import proofs.«01_k».proof.Proof.Val.Idx

@[expose] public section

set_option maxRecDepth 16384

noncomputable section

namespace Cert.Val

open Idealize.ShloMosaic Idealize.ShloMosaic.ValueIdx

theorem ninf : Ideal.ofBits .f32 0xFF800000#32 = (⊥ : EReal) := by
  simp [Ideal.ofBits, Ideal.ieee]

theorem fold_isMax {n : ℕ} (hn : 0 < n) (f : Fin n → EReal) : IsMax f ((Finset.univ : Finset (Fin n)).fold max ⊥ f) := by
  have h1 : ∀ j, f j ≤ (Finset.univ : Finset (Fin n)).fold max ⊥ f := fun j =>
    (Finset.le_fold_max _).2 (Or.inr ⟨j, Finset.mem_univ _, le_refl _⟩)
  refine ⟨h1, ?_⟩
  rcases (Finset.le_fold_max (s := (Finset.univ : Finset (Fin n))) (f := f) (b := ⊥) _).1 (le_refl _) with h | ⟨x, _, h⟩
  · exact ⟨⟨0, hn⟩, le_antisymm (h1 _) (h.trans bot_le)⟩
  · exact ⟨x, le_antisymm (h1 _) h⟩

/-- A sum over 1024 columns, in eight tiles of 128. -/
theorem sum1024 (f : Fin 8 → Fin 128 → EReal) :
    ∑ J : Fin 1024, f ⟨J.val / 128, by omega⟩ ⟨J.val % 128, by omega⟩ =
      ∑ j : Fin 128, (f 0 j + f 1 j + f 2 j + f 3 j + f 4 j + f 5 j + f 6 j + f 7 j) := by
  rw [← Equiv.sum_comp (finProdFinEquiv (m := 8) (n := 128)) (fun J : Fin 1024 => f ⟨J.val / 128, by omega⟩ ⟨J.val % 128, by omega⟩),
    Fintype.sum_prod_type_right]
  refine Finset.sum_congr rfl fun j _ => ?_
  rw [← Fin.sum_univ_eight (f := fun c => f c j)]
  refine Finset.sum_congr rfl fun c _ => ?_
  congr 1
  · refine Fin.ext ?_
    show (j.val + 128 * c.val) / 128 = c.val
    omega
  · refine Fin.ext ?_
    show (j.val + 128 * c.val) % 128 = j.val
    omega

end Cert.Val

namespace Cert.KernelIdeal.Val

open Idealize.ShloMosaic Idealize.ShloMosaic.TcCoe Idealize.ShloMosaic.ValueIdx Cert.KernelIdeal.Gen Cert.Val

/-- A row of eight tiles, as a family of 1024. -/
def rowOf (x : Fin 8 → FVec Ideal S128x128 .f32) (i : Fin 128) (J : Fin 1024) : EReal :=
  x ⟨J.val / 128, by omega⟩ (ix2 i ⟨J.val % 128, by omega⟩)

theorem mx8_isMax (x : Fin 8 → FVec Ideal S128x128 .f32) (i : Fin 128) : IsMax (rowOf x i) (mx8 x (ix2 i (0 : Fin 1))) := by
  let g : Fin 128 → EReal := fun j => max (max (max (max (max (max (max (x 0 (ix2 i j)) (x 1 (ix2 i j))) (x 2 (ix2 i j))) (x 3 (ix2 i j))) (x 4 (ix2 i j))) (x 5 (ix2 i j))) (x 6 (ix2 i j))) (x 7 (ix2 i j))
  have e : mx8 x (ix2 i (0 : Fin 1)) = (Finset.univ : Finset (Fin 128)).fold max ⊥ g := by
    unfold mx8
    rw [shapeCast_apply _ _ _ (ix1 i) (by rw [Shape.rowMajor_val_one, Shape.rowMajor_val_two]; simp [ix1, ix2])]
    refine (Ideal.multiReduction_maximumf_single _ _ reduces_S128x128_S128 _ _ (ix1 i)).trans ?_
    rw [show (FloatOps.ofBits .f32 0xFF800000#32 : Ideal .f32) = (⊥ : EReal) from ninf]
    refine congrArg (Finset.fold max ⊥ · _) (funext fun j => ?_)
    have : reduces_S128x128_S128.lift (ix1 i) j = ix2 i j := by
      funext a
      match a with
      | ⟨0, _⟩ => rfl
      | ⟨1, _⟩ => rfl
    rw [Function.comp_apply, this]
    rfl
  rw [e]
  have hg := fold_isMax (by decide) g
  constructor
  · intro J
    refine le_trans ?_ (hg.1 ⟨J.val % 128, by omega⟩)
    unfold rowOf
    generalize hc : (⟨J.val / 128, by omega⟩ : Fin 8) = c
    match c with
    | 0 => simp [g]
    | 1 => simp [g]
    | 2 => simp [g]
    | 3 => simp [g]
    | 4 => simp [g]
    | 5 => simp [g]
    | 6 => simp [g]
    | 7 => simp [g]
  · obtain ⟨j, hj⟩ := hg.2
    have : ∃ c : Fin 8, x c (ix2 i j) = g j := by
      simp only [g]
      rcases max_choice (max (max (max (max (max (max (x 0 (ix2 i j)) (x 1 (ix2 i j))) (x 2 (ix2 i j))) (x 3 (ix2 i j))) (x 4 (ix2 i j))) (x 5 (ix2 i j))) (x 6 (ix2 i j)) : EReal) (x 7 (ix2 i j)) with h | h
      swap; · exact ⟨7, h.symm⟩
      rw [h]
      rcases max_choice (max (max (max (max (max (x 0 (ix2 i j)) (x 1 (ix2 i j))) (x 2 (ix2 i j))) (x 3 (ix2 i j))) (x 4 (ix2 i j))) (x 5 (ix2 i j)) : EReal) (x 6 (ix2 i j)) with h | h
      swap; · exact ⟨6, h.symm⟩
      rw [h]
      rcases max_choice (max (max (max (max (x 0 (ix2 i j)) (x 1 (ix2 i j))) (x 2 (ix2 i j))) (x 3 (ix2 i j))) (x 4 (ix2 i j)) : EReal) (x 5 (ix2 i j)) with h | h
      swap; · exact ⟨5, h.symm⟩
      rw [h]
      rcases max_choice (max (max (max (x 0 (ix2 i j)) (x 1 (ix2 i j))) (x 2 (ix2 i j))) (x 3 (ix2 i j)) : EReal) (x 4 (ix2 i j)) with h | h
      swap; · exact ⟨4, h.symm⟩
      rw [h]
      rcases max_choice (max (max (x 0 (ix2 i j)) (x 1 (ix2 i j))) (x 2 (ix2 i j)) : EReal) (x 3 (ix2 i j)) with h | h
      swap; · exact ⟨3, h.symm⟩
      rw [h]
      rcases max_choice (max (x 0 (ix2 i j)) (x 1 (ix2 i j)) : EReal) (x 2 (ix2 i j)) with h | h
      swap; · exact ⟨2, h.symm⟩
      rw [h]
      rcases max_choice (x 0 (ix2 i j) : EReal) (x 1 (ix2 i j)) with h | h
      swap; · exact ⟨1, h.symm⟩
      exact ⟨0, h.symm⟩
    obtain ⟨c, hc⟩ := this
    refine ⟨⟨128 * c.val + j.val, by omega⟩, ?_⟩
    rw [← hj, ← hc]
    unfold rowOf
    have h1 : (128 * c.val + j.val) / 128 = c.val := by omega
    have h2 : (128 * c.val + j.val) % 128 = j.val := by omega
    simp only [h1, h2]

theorem ex_apply (m : FVec Ideal S128x1 .f32) (x : FVec Ideal S128x128 .f32) (i j : Fin 128) :
    ex m x (ix2 i j) = Ideal.exp2 ((x (ix2 i j) : EReal) - m (ix2 i (0 : Fin 1))) := by
  unfold ex
  refine congrArg (fun y : EReal => Ideal.exp2 ((x (ix2 i j) : EReal) - y)) ?_
  refine broadcastTo_apply _ _ _ _ fun a => ?_
  match a with
  | ⟨0, _⟩ => rfl
  | ⟨1, _⟩ => rfl

theorem sm8_apply (e : Fin 8 → FVec Ideal S128x128 .f32) (i : Fin 128) :
    sm8 e (ix2 i (0 : Fin 1)) = ∑ J : Fin 1024, rowOf e i J := by
  unfold sm8
  rw [shapeCast_apply _ _ _ (ix1 i) (by rw [Shape.rowMajor_val_one, Shape.rowMajor_val_two]; simp [ix1, ix2])]
  refine (Ideal.multiReduction_add_single _ _ reduces_S128x128_S128 _ _ (ix1 i)).trans ?_
  unfold rowOf
  rw [sum1024 (fun c j => e c (ix2 i j))]
  refine Finset.sum_congr rfl fun j _ => ?_
  have : reduces_S128x128_S128.lift (ix1 i) j = ix2 i j := by
    funext a
    match a with
    | ⟨0, _⟩ => rfl
    | ⟨1, _⟩ => rfl
  rw [this]
  rfl

/-- The eight tiles side by side. -/
theorem cat8_apply (e : Fin 8 → FVec Ideal S128x128 .bf16) (h) (i : Fin 128) (J : Fin 1024) :
    concatenate S128x1024 1 [⟨S128x128, e 0⟩, ⟨S128x128, e 1⟩, ⟨S128x128, e 2⟩, ⟨S128x128, e 3⟩, ⟨S128x128, e 4⟩, ⟨S128x128, e 5⟩,
      ⟨S128x128, e 6⟩, ⟨S128x128, e 7⟩] h (ix2 i J) = rowOf e i J :=
  concatenate_ofFn_apply (t := S128x1024) (s₁ := S128x128) 1 (N := 8) e h rfl 128 rfl (ix2 i J) ⟨J.val / 128, by omega⟩ rfl
    (ix2 i ⟨J.val % 128, by omega⟩) rfl (fun b hb => by
      match b with
      | ⟨0, _⟩ => rfl
      | ⟨1, _⟩ => exact absurd rfl hb)

theorem att_apply (x : Fin 8 → FVec Ideal S128x128 .f32) (v : Vec Ideal S1x1x64x1024 .fp8e4m3) (vs : Ideal .f32) (i : Fin 128) (d : Fin 64) :
    att x v vs (ix3 (0 : Fin 1) i d) =
      (∑ J : Fin 1024, Ideal.exp2 (rowOf x i J - mx8 x (ix2 i (0 : Fin 1))) * (v (ix4 (0 : Fin 1) (0 : Fin 1) d J) : EReal)) *
        Ideal.div vs (∑ J : Fin 1024, Ideal.exp2 (rowOf x i J - mx8 x (ix2 i (0 : Fin 1)))) := by
  have hr : ∀ J, rowOf (fun c => ex (mx8 x) (x c)) i J = Ideal.exp2 (rowOf x i J - mx8 x (ix2 i (0 : Fin 1))) := fun J => by
    unfold rowOf; exact ex_apply _ _ _ _
  unfold att fin8
  rw [shapeCast_apply _ _ _ (ix2 i d) (by rw [Shape.rowMajor_val_three, Shape.rowMajor_val_two]; simp [ix3, ix2]), truncf_apply, mulf_apply]
  refine congrArg₂ (fun x y : EReal => x * y) ?_ ?_
  · refine (Ideal.matmul_transposedRhs_apply (M := 128) (K := 1024) (N := 64) (φ₁ := .bf16) (φ₂ := .bf16) none _ _ _ i d).trans ?_
    rw [show (constant S128x64 .f32 0x00000000#32 : FVec Ideal S128x64 .f32) (ix2 i d) = (0 : EReal) from Ideal.ofBits_zero_f32, zero_add]
    refine Finset.sum_congr rfl fun J _ => ?_
    rw [← hr]
    refine congrArg₂ (fun x y : EReal => x * y) ?_ ?_
    · exact cat8_apply (fun c => truncf .bf16 (ex (mx8 x) (x c)) bitsLt_bf16_f32) _ i J
    · rw [extf_apply]
      exact shapeCast_apply v _ _ _ (by rw [Shape.rowMajor_val_four, Shape.rowMajor_val_two]; simp [ix4, ix2])
  · rw [broadcastTo_apply _ _ _ (ix2 i (0 : Fin 1)) (fun a => by
      match a with
      | ⟨0, _⟩ => rfl
      | ⟨1, _⟩ => rfl)]
    show Ideal.div vs (sm8 (F := Ideal) (fun c => ex (mx8 x) (x c)) (ix2 i (0 : Fin 1)) : EReal) = _
    rw [sm8_apply]
    exact congrArg (Ideal.div vs) (Finset.sum_congr rfl fun J _ => hr J)

end Cert.KernelIdeal.Val

end
-- ==== Proof.Val.Core.lean ====
module

public import proofs.«01_k».proof.Proof.Val.Att
public import Idealize.ShloMosaic.Lib.Pipeline.ValueKit.Basic
public import Idealize.ShloMosaic.Lib.Pipeline.ValueKit.Tiles

@[expose] public section

set_option maxRecDepth 16384

noncomputable section

namespace Cert.KernelIdeal.Val

open Idealize.ShloMosaic Idealize.ShloMosaic.TcCoe Idealize.ShloMosaic.ValueIdx Cert.KernelIdeal.Gen Cert.Val

/-- The reference's scores of one row. -/
def yrow (fu fv : Fin 64 → EReal) (K : Fin 64 → Fin 1024 → EReal) (P : Fin 64 → ℕ → EReal) (ks ps : EReal) (I : ℕ) (J : Fin 1024) : EReal :=
  ((∑ k, cod fu k * K k J) * (scl fu * ks) + (∑ k, cod fv k * P k (rr I J.val)) * (scl fv * ps)) * ((1 / 8 : ℝ) : EReal)

/-- The greatest of a row. -/
def rmax (Y : Fin 1024 → EReal) : EReal := (Finset.univ : Finset (Fin 1024)).fold max ⊥ Y

/-- The sum of a row's exponentials. -/
def rsum (Y : Fin 1024 → EReal) : EReal := ∑ J, Ideal.exp (Y J - rmax Y)

/-- The reference's softmax of a row of scores, applied to values and scaled. -/
def outv (Y V : Fin 1024 → EReal) (vs : EReal) : EReal :=
  (∑ J, Scalar.select (Ideal.cmp .oeq (rsum Y) 0) (0 : EReal) (Ideal.div (Ideal.exp (Y J - rmax Y)) (rsum Y)) * V J) * vs

theorem piece_eq (b : ℕ) (x : Fin 8 → FVec Ideal S128x128 .f32) (ac : FVec Ideal S128x1024 .f32) (sa : FVec Ideal S128x128 .f32)
    (P : Fin 128 → ℕ → EReal) (s : Fin 128 → EReal) (hx : TileSpec b x ac sa P s)
    (v : Vec Ideal S1x1x64x1024 .fp8e4m3) (vs : Ideal .f32) (i : Fin 128) (d : Fin 64)
    (fu fv : Fin 64 → EReal) (K : Fin 64 → Fin 1024 → EReal) (Pt : Fin 64 → ℕ → EReal) (ks ps : EReal)
    (hac : ∀ J : Fin 1024, ac (ix2 i J) = ∑ k, cod fu k * K k J) (hP : ∀ r, P i r = ∑ k, cod fv k * Pt k r)
    (hsa : ∀ j : Fin 128, sa (ix2 i j) = scl fu * (ks * (((1 / 8) * (Real.log 2)⁻¹ : ℝ) : EReal)))
    (hs : s i = scl fv * (ps * (((1 / 8) * (Real.log 2)⁻¹ : ℝ) : EReal))) :
    att x v vs (ix3 (0 : Fin 1) i d) =
      outv (yrow fu fv K Pt ks ps (128 * b + i)) (fun J => v (ix4 (0 : Fin 1) (0 : Fin 1) d J)) vs := by
  rw [att_apply]
  refine row_eq (rowOf x i) (yrow fu fv K Pt ks ps (128 * b + i)) _ (fun J => ?_) _ _ _ _ (mx8_isMax x i)
    (fold_isMax (by decide) _) rfl rfl vs
  unfold rowOf yrow
  rw [hx, hsa, hs]
  have hJ : (128 * (J.val / 128) + J.val % 128) = J.val := Nat.div_add_mod _ _
  have hJ' : (⟨128 * (J.val / 128) + J.val % 128, by omega⟩ : Fin 1024) = J := Fin.ext hJ
  simp only [hJ]
  rw [hac, hP, mul_assoc _ (((1 / 8 : ℝ)) : EReal) _, ← EReal.coe_mul, add_mul_real _ _ _ (mul_nonneg (by norm_num) L2_pos.le)]
  show _ = _ * (((1 / 8) * (Real.log 2)⁻¹ : ℝ) : EReal) + _ * (((1 / 8) * (Real.log 2)⁻¹ : ℝ) : EReal)
  rw [mul_assoc, mul_assoc, mul_assoc, mul_assoc]

/-! ## Reads of the scratch buffers and of the blocks -/

section Reads
variable {sig : RefSig} {κ : Kind} {sp : Space}

theorem rows64 (v : View sig κ sp S1024x64 .fp8e4m3) (w : Vec Ideal S1024x64 .fp8e4m3) (L : List (View.Piece (Elt Ideal) S1024x64 .fp8e4m3))
    (inb0) (o : ℕ) (inb) (i : Fin 128) (k : Fin 64) (I : Fin 1024) (hI : I.val = o + i) :
    v.readCov ((⟨Rect.unit ![0, 0] S1024x64.size inb0, w⟩ : View.Piece (Elt Ideal) S1024x64 .fp8e4m3) :: L)
      (Rect.unit (s := S1024x64) ![o, 0] S128x64.size inb).toLoadRect (ix2 i k) = w (ix2 I k) := by
  rw [View.readCov_eq_canon', View.canon_cons_unit_lit inb0 w L (fun a => by match a with | ⟨0, _⟩ => rfl | ⟨1, _⟩ => rfl)]
  refine congrArg w (funext fun a => Fin.ext ?_)
  refine (Rect.idx_unit_val (s := S1024x64) ![o, 0] S128x64.size inb (ix2 i k) a).trans ?_
  match a with
  | ⟨0, _⟩ => exact hI.symm
  | ⟨1, _⟩ => exact Nat.zero_add _

theorem rows128 (v : View sig κ sp S1024x128 .f32) (w : Vec Ideal S1024x128 .f32) (L : List (View.Piece (Elt Ideal) S1024x128 .f32))
    (inb0) (o : ℕ) (inb) (i : Fin 128) (k : Fin 128) (I : Fin 1024) (hI : I.val = o + i) :
    v.readCov ((⟨Rect.unit ![0, 0] S1024x128.size inb0, w⟩ : View.Piece (Elt Ideal) S1024x128 .f32) :: L)
      (Rect.unit (s := S1024x128) ![o, 0] S128x128.size inb).toLoadRect (ix2 i k) = w (ix2 I k) := by
  rw [View.readCov_eq_canon', View.canon_cons_unit_lit inb0 w L (fun a => by match a with | ⟨0, _⟩ => rfl | ⟨1, _⟩ => rfl)]
  refine congrArg w (funext fun a => Fin.ext ?_)
  refine (Rect.idx_unit_val (s := S1024x128) ![o, 0] S128x128.size inb (ix2 i k) a).trans ?_
  match a with
  | ⟨0, _⟩ => exact hI.symm
  | ⟨1, _⟩ => exact Nat.zero_add _

theorem eq_emb {S : Shape} (off size : Fin S.rank → ℕ) (inb) (x : (Rect.unit off size inb).shape.Idx) (y : S.Idx)
    (hy : ∀ a, (y a).val = off a + x a) : y = (Rect.unit off size inb).emb x :=
  funext fun a => Fin.ext ((hy a).trans (Rect.idx_unit_val off size inb x a).symm)

theorem miss2 {m n b : ℕ} (o : ℕ) (inb) (w : Vec Ideal ⟨2, ![m, b]⟩ .fp8e4m3) (L : List (View.Piece (Elt Ideal) ⟨2, ![m, n]⟩ .fp8e4m3))
    (d : Fin m) (col : Fin n) (h : col.val < o) :
    View.canon ((⟨Rect.unit (s := ⟨2, ![m, n]⟩) ![0, o] ![m, b] inb, w⟩ : View.Piece (Elt Ideal) ⟨2, ![m, n]⟩ .fp8e4m3) :: L) (ix2 d col)
      = View.canon L (ix2 d col) :=
  View.canon_cons_of_not_mem _ _ (fun hm => by
    have h1 : o ≤ col.val := ((Rect.mem_set_unit (s := ⟨2, ![m, n]⟩) (off := ![0, o]) (size := ![m, b]) (inb := inb) (i := ix2 d col)).1 hm 1).1
    omega)

theorem hit2 {m n b : ℕ} (o : ℕ) (inb) (w : Vec Ideal ⟨2, ![m, b]⟩ .fp8e4m3) (L : List (View.Piece (Elt Ideal) ⟨2, ![m, n]⟩ .fp8e4m3))
    (d : Fin m) (col : Fin n) (k : Fin b) (h : col.val = o + k.val) :
    View.canon ((⟨Rect.unit (s := ⟨2, ![m, n]⟩) ![0, o] ![m, b] inb, w⟩ : View.Piece (Elt Ideal) ⟨2, ![m, n]⟩ .fp8e4m3) :: L) (ix2 d col)
      = w (ix2 d k) := by
  have e := eq_emb (S := ⟨2, ![m, n]⟩) ![0, o] ![m, b] inb (ix2 d k) (ix2 d col) (fun a => by
    match a with
    | ⟨0, _⟩ => exact (Nat.zero_add _).symm
    | ⟨1, _⟩ => exact h)
  rw [e]
  exact View.canon_cons_emb _ _ _ _

/-- The extended position table as its three pieces leave it: the table's row under each column. -/
theorem pext_canon (L : List (View.Piece (Elt Ideal) S64x1024 .fp8e4m3))
    (a c : Vec Ideal S64x128 .fp8e4m3) (b : Vec Ideal S64x768 .fp8e4m3) (i1 i2 i3) (T : Fin 64 → ℕ → EReal)
    (ha : ∀ (d : Fin 64) (j : Fin 128), a (ix2 d j) = T d 0) (hb : ∀ (d : Fin 64) (j : Fin 768), b (ix2 d j) = T d j)
    (hc : ∀ (d : Fin 64) (j : Fin 128), c (ix2 d j) = T d 768) (d : Fin 64) (col : Fin 1024) :
    View.canon ((⟨Rect.unit (s := S64x1024) ![0, 896] S64x128.size i3, c⟩ : View.Piece (Elt Ideal) S64x1024 .fp8e4m3) ::
        (⟨Rect.unit (s := S64x1024) ![0, 128] S64x768.size i2, b⟩ : View.Piece (Elt Ideal) S64x1024 .fp8e4m3) ::
        (⟨Rect.unit (s := S64x1024) ![0, 0] S64x128.size i1, a⟩ : View.Piece (Elt Ideal) S64x1024 .fp8e4m3) :: L) (ix2 d col) = T d (cc col) := by
  have hcol := col.isLt
  rcases lt_or_ge col.val 896 with h3 | h3
  · refine (miss2 (m := 64) (n := 1024) (b := 128) 896 i3 c _ d col h3).trans ?_
    rcases lt_or_ge col.val 128 with h2 | h2
    · refine (miss2 (m := 64) (n := 1024) (b := 768) 128 i2 b _ d col h2).trans ?_
      refine (hit2 (m := 64) (n := 1024) (b := 128) 0 i1 a _ d col ⟨col.val, h2⟩ (Nat.zero_add _).symm).trans ?_
      rw [show cc col = 0 by unfold cc; omega]
      exact ha _ _
    · refine (hit2 (m := 64) (n := 1024) (b := 768) 128 i2 b _ d col ⟨col.val - 128, by omega⟩ (Nat.add_sub_of_le h2).symm).trans ?_
      rw [show cc col = col.val - 128 by unfold cc; omega]
      exact hb _ _
  · refine (hit2 (m := 64) (n := 1024) (b := 128) 896 i3 c _ d col ⟨col.val - 896, by omega⟩ (Nat.add_sub_of_le h3).symm).trans ?_
    rw [show cc col = 768 by unfold cc; omega]
    exact hc _ _

/-- A whole load after stores reads what they leave. -/
theorem pext_read (v : View sig κ sp S64x1024 .fp8e4m3) (L : List (View.Piece (Elt Ideal) S64x1024 .fp8e4m3)) (inb) (d : Fin 64) (col : Fin 1024) :
    v.readCov L (Rect.unit (s := S64x1024) ![0, 0] S64x1024.size inb).toLoadRect (ix2 d col) = View.canon L (ix2 d col) := by
  rw [View.readCov_eq_canon']
  exact congrArg (View.canon L) (eq_emb (S := S64x1024) ![0, 0] S64x1024.size inb (ix2 d col) (ix2 d col) (fun a => by
    match a with
    | ⟨0, _⟩ => exact (Nat.zero_add _).symm
    | ⟨1, _⟩ => exact (Nat.zero_add _).symm)).symm

/-- A load of a block held whole reads the block at the shifted index. -/
theorem readAt_block {S : Shape} {e : EltTy} (v : Memref sig κ sp S e) (hv : v.IsWhole) (X : Vec Ideal S e) (off size : Fin S.rank → ℕ) (inb)
    (x : (Rect.unit off size inb).shape.Idx) (y : S.Idx) (hy : ∀ a, (y a).val = off a + x a) :
    View.readAt (Elt Ideal) v.view (Rect.unit off size inb).toLoadRect (hv.unread (Val := Elt Ideal) X) x = X y := by
  rw [View.readAt_apply, hv.read_unread]
  exact congrArg X (funext fun a => Fin.ext ((Rect.idx_unit_val off size inb x a).trans (hy a).symm))

end Reads

end Cert.KernelIdeal.Val

end
-- ==== Proof.Val.HeadA.lean ====
module

public import proofs.«01_k».proof.Proof.Val.Core

@[expose] public section

set_option maxRecDepth 16384

noncomputable section

namespace Cert.KernelIdeal.Val

open Idealize.ShloMosaic Idealize.ShloMosaic.TcCoe Idealize.ShloMosaic.ValueIdx Cert.KernelIdeal.Gen Cert.Val

/-- The query of a head at a position plus a bias. -/
def fam (x : Vec Ideal S1x2x64x1024 .bf16) (b : Vec Ideal S2x64x1 .f32) (h : Fin 2) (I : Fin 1024) (d : Fin 64) : EReal :=
  (x (ix4 (0 : Fin 1) h d I) : EReal) + b (ix3 h d (0 : Fin 1))

/-- The position codes of a head by row number. -/
def ptab (x : Vec Ideal S2x64x769 .fp8e4m3) (h : Fin 2) (d : Fin 64) (r : ℕ) : EReal :=
  if hr : r < 769 then x (ix3 h d (⟨r, hr⟩ : Fin 769)) else 0

theorem piece_gen (b : ℕ) (Tl : FVec Ideal S128x1024 .f32 → FVec Ideal S128x1024 .f32 → FVec Ideal S128x128 .f32 → FVec Ideal S128x128 .f32 → Fin 8 → FVec Ideal S128x128 .f32)
    (hT : ∀ (ac pd : FVec Ideal S128x1024 .f32) (sa sb : FVec Ideal S128x128 .f32) (P : Fin 128 → ℕ → EReal) (s : Fin 128 → EReal),
      (∀ (i : Fin 128) (col : Fin 1024), pd (ix2 i col) = P i (cc col)) → (∀ i j : Fin 128, sb (ix2 i j) = s i) → TileSpec b (Tl ac pd sa sb) ac sa P s)
    (hb : b < 8) (q qv : Vec Ideal S128x64 .fp8e4m3) (pe : Vec Ideal S64x1024 .fp8e4m3) (sa sb : Vec Ideal S128x128 .f32) (Kv V : Vec Ideal S1x1x64x1024 .fp8e4m3) (vs : Ideal .f32)
    (fu fv : Fin 1024 → Fin 64 → EReal) (K Vf : Fin 64 → Fin 1024 → EReal) (Pt : Fin 64 → ℕ → EReal) (ks ps : EReal)
    (hq : ∀ (i : Fin 128) (k : Fin 64) (I : Fin 1024), I.val = 128 * b + i → q (ix2 i k) = cod (fu I) k)
    (hqv : ∀ (i : Fin 128) (k : Fin 64) (I : Fin 1024), I.val = 128 * b + i → qv (ix2 i k) = cod (fv I) k)
    (hpe : ∀ (d : Fin 64) (col : Fin 1024), pe (ix2 d col) = Pt d (cc col))
    (hsa : ∀ (i j : Fin 128) (I : Fin 1024), I.val = 128 * b + i → sa (ix2 i j) = scl (fu I) * (ks * (((1 / 8) * (Real.log 2)⁻¹ : ℝ) : EReal)))
    (hsb : ∀ (i j : Fin 128) (I : Fin 1024), I.val = 128 * b + i → sb (ix2 i j) = scl (fv I) * (ps * (((1 / 8) * (Real.log 2)⁻¹ : ℝ) : EReal)))
    (hK : ∀ k J, Kv (ix4 (0 : Fin 1) (0 : Fin 1) k J) = K k J) (hV : ∀ k J, V (ix4 (0 : Fin 1) (0 : Fin 1) k J) = Vf k J)
    (i : Fin 128) (d : Fin 64) (I : Fin 1024) (hI : I.val = 128 * b + i) :
    att (Tl (dots q (shapeCast S64x1024 Kv shapeCasts_S1x1x64x1024_S64x1024)) (dots qv pe) sa sb) V vs (ix3 (0 : Fin 1) i d)
      = outv (yrow (fu I) (fv I) K Pt ks ps I) (Vf d) vs := by
  have hI' : ∀ i : Fin 128, 128 * b + i.val < 1024 := fun i => by omega
  have h := piece_eq b (Tl (dots q (shapeCast S64x1024 Kv shapeCasts_S1x1x64x1024_S64x1024)) (dots qv pe) sa sb) _ sa
    (fun i r => ∑ k, cod (fv ⟨128 * b + i, hI' i⟩) k * Pt k r) (fun i => scl (fv ⟨128 * b + i, hI' i⟩) * (ps * (((1 / 8) * (Real.log 2)⁻¹ : ℝ) : EReal)))
    (hT _ _ _ _ _ _ (fun i col => by
      rw [dots_apply]
      exact Finset.sum_congr rfl fun k _ => by rw [hqv i k ⟨128 * b + i, hI' i⟩ rfl, hpe]) (fun i j => hsb i j ⟨128 * b + i, hI' i⟩ rfl))
    V vs i d (fu I) (fv I) K Pt ks ps (fun J => by
      rw [dots_apply]
      refine Finset.sum_congr rfl fun k _ => ?_
      rw [hq i k I hI, ← hK]
      exact congrArg (fun y : EReal => cod (fu I) k * y) (shapeCast_apply Kv _ _ _ (by rw [Shape.rowMajor_val_four, Shape.rowMajor_val_two]; simp [ix4, ix2])))
    (fun r => by rw [show (⟨128 * b + i, hI' i⟩ : Fin 1024) = I from Fin.ext hI.symm]) (fun j => hsa i j I hI)
    (by rw [show (⟨128 * b + i, hI' i⟩ : Fin 1024) = I from Fin.ext hI.symm])
  rw [h, ← hI]
  exact congrArg (fun y => outv (yrow (fu I) (fv I) K Pt ks ps I) y vs) (funext fun J => hV d J)

section Blocks
variable {κ : Kind} {sp : Space}

theorem blk4_0 {e : EltTy} (v : Memref sig κ sp S1x2x64x1024 e) (hv : v.IsWhole) (X : Vec Ideal S1x2x64x1024 e) (d : Fin 64) (j : Fin 1024) :
    View.readAt (Elt Ideal) v.view (Rect.unit (s := S1x2x64x1024) ![0, 0, 0, 0] S1x1x64x1024.size inb_S1x2x64x1024_S1x1x64x1024_0_0_0_0).toLoadRect (hv.unread X) (ix4 (0 : Fin 1) (0 : Fin 1) d j) = X (ix4 (0 : Fin 1) (0 : Fin 2) d j) :=
  readAt_block v hv X _ _ _ _ _ (fun a => by
    match a with
    | ⟨0, _⟩ => rfl
    | ⟨1, _⟩ => rfl
    | ⟨2, _⟩ => exact (Nat.zero_add _).symm
    | ⟨3, _⟩ => exact (Nat.zero_add _).symm)

theorem blk3_0 (v : Memref sig κ sp S2x64x1 .f32) (hv : v.IsWhole) (X : Vec Ideal S2x64x1 .f32) (d : Fin 64) :
    View.readAt (Elt Ideal) v.view (Rect.unit (s := S2x64x1) ![0, 0, 0] S1x64x1.size inb_S2x64x1_S1x64x1_0_0_0).toLoadRect (hv.unread X) (ix3 (0 : Fin 1) d (0 : Fin 1)) = X (ix3 (0 : Fin 2) d (0 : Fin 1)) :=
  readAt_block v hv X _ _ _ _ _ (fun a => by
    match a with
    | ⟨0, _⟩ => rfl
    | ⟨1, _⟩ => exact (Nat.zero_add _).symm
    | ⟨2, _⟩ => rfl)

theorem qxf_0 (v : Memref sig .tc .vmem S1x2x64x1024 .bf16) (hv : v.IsWhole) (X : Vec Ideal S1x2x64x1024 .bf16) (w : Memref sig .tc .vmem S2x64x1 .f32) (hw : w.IsWhole) (Y : Vec Ideal S2x64x1 .f32) (j : Fin 1024) :
    (fun d => qx (View.readAt (Elt Ideal) v.view (Rect.unit (s := S1x2x64x1024) ![0, 0, 0, 0] S1x1x64x1024.size inb_S1x2x64x1024_S1x1x64x1024_0_0_0_0).toLoadRect (hv.unread X))
      (View.readAt (Elt Ideal) w.view (Rect.unit (s := S2x64x1) ![0, 0, 0] S1x64x1.size inb_S2x64x1_S1x64x1_0_0_0).toLoadRect (hw.unread Y)) (ix2 d j)) = fam X Y 0 j := by
  funext d
  rw [qx_apply, blk4_0, blk3_0]
  rfl

theorem pt_0 (v : Memref sig κ sp S2x64x769 .fp8e4m3) (hv : v.IsWhole) (X : Vec Ideal S2x64x769 .fp8e4m3) :
    (∀ (d : Fin 64) (j : Fin 128), pcol (View.readAt (Elt Ideal) v.view (Rect.unit (s := S2x64x769) ![0, 0, 0] S1x64x1.size inb_S2x64x769_S1x64x1_0_0_0).toLoadRect (hv.unread X)) (ix2 d j) = ptab X 0 d 0)
    ∧ (∀ (d : Fin 64) (j : Fin 768), pmid (View.readAt (Elt Ideal) v.view (Rect.unit (s := S2x64x769) ![0, 0, 0] S1x64x768.size inb_S2x64x769_S1x64x768_0_0_0).toLoadRect (hv.unread X)) (ix2 d j) = ptab X 0 d j)
    ∧ (∀ (d : Fin 64) (j : Fin 128), pcol (View.readAt (Elt Ideal) v.view (Rect.unit (s := S2x64x769) ![0, 0, 768] S1x64x1.size inb_S2x64x769_S1x64x1_0_0_768).toLoadRect (hv.unread X)) (ix2 d j) = ptab X 0 d 768) := by
  refine ⟨fun d j => ?_, fun d j => ?_, fun d j => ?_⟩
  · rw [pcol_apply, ptab, dif_pos (by decide)]
    exact readAt_block v hv X _ _ _ _ _ (fun a => by
      match a with
      | ⟨0, _⟩ => rfl
      | ⟨1, _⟩ => exact (Nat.zero_add _).symm
      | ⟨2, _⟩ => rfl)
  · rw [pmid_apply, ptab, dif_pos (j.isLt.trans (by decide))]
    exact readAt_block v hv X _ _ _ _ _ (fun a => by
      match a with
      | ⟨0, _⟩ => rfl
      | ⟨1, _⟩ => exact (Nat.zero_add _).symm
      | ⟨2, _⟩ => exact (Nat.zero_add _).symm)
  · rw [pcol_apply, ptab, dif_pos (by decide)]
    exact readAt_block v hv X _ _ _ _ _ (fun a => by
      match a with
      | ⟨0, _⟩ => rfl
      | ⟨1, _⟩ => exact (Nat.zero_add _).symm
      | ⟨2, _⟩ => rfl)

theorem blk4_1 {e : EltTy} (v : Memref sig κ sp S1x2x64x1024 e) (hv : v.IsWhole) (X : Vec Ideal S1x2x64x1024 e) (d : Fin 64) (j : Fin 1024) :
    View.readAt (Elt Ideal) v.view (Rect.unit (s := S1x2x64x1024) ![0, 1, 0, 0] S1x1x64x1024.size inb_S1x2x64x1024_S1x1x64x1024_0_1_0_0).toLoadRect (hv.unread X) (ix4 (0 : Fin 1) (0 : Fin 1) d j) = X (ix4 (0 : Fin 1) (1 : Fin 2) d j) :=
  readAt_block v hv X _ _ _ _ _ (fun a => by
    match a with
    | ⟨0, _⟩ => rfl
    | ⟨1, _⟩ => rfl
    | ⟨2, _⟩ => exact (Nat.zero_add _).symm
    | ⟨3, _⟩ => exact (Nat.zero_add _).symm)

theorem blk3_1 (v : Memref sig κ sp S2x64x1 .f32) (hv : v.IsWhole) (X : Vec Ideal S2x64x1 .f32) (d : Fin 64) :
    View.readAt (Elt Ideal) v.view (Rect.unit (s := S2x64x1) ![1, 0, 0] S1x64x1.size inb_S2x64x1_S1x64x1_1_0_0).toLoadRect (hv.unread X) (ix3 (0 : Fin 1) d (0 : Fin 1)) = X (ix3 (1 : Fin 2) d (0 : Fin 1)) :=
  readAt_block v hv X _ _ _ _ _ (fun a => by
    match a with
    | ⟨0, _⟩ => rfl
    | ⟨1, _⟩ => exact (Nat.zero_add _).symm
    | ⟨2, _⟩ => rfl)

theorem qxf_1 (v : Memref sig .tc .vmem S1x2x64x1024 .bf16) (hv : v.IsWhole) (X : Vec Ideal S1x2x64x1024 .bf16) (w : Memref sig .tc .vmem S2x64x1 .f32) (hw : w.IsWhole) (Y : Vec Ideal S2x64x1 .f32) (j : Fin 1024) :
    (fun d => qx (View.readAt (Elt Ideal) v.view (Rect.unit (s := S1x2x64x1024) ![0, 1, 0, 0] S1x1x64x1024.size inb_S1x2x64x1024_S1x1x64x1024_0_1_0_0).toLoadRect (hv.unread X))
      (View.readAt (Elt Ideal) w.view (Rect.unit (s := S2x64x1) ![1, 0, 0] S1x64x1.size inb_S2x64x1_S1x64x1_1_0_0).toLoadRect (hw.unread Y)) (ix2 d j)) = fam X Y 1 j := by
  funext d
  rw [qx_apply, blk4_1, blk3_1]
  rfl

theorem pt_1 (v : Memref sig κ sp S2x64x769 .fp8e4m3) (hv : v.IsWhole) (X : Vec Ideal S2x64x769 .fp8e4m3) :
    (∀ (d : Fin 64) (j : Fin 128), pcol (View.readAt (Elt Ideal) v.view (Rect.unit (s := S2x64x769) ![1, 0, 0] S1x64x1.size inb_S2x64x769_S1x64x1_1_0_0).toLoadRect (hv.unread X)) (ix2 d j) = ptab X 1 d 0)
    ∧ (∀ (d : Fin 64) (j : Fin 768), pmid (View.readAt (Elt Ideal) v.view (Rect.unit (s := S2x64x769) ![1, 0, 0] S1x64x768.size inb_S2x64x769_S1x64x768_1_0_0).toLoadRect (hv.unread X)) (ix2 d j) = ptab X 1 d j)
    ∧ (∀ (d : Fin 64) (j : Fin 128), pcol (View.readAt (Elt Ideal) v.view (Rect.unit (s := S2x64x769) ![1, 0, 768] S1x64x1.size inb_S2x64x769_S1x64x1_1_0_768).toLoadRect (hv.unread X)) (ix2 d j) = ptab X 1 d 768) := by
  refine ⟨fun d j => ?_, fun d j => ?_, fun d j => ?_⟩
  · rw [pcol_apply, ptab, dif_pos (by decide)]
    exact readAt_block v hv X _ _ _ _ _ (fun a => by
      match a with
      | ⟨0, _⟩ => rfl
      | ⟨1, _⟩ => exact (Nat.zero_add _).symm
      | ⟨2, _⟩ => rfl)
  · rw [pmid_apply, ptab, dif_pos (j.isLt.trans (by decide))]
    exact readAt_block v hv X _ _ _ _ _ (fun a => by
      match a with
      | ⟨0, _⟩ => rfl
      | ⟨1, _⟩ => exact (Nat.zero_add _).symm
      | ⟨2, _⟩ => exact (Nat.zero_add _).symm)
  · rw [pcol_apply, ptab, dif_pos (by decide)]
    exact readAt_block v hv X _ _ _ _ _ (fun a => by
      match a with
      | ⟨0, _⟩ => rfl
      | ⟨1, _⟩ => exact (Nat.zero_add _).symm
      | ⟨2, _⟩ => rfl)

end Blocks

theorem cod_u0 (c : Dev nD) (arg5 : Memref sig .tc .vmem S1x2x64x1024 .bf16) (harg5 : arg5.IsWhole) (arg9 : Memref sig .tc .vmem S2x64x1 .f32) (harg9 : arg9.IsWhole) (x3 : Vec Ideal S1x2x64x1024 .bf16) (x7 : Vec Ideal S2x64x1 .f32) (v : View sig .tc .vmem S1024x64 .fp8e4m3) (o : ℕ) (inb) (i0 : Fin 128) (k : Fin 64) (I : Fin 1024) (hI : I.val = o + i0) :
    v.readCov (kernelRun.sl.HS1_1 c arg5 harg5 arg9 harg9 x3 x7) (Rect.unit (s := S1024x64) ![o, 0] S128x64.size inb).toLoadRect (ix2 i0 k) = cod (fam x3 x7 0 I) k := by
  refine (rows64 v _ _ _ o inb i0 k I hI).trans ?_
  rw [pay_codT_u0, qcodT_apply, qxf_0]

theorem cod_v0 (c : Dev nD) (arg5 : Memref sig .tc .vmem S1x2x64x1024 .bf16) (harg5 : arg5.IsWhole) (arg10 : Memref sig .tc .vmem S2x64x1 .f32) (harg10 : arg10.IsWhole) (x3 : Vec Ideal S1x2x64x1024 .bf16) (x8 : Vec Ideal S2x64x1 .f32) (v : View sig .tc .vmem S1024x64 .fp8e4m3) (o : ℕ) (inb) (i0 : Fin 128) (k : Fin 64) (I : Fin 1024) (hI : I.val = o + i0) :
    v.readCov (kernelRun.sl.HS2_1 c arg5 harg5 arg10 harg10 x3 x8) (Rect.unit (s := S1024x64) ![o, 0] S128x64.size inb).toLoadRect (ix2 i0 k) = cod (fam x3 x8 0 I) k := by
  refine (rows64 v _ _ _ o inb i0 k I hI).trans ?_
  rw [pay_codT_v0, qcodT_apply, qxf_0]

theorem row_u0 (c : Dev nD) (i : grid0.Coords) (arg2 : Memref sig .tc .smem S2x10 .f32) (harg2 : arg2.IsWhole) (arg5 : Memref sig .tc .vmem S1x2x64x1024 .bf16) (harg5 : arg5.IsWhole) (arg9 : Memref sig .tc .vmem S2x64x1 .f32) (harg9 : arg9.IsWhole) (x0 : Vec Ideal S2x10 .f32) (x3 : Vec Ideal S1x2x64x1024 .bf16) (x7 : Vec Ideal S2x64x1 .f32) (v : View sig .tc .vmem S1024x128 .f32) (o : ℕ) (inb) (i0 j : Fin 128) (I : Fin 1024) (hI : I.val = o + i0) :
    v.readCov (kernelRun.sl.HS3_1 c i arg2 harg2 arg5 harg5 arg9 harg9 x0 x3 x7) (Rect.unit (s := S1024x128) ![o, 0] S128x128.size inb).toLoadRect (ix2 i0 j) = scl (fam x3 x7 0 I) * (((kernelRun.sl.r c i arg2 harg2 x0) : EReal) * (((1 / 8) * (Real.log 2)⁻¹ : ℝ) : EReal)) := by
  refine (rows128 v _ _ _ o inb i0 j I hI).trans ?_
  rw [pay_row_u0, qrow_apply, qxf_0]

theorem row_v0 (c : Dev nD) (i : grid0.Coords) (arg4 : Memref sig .tc .smem S10 .f32) (harg4 : arg4.IsWhole) (arg5 : Memref sig .tc .vmem S1x2x64x1024 .bf16) (harg5 : arg5.IsWhole) (arg10 : Memref sig .tc .vmem S2x64x1 .f32) (harg10 : arg10.IsWhole) (x2 : Vec Ideal S10 .f32) (x3 : Vec Ideal S1x2x64x1024 .bf16) (x8 : Vec Ideal S2x64x1 .f32) (v : View sig .tc .vmem S1024x128 .f32) (o : ℕ) (inb) (i0 j : Fin 128) (I : Fin 1024) (hI : I.val = o + i0) :
    v.readCov (kernelRun.sl.HS4_1 c i arg4 harg4 arg5 harg5 arg10 harg10 x2 x3 x8) (Rect.unit (s := S1024x128) ![o, 0] S128x128.size inb).toLoadRect (ix2 i0 j) = scl (fam x3 x8 0 I) * (((kernelRun.sl.r_2 c i arg4 harg4 x2) : EReal) * (((1 / 8) * (Real.log 2)⁻¹ : ℝ) : EReal)) := by
  refine (rows128 v _ _ _ o inb i0 j I hI).trans ?_
  rw [pay_row_v0, qrow_apply, qxf_0]

theorem pos_0 (c : Dev nD) (arg8 : Memref sig .tc .vmem S2x64x769 .fp8e4m3) (harg8 : arg8.IsWhole) (x6 : Vec Ideal S2x64x769 .fp8e4m3) (v : View sig .tc .vmem S64x1024 .fp8e4m3) (inb) (d : Fin 64) (col : Fin 1024) :
    v.readCov (kernelRun.sl.HS0_3 c arg8 harg8 x6) (Rect.unit (s := S64x1024) ![0, 0] S64x1024.size inb).toLoadRect (ix2 d col) = ptab x6 0 d (cc col) := by
  rw [pext_read]
  refine pext_canon _ _ _ _ _ _ _ (ptab x6 0) ?_ ?_ ?_ d col
  · intro d j; rw [pay_pl0]; exact (pt_0 arg8 harg8 x6).1 d j
  · intro d j; rw [pay_pm0]; exact (pt_0 arg8 harg8 x6).2.1 d j
  · intro d j; rw [pay_pr0]; exact (pt_0 arg8 harg8 x6).2.2 d j

theorem cod_u1 (c : Dev nD) (arg5 : Memref sig .tc .vmem S1x2x64x1024 .bf16) (harg5 : arg5.IsWhole) (arg9 : Memref sig .tc .vmem S2x64x1 .f32) (harg9 : arg9.IsWhole) (x3 : Vec Ideal S1x2x64x1024 .bf16) (x7 : Vec Ideal S2x64x1 .f32) (v : View sig .tc .vmem S1024x64 .fp8e4m3) (o : ℕ) (inb) (i0 : Fin 128) (k : Fin 64) (I : Fin 1024) (hI : I.val = o + i0) :
    v.readCov (kernelRun.sl.HS1_2 c arg5 harg5 arg9 harg9 x3 x7) (Rect.unit (s := S1024x64) ![o, 0] S128x64.size inb).toLoadRect (ix2 i0 k) = cod (fam x3 x7 1 I) k := by
  refine (rows64 v _ _ _ o inb i0 k I hI).trans ?_
  rw [pay_codT_u1, qcodT_apply, qxf_1]

theorem cod_v1 (c : Dev nD) (arg5 : Memref sig .tc .vmem S1x2x64x1024 .bf16) (harg5 : arg5.IsWhole) (arg10 : Memref sig .tc .vmem S2x64x1 .f32) (harg10 : arg10.IsWhole) (x3 : Vec Ideal S1x2x64x1024 .bf16) (x8 : Vec Ideal S2x64x1 .f32) (v : View sig .tc .vmem S1024x64 .fp8e4m3) (o : ℕ) (inb) (i0 : Fin 128) (k : Fin 64) (I : Fin 1024) (hI : I.val = o + i0) :
    v.readCov (kernelRun.sl.HS2_2 c arg5 harg5 arg10 harg10 x3 x8) (Rect.unit (s := S1024x64) ![o, 0] S128x64.size inb).toLoadRect (ix2 i0 k) = cod (fam x3 x8 1 I) k := by
  refine (rows64 v _ _ _ o inb i0 k I hI).trans ?_
  rw [pay_codT_v1, qcodT_apply, qxf_1]

theorem row_u1 (c : Dev nD) (i : grid0.Coords) (arg2 : Memref sig .tc .smem S2x10 .f32) (harg2 : arg2.IsWhole) (arg5 : Memref sig .tc .vmem S1x2x64x1024 .bf16) (harg5 : arg5.IsWhole) (arg9 : Memref sig .tc .vmem S2x64x1 .f32) (harg9 : arg9.IsWhole) (x0 : Vec Ideal S2x10 .f32) (x3 : Vec Ideal S1x2x64x1024 .bf16) (x7 : Vec Ideal S2x64x1 .f32) (v : View sig .tc .vmem S1024x128 .f32) (o : ℕ) (inb) (i0 j : Fin 128) (I : Fin 1024) (hI : I.val = o + i0) :
    v.readCov (kernelRun.sl.HS3_2 c i arg2 harg2 arg5 harg5 arg9 harg9 x0 x3 x7) (Rect.unit (s := S1024x128) ![o, 0] S128x128.size inb).toLoadRect (ix2 i0 j) = scl (fam x3 x7 1 I) * (((kernelRun.sl.r_12 c i arg2 harg2 x0) : EReal) * (((1 / 8) * (Real.log 2)⁻¹ : ℝ) : EReal)) := by
  refine (rows128 v _ _ _ o inb i0 j I hI).trans ?_
  rw [pay_row_u1, qrow_apply, qxf_1]

theorem row_v1 (c : Dev nD) (i : grid0.Coords) (arg4 : Memref sig .tc .smem S10 .f32) (harg4 : arg4.IsWhole) (arg5 : Memref sig .tc .vmem S1x2x64x1024 .bf16) (harg5 : arg5.IsWhole) (arg10 : Memref sig .tc .vmem S2x64x1 .f32) (harg10 : arg10.IsWhole) (x2 : Vec Ideal S10 .f32) (x3 : Vec Ideal S1x2x64x1024 .bf16) (x8 : Vec Ideal S2x64x1 .f32) (v : View sig .tc .vmem S1024x128 .f32) (o : ℕ) (inb) (i0 j : Fin 128) (I : Fin 1024) (hI : I.val = o + i0) :
    v.readCov (kernelRun.sl.HS4_2 c i arg4 harg4 arg5 harg5 arg10 harg10 x2 x3 x8) (Rect.unit (s := S1024x128) ![o, 0] S128x128.size inb).toLoadRect (ix2 i0 j) = scl (fam x3 x8 1 I) * (((kernelRun.sl.r_14 c i arg4 harg4 x2) : EReal) * (((1 / 8) * (Real.log 2)⁻¹ : ℝ) : EReal)) := by
  refine (rows128 v _ _ _ o inb i0 j I hI).trans ?_
  rw [pay_row_v1, qrow_apply, qxf_1]

theorem pos_1 (c : Dev nD) (arg8 : Memref sig .tc .vmem S2x64x769 .fp8e4m3) (harg8 : arg8.IsWhole) (x6 : Vec Ideal S2x64x769 .fp8e4m3) (v : View sig .tc .vmem S64x1024 .fp8e4m3) (inb) (d : Fin 64) (col : Fin 1024) :
    v.readCov (kernelRun.sl.HS0_6 c arg8 harg8 x6) (Rect.unit (s := S64x1024) ![0, 0] S64x1024.size inb).toLoadRect (ix2 d col) = ptab x6 1 d (cc col) := by
  rw [pext_read]
  refine pext_canon _ _ _ _ _ _ _ (ptab x6 1) ?_ ?_ ?_ d col
  · intro d j; rw [pay_pl1]; exact (pt_1 arg8 harg8 x6).1 d j
  · intro d j; rw [pay_pm1]; exact (pt_1 arg8 harg8 x6).2.1 d j
  · intro d j; rw [pay_pr1]; exact (pt_1 arg8 harg8 x6).2.2 d j

end Cert.KernelIdeal.Val

end
-- ==== Proof.Val.Heads.lean ====
module

public import proofs.«01_k».proof.Proof.Val.HeadA

@[expose] public section

set_option maxRecDepth 16384

noncomputable section

namespace Cert.KernelIdeal.Val

open Idealize.ShloMosaic Idealize.ShloMosaic.TcCoe Idealize.ShloMosaic.ValueIdx Cert.KernelIdeal.Gen Cert.Val

theorem piece0_0 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec Ideal S2x10 .f32) (x1 : Vec Ideal S2x10 .f32) (x2 : Vec Ideal S10 .f32) (x3 : Vec Ideal S1x2x64x1024 .bf16) (x4 : Vec Ideal S1x2x64x1024 .fp8e4m3) (x5 : Vec Ideal S1x2x64x1024 .fp8e4m3) (x6 : Vec Ideal S2x64x769 .fp8e4m3) (x7 : Vec Ideal S2x64x1 .f32) (x8 : Vec Ideal S2x64x1 .f32) (i0 : Fin 128) (d : Fin 64) (I : Fin 1024) (hI : I.val = 128 * 0 + i0) :
    (kernelRun.sl.v412 c i arg2 harg2 arg3 harg3 arg4 harg4 arg5 harg5 arg6 harg6 arg7 harg7 arg8 harg8 arg9 harg9 arg10 harg10 arg16 arg17 arg18 arg19 arg20 x0 x1 x2 x3 x4 x5 x6 x7 x8) (ix3 (0 : Fin 1) i0 d) = outv (yrow (fam x3 x7 0 I) (fam x3 x8 0 I) (fun k J => x4 (ix4 (0 : Fin 1) (0 : Fin 2) k J)) (ptab x6 0) (kernelRun.sl.r c i arg2 harg2 x0) (kernelRun.sl.r_2 c i arg4 harg4 x2) I)
      (fun J => x5 (ix4 (0 : Fin 1) (0 : Fin 2) d J)) (kernelRun.sl.r_1 c i arg3 harg3 x1) := by
  rw [out0_0]
  exact piece_gen 0 _ (tiles0_spec) (by decide) _ _ _ _ _ _ _ _ (fam x3 x7 0) (fam x3 x8 0) (fun k J => x4 (ix4 (0 : Fin 1) (0 : Fin 2) k J)) (fun k J => x5 (ix4 (0 : Fin 1) (0 : Fin 2) k J)) (ptab x6 0) _ _
    (fun i k I hI => cod_u0 _ _ _ _ _ _ _ _ _ _ _ _ _ hI) (fun i k I hI => cod_v0 _ _ _ _ _ _ _ _ _ _ _ _ _ hI) (fun d col => pos_0 _ _ _ _ _ _ _ _)
    (fun i j I hI => row_u0 _ _ _ _ _ _ _ _ _ _ _ _ _ _ _ _ _ hI) (fun i j I hI => row_v0 _ _ _ _ _ _ _ _ _ _ _ _ _ _ _ _ _ hI)
    (fun k J => blk4_0 _ _ _ _ _) (fun k J => blk4_0 _ _ _ _ _) i0 d I hI

theorem piece0_1 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec Ideal S2x10 .f32) (x1 : Vec Ideal S2x10 .f32) (x2 : Vec Ideal S10 .f32) (x3 : Vec Ideal S1x2x64x1024 .bf16) (x4 : Vec Ideal S1x2x64x1024 .fp8e4m3) (x5 : Vec Ideal S1x2x64x1024 .fp8e4m3) (x6 : Vec Ideal S2x64x769 .fp8e4m3) (x7 : Vec Ideal S2x64x1 .f32) (x8 : Vec Ideal S2x64x1 .f32) (i0 : Fin 128) (d : Fin 64) (I : Fin 1024) (hI : I.val = 128 * 1 + i0) :
    (kernelRun.sl.v530 c i arg2 harg2 arg3 harg3 arg4 harg4 arg5 harg5 arg6 harg6 arg7 harg7 arg8 harg8 arg9 harg9 arg10 harg10 arg16 arg17 arg18 arg19 arg20 x0 x1 x2 x3 x4 x5 x6 x7 x8) (ix3 (0 : Fin 1) i0 d) = outv (yrow (fam x3 x7 0 I) (fam x3 x8 0 I) (fun k J => x4 (ix4 (0 : Fin 1) (0 : Fin 2) k J)) (ptab x6 0) (kernelRun.sl.r c i arg2 harg2 x0) (kernelRun.sl.r_2 c i arg4 harg4 x2) I)
      (fun J => x5 (ix4 (0 : Fin 1) (0 : Fin 2) d J)) (kernelRun.sl.r_1 c i arg3 harg3 x1) := by
  rw [out0_1]
  exact piece_gen 1 _ (tiles1_spec) (by decide) _ _ _ _ _ _ _ _ (fam x3 x7 0) (fam x3 x8 0) (fun k J => x4 (ix4 (0 : Fin 1) (0 : Fin 2) k J)) (fun k J => x5 (ix4 (0 : Fin 1) (0 : Fin 2) k J)) (ptab x6 0) _ _
    (fun i k I hI => cod_u0 _ _ _ _ _ _ _ _ _ _ _ _ _ hI) (fun i k I hI => cod_v0 _ _ _ _ _ _ _ _ _ _ _ _ _ hI) (fun d col => pos_0 _ _ _ _ _ _ _ _)
    (fun i j I hI => row_u0 _ _ _ _ _ _ _ _ _ _ _ _ _ _ _ _ _ hI) (fun i j I hI => row_v0 _ _ _ _ _ _ _ _ _ _ _ _ _ _ _ _ _ hI)
    (fun k J => blk4_0 _ _ _ _ _) (fun k J => blk4_0 _ _ _ _ _) i0 d I hI

theorem piece0_2 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec Ideal S2x10 .f32) (x1 : Vec Ideal S2x10 .f32) (x2 : Vec Ideal S10 .f32) (x3 : Vec Ideal S1x2x64x1024 .bf16) (x4 : Vec Ideal S1x2x64x1024 .fp8e4m3) (x5 : Vec Ideal S1x2x64x1024 .fp8e4m3) (x6 : Vec Ideal S2x64x769 .fp8e4m3) (x7 : Vec Ideal S2x64x1 .f32) (x8 : Vec Ideal S2x64x1 .f32) (i0 : Fin 128) (d : Fin 64) (I : Fin 1024) (hI : I.val = 128 * 2 + i0) :
    (kernelRun.sl.v652 c i arg2 harg2 arg3 harg3 arg4 harg4 arg5 harg5 arg6 harg6 arg7 harg7 arg8 harg8 arg9 harg9 arg10 harg10 arg16 arg17 arg18 arg19 arg20 x0 x1 x2 x3 x4 x5 x6 x7 x8) (ix3 (0 : Fin 1) i0 d) = outv (yrow (fam x3 x7 0 I) (fam x3 x8 0 I) (fun k J => x4 (ix4 (0 : Fin 1) (0 : Fin 2) k J)) (ptab x6 0) (kernelRun.sl.r c i arg2 harg2 x0) (kernelRun.sl.r_2 c i arg4 harg4 x2) I)
      (fun J => x5 (ix4 (0 : Fin 1) (0 : Fin 2) d J)) (kernelRun.sl.r_1 c i arg3 harg3 x1) := by
  rw [out0_2]
  exact piece_gen 2 _ (tiles2_spec) (by decide) _ _ _ _ _ _ _ _ (fam x3 x7 0) (fam x3 x8 0) (fun k J => x4 (ix4 (0 : Fin 1) (0 : Fin 2) k J)) (fun k J => x5 (ix4 (0 : Fin 1) (0 : Fin 2) k J)) (ptab x6 0) _ _
    (fun i k I hI => cod_u0 _ _ _ _ _ _ _ _ _ _ _ _ _ hI) (fun i k I hI => cod_v0 _ _ _ _ _ _ _ _ _ _ _ _ _ hI) (fun d col => pos_0 _ _ _ _ _ _ _ _)
    (fun i j I hI => row_u0 _ _ _ _ _ _ _ _ _ _ _ _ _ _ _ _ _ hI) (fun i j I hI => row_v0 _ _ _ _ _ _ _ _ _ _ _ _ _ _ _ _ _ hI)
    (fun k J => blk4_0 _ _ _ _ _) (fun k J => blk4_0 _ _ _ _ _) i0 d I hI

theorem piece0_3 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec Ideal S2x10 .f32) (x1 : Vec Ideal S2x10 .f32) (x2 : Vec Ideal S10 .f32) (x3 : Vec Ideal S1x2x64x1024 .bf16) (x4 : Vec Ideal S1x2x64x1024 .fp8e4m3) (x5 : Vec Ideal S1x2x64x1024 .fp8e4m3) (x6 : Vec Ideal S2x64x769 .fp8e4m3) (x7 : Vec Ideal S2x64x1 .f32) (x8 : Vec Ideal S2x64x1 .f32) (i0 : Fin 128) (d : Fin 64) (I : Fin 1024) (hI : I.val = 128 * 3 + i0) :
    (kernelRun.sl.v777 c i arg2 harg2 arg3 harg3 arg4 harg4 arg5 harg5 arg6 harg6 arg7 harg7 arg8 harg8 arg9 harg9 arg10 harg10 arg16 arg17 arg18 arg19 arg20 x0 x1 x2 x3 x4 x5 x6 x7 x8) (ix3 (0 : Fin 1) i0 d) = outv (yrow (fam x3 x7 0 I) (fam x3 x8 0 I) (fun k J => x4 (ix4 (0 : Fin 1) (0 : Fin 2) k J)) (ptab x6 0) (kernelRun.sl.r c i arg2 harg2 x0) (kernelRun.sl.r_2 c i arg4 harg4 x2) I)
      (fun J => x5 (ix4 (0 : Fin 1) (0 : Fin 2) d J)) (kernelRun.sl.r_1 c i arg3 harg3 x1) := by
  rw [out0_3]
  exact piece_gen 3 _ (tiles3_spec) (by decide) _ _ _ _ _ _ _ _ (fam x3 x7 0) (fam x3 x8 0) (fun k J => x4 (ix4 (0 : Fin 1) (0 : Fin 2) k J)) (fun k J => x5 (ix4 (0 : Fin 1) (0 : Fin 2) k J)) (ptab x6 0) _ _
    (fun i k I hI => cod_u0 _ _ _ _ _ _ _ _ _ _ _ _ _ hI) (fun i k I hI => cod_v0 _ _ _ _ _ _ _ _ _ _ _ _ _ hI) (fun d col => pos_0 _ _ _ _ _ _ _ _)
    (fun i j I hI => row_u0 _ _ _ _ _ _ _ _ _ _ _ _ _ _ _ _ _ hI) (fun i j I hI => row_v0 _ _ _ _ _ _ _ _ _ _ _ _ _ _ _ _ _ hI)
    (fun k J => blk4_0 _ _ _ _ _) (fun k J => blk4_0 _ _ _ _ _) i0 d I hI

theorem piece0_4 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec Ideal S2x10 .f32) (x1 : Vec Ideal S2x10 .f32) (x2 : Vec Ideal S10 .f32) (x3 : Vec Ideal S1x2x64x1024 .bf16) (x4 : Vec Ideal S1x2x64x1024 .fp8e4m3) (x5 : Vec Ideal S1x2x64x1024 .fp8e4m3) (x6 : Vec Ideal S2x64x769 .fp8e4m3) (x7 : Vec Ideal S2x64x1 .f32) (x8 : Vec Ideal S2x64x1 .f32) (i0 : Fin 128) (d : Fin 64) (I : Fin 1024) (hI : I.val = 128 * 4 + i0) :
    (kernelRun.sl.v902 c i arg2 harg2 arg3 harg3 arg4 harg4 arg5 harg5 arg6 harg6 arg7 harg7 arg8 harg8 arg9 harg9 arg10 harg10 arg16 arg17 arg18 arg19 arg20 x0 x1 x2 x3 x4 x5 x6 x7 x8) (ix3 (0 : Fin 1) i0 d) = outv (yrow (fam x3 x7 0 I) (fam x3 x8 0 I) (fun k J => x4 (ix4 (0 : Fin 1) (0 : Fin 2) k J)) (ptab x6 0) (kernelRun.sl.r c i arg2 harg2 x0) (kernelRun.sl.r_2 c i arg4 harg4 x2) I)
      (fun J => x5 (ix4 (0 : Fin 1) (0 : Fin 2) d J)) (kernelRun.sl.r_1 c i arg3 harg3 x1) := by
  rw [out0_4]
  exact piece_gen 4 _ (tiles4_spec) (by decide) _ _ _ _ _ _ _ _ (fam x3 x7 0) (fam x3 x8 0) (fun k J => x4 (ix4 (0 : Fin 1) (0 : Fin 2) k J)) (fun k J => x5 (ix4 (0 : Fin 1) (0 : Fin 2) k J)) (ptab x6 0) _ _
    (fun i k I hI => cod_u0 _ _ _ _ _ _ _ _ _ _ _ _ _ hI) (fun i k I hI => cod_v0 _ _ _ _ _ _ _ _ _ _ _ _ _ hI) (fun d col => pos_0 _ _ _ _ _ _ _ _)
    (fun i j I hI => row_u0 _ _ _ _ _ _ _ _ _ _ _ _ _ _ _ _ _ hI) (fun i j I hI => row_v0 _ _ _ _ _ _ _ _ _ _ _ _ _ _ _ _ _ hI)
    (fun k J => blk4_0 _ _ _ _ _) (fun k J => blk4_0 _ _ _ _ _) i0 d I hI

theorem piece0_5 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec Ideal S2x10 .f32) (x1 : Vec Ideal S2x10 .f32) (x2 : Vec Ideal S10 .f32) (x3 : Vec Ideal S1x2x64x1024 .bf16) (x4 : Vec Ideal S1x2x64x1024 .fp8e4m3) (x5 : Vec Ideal S1x2x64x1024 .fp8e4m3) (x6 : Vec Ideal S2x64x769 .fp8e4m3) (x7 : Vec Ideal S2x64x1 .f32) (x8 : Vec Ideal S2x64x1 .f32) (i0 : Fin 128) (d : Fin 64) (I : Fin 1024) (hI : I.val = 128 * 5 + i0) :
    (kernelRun.sl.v1024 c i arg2 harg2 arg3 harg3 arg4 harg4 arg5 harg5 arg6 harg6 arg7 harg7 arg8 harg8 arg9 harg9 arg10 harg10 arg16 arg17 arg18 arg19 arg20 x0 x1 x2 x3 x4 x5 x6 x7 x8) (ix3 (0 : Fin 1) i0 d) = outv (yrow (fam x3 x7 0 I) (fam x3 x8 0 I) (fun k J => x4 (ix4 (0 : Fin 1) (0 : Fin 2) k J)) (ptab x6 0) (kernelRun.sl.r c i arg2 harg2 x0) (kernelRun.sl.r_2 c i arg4 harg4 x2) I)
      (fun J => x5 (ix4 (0 : Fin 1) (0 : Fin 2) d J)) (kernelRun.sl.r_1 c i arg3 harg3 x1) := by
  rw [out0_5]
  exact piece_gen 5 _ (tiles5_spec) (by decide) _ _ _ _ _ _ _ _ (fam x3 x7 0) (fam x3 x8 0) (fun k J => x4 (ix4 (0 : Fin 1) (0 : Fin 2) k J)) (fun k J => x5 (ix4 (0 : Fin 1) (0 : Fin 2) k J)) (ptab x6 0) _ _
    (fun i k I hI => cod_u0 _ _ _ _ _ _ _ _ _ _ _ _ _ hI) (fun i k I hI => cod_v0 _ _ _ _ _ _ _ _ _ _ _ _ _ hI) (fun d col => pos_0 _ _ _ _ _ _ _ _)
    (fun i j I hI => row_u0 _ _ _ _ _ _ _ _ _ _ _ _ _ _ _ _ _ hI) (fun i j I hI => row_v0 _ _ _ _ _ _ _ _ _ _ _ _ _ _ _ _ _ hI)
    (fun k J => blk4_0 _ _ _ _ _) (fun k J => blk4_0 _ _ _ _ _) i0 d I hI

theorem piece0_6 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec Ideal S2x10 .f32) (x1 : Vec Ideal S2x10 .f32) (x2 : Vec Ideal S10 .f32) (x3 : Vec Ideal S1x2x64x1024 .bf16) (x4 : Vec Ideal S1x2x64x1024 .fp8e4m3) (x5 : Vec Ideal S1x2x64x1024 .fp8e4m3) (x6 : Vec Ideal S2x64x769 .fp8e4m3) (x7 : Vec Ideal S2x64x1 .f32) (x8 : Vec Ideal S2x64x1 .f32) (i0 : Fin 128) (d : Fin 64) (I : Fin 1024) (hI : I.val = 128 * 6 + i0) :
    (kernelRun.sl.v1142 c i arg2 harg2 arg3 harg3 arg4 harg4 arg5 harg5 arg6 harg6 arg7 harg7 arg8 harg8 arg9 harg9 arg10 harg10 arg16 arg17 arg18 arg19 arg20 x0 x1 x2 x3 x4 x5 x6 x7 x8) (ix3 (0 : Fin 1) i0 d) = outv (yrow (fam x3 x7 0 I) (fam x3 x8 0 I) (fun k J => x4 (ix4 (0 : Fin 1) (0 : Fin 2) k J)) (ptab x6 0) (kernelRun.sl.r c i arg2 harg2 x0) (kernelRun.sl.r_2 c i arg4 harg4 x2) I)
      (fun J => x5 (ix4 (0 : Fin 1) (0 : Fin 2) d J)) (kernelRun.sl.r_1 c i arg3 harg3 x1) := by
  rw [out0_6]
  exact piece_gen 6 _ (tiles6_spec) (by decide) _ _ _ _ _ _ _ _ (fam x3 x7 0) (fam x3 x8 0) (fun k J => x4 (ix4 (0 : Fin 1) (0 : Fin 2) k J)) (fun k J => x5 (ix4 (0 : Fin 1) (0 : Fin 2) k J)) (ptab x6 0) _ _
    (fun i k I hI => cod_u0 _ _ _ _ _ _ _ _ _ _ _ _ _ hI) (fun i k I hI => cod_v0 _ _ _ _ _ _ _ _ _ _ _ _ _ hI) (fun d col => pos_0 _ _ _ _ _ _ _ _)
    (fun i j I hI => row_u0 _ _ _ _ _ _ _ _ _ _ _ _ _ _ _ _ _ hI) (fun i j I hI => row_v0 _ _ _ _ _ _ _ _ _ _ _ _ _ _ _ _ _ hI)
    (fun k J => blk4_0 _ _ _ _ _) (fun k J => blk4_0 _ _ _ _ _) i0 d I hI

theorem piece0_7 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec Ideal S2x10 .f32) (x1 : Vec Ideal S2x10 .f32) (x2 : Vec Ideal S10 .f32) (x3 : Vec Ideal S1x2x64x1024 .bf16) (x4 : Vec Ideal S1x2x64x1024 .fp8e4m3) (x5 : Vec Ideal S1x2x64x1024 .fp8e4m3) (x6 : Vec Ideal S2x64x769 .fp8e4m3) (x7 : Vec Ideal S2x64x1 .f32) (x8 : Vec Ideal S2x64x1 .f32) (i0 : Fin 128) (d : Fin 64) (I : Fin 1024) (hI : I.val = 128 * 7 + i0) :
    (kernelRun.sl.v1256 c i arg2 harg2 arg3 harg3 arg4 harg4 arg5 harg5 arg6 harg6 arg7 harg7 arg8 harg8 arg9 harg9 arg10 harg10 arg16 arg17 arg18 arg19 arg20 x0 x1 x2 x3 x4 x5 x6 x7 x8) (ix3 (0 : Fin 1) i0 d) = outv (yrow (fam x3 x7 0 I) (fam x3 x8 0 I) (fun k J => x4 (ix4 (0 : Fin 1) (0 : Fin 2) k J)) (ptab x6 0) (kernelRun.sl.r c i arg2 harg2 x0) (kernelRun.sl.r_2 c i arg4 harg4 x2) I)
      (fun J => x5 (ix4 (0 : Fin 1) (0 : Fin 2) d J)) (kernelRun.sl.r_1 c i arg3 harg3 x1) := by
  rw [out0_7]
  exact piece_gen 7 _ (tiles7_spec) (by decide) _ _ _ _ _ _ _ _ (fam x3 x7 0) (fam x3 x8 0) (fun k J => x4 (ix4 (0 : Fin 1) (0 : Fin 2) k J)) (fun k J => x5 (ix4 (0 : Fin 1) (0 : Fin 2) k J)) (ptab x6 0) _ _
    (fun i k I hI => cod_u0 _ _ _ _ _ _ _ _ _ _ _ _ _ hI) (fun i k I hI => cod_v0 _ _ _ _ _ _ _ _ _ _ _ _ _ hI) (fun d col => pos_0 _ _ _ _ _ _ _ _)
    (fun i j I hI => row_u0 _ _ _ _ _ _ _ _ _ _ _ _ _ _ _ _ _ hI) (fun i j I hI => row_v0 _ _ _ _ _ _ _ _ _ _ _ _ _ _ _ _ _ hI)
    (fun k J => blk4_0 _ _ _ _ _) (fun k J => blk4_0 _ _ _ _ _) i0 d I hI

theorem piece1_0 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec Ideal S2x10 .f32) (x1 : Vec Ideal S2x10 .f32) (x2 : Vec Ideal S10 .f32) (x3 : Vec Ideal S1x2x64x1024 .bf16) (x4 : Vec Ideal S1x2x64x1024 .fp8e4m3) (x5 : Vec Ideal S1x2x64x1024 .fp8e4m3) (x6 : Vec Ideal S2x64x769 .fp8e4m3) (x7 : Vec Ideal S2x64x1 .f32) (x8 : Vec Ideal S2x64x1 .f32) (i0 : Fin 128) (d : Fin 64) (I : Fin 1024) (hI : I.val = 128 * 0 + i0) :
    (kernelRun.sl.v1666 c i arg2 harg2 arg3 harg3 arg4 harg4 arg5 harg5 arg6 harg6 arg7 harg7 arg8 harg8 arg9 harg9 arg10 harg10 arg16 arg17 arg18 arg19 arg20 x0 x1 x2 x3 x4 x5 x6 x7 x8) (ix3 (0 : Fin 1) i0 d) = outv (yrow (fam x3 x7 1 I) (fam x3 x8 1 I) (fun k J => x4 (ix4 (0 : Fin 1) (1 : Fin 2) k J)) (ptab x6 1) (kernelRun.sl.r_12 c i arg2 harg2 x0) (kernelRun.sl.r_14 c i arg4 harg4 x2) I)
      (fun J => x5 (ix4 (0 : Fin 1) (1 : Fin 2) d J)) (kernelRun.sl.r_13 c i arg3 harg3 x1) := by
  rw [out1_0]
  exact piece_gen 0 _ (tiles0_spec) (by decide) _ _ _ _ _ _ _ _ (fam x3 x7 1) (fam x3 x8 1) (fun k J => x4 (ix4 (0 : Fin 1) (1 : Fin 2) k J)) (fun k J => x5 (ix4 (0 : Fin 1) (1 : Fin 2) k J)) (ptab x6 1) _ _
    (fun i k I hI => cod_u1 _ _ _ _ _ _ _ _ _ _ _ _ _ hI) (fun i k I hI => cod_v1 _ _ _ _ _ _ _ _ _ _ _ _ _ hI) (fun d col => pos_1 _ _ _ _ _ _ _ _)
    (fun i j I hI => row_u1 _ _ _ _ _ _ _ _ _ _ _ _ _ _ _ _ _ hI) (fun i j I hI => row_v1 _ _ _ _ _ _ _ _ _ _ _ _ _ _ _ _ _ hI)
    (fun k J => blk4_1 _ _ _ _ _) (fun k J => blk4_1 _ _ _ _ _) i0 d I hI

theorem piece1_1 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec Ideal S2x10 .f32) (x1 : Vec Ideal S2x10 .f32) (x2 : Vec Ideal S10 .f32) (x3 : Vec Ideal S1x2x64x1024 .bf16) (x4 : Vec Ideal S1x2x64x1024 .fp8e4m3) (x5 : Vec Ideal S1x2x64x1024 .fp8e4m3) (x6 : Vec Ideal S2x64x769 .fp8e4m3) (x7 : Vec Ideal S2x64x1 .f32) (x8 : Vec Ideal S2x64x1 .f32) (i0 : Fin 128) (d : Fin 64) (I : Fin 1024) (hI : I.val = 128 * 1 + i0) :
    (kernelRun.sl.v1784 c i arg2 harg2 arg3 harg3 arg4 harg4 arg5 harg5 arg6 harg6 arg7 harg7 arg8 harg8 arg9 harg9 arg10 harg10 arg16 arg17 arg18 arg19 arg20 x0 x1 x2 x3 x4 x5 x6 x7 x8) (ix3 (0 : Fin 1) i0 d) = outv (yrow (fam x3 x7 1 I) (fam x3 x8 1 I) (fun k J => x4 (ix4 (0 : Fin 1) (1 : Fin 2) k J)) (ptab x6 1) (kernelRun.sl.r_12 c i arg2 harg2 x0) (kernelRun.sl.r_14 c i arg4 harg4 x2) I)
      (fun J => x5 (ix4 (0 : Fin 1) (1 : Fin 2) d J)) (kernelRun.sl.r_13 c i arg3 harg3 x1) := by
  rw [out1_1]
  exact piece_gen 1 _ (tiles1_spec) (by decide) _ _ _ _ _ _ _ _ (fam x3 x7 1) (fam x3 x8 1) (fun k J => x4 (ix4 (0 : Fin 1) (1 : Fin 2) k J)) (fun k J => x5 (ix4 (0 : Fin 1) (1 : Fin 2) k J)) (ptab x6 1) _ _
    (fun i k I hI => cod_u1 _ _ _ _ _ _ _ _ _ _ _ _ _ hI) (fun i k I hI => cod_v1 _ _ _ _ _ _ _ _ _ _ _ _ _ hI) (fun d col => pos_1 _ _ _ _ _ _ _ _)
    (fun i j I hI => row_u1 _ _ _ _ _ _ _ _ _ _ _ _ _ _ _ _ _ hI) (fun i j I hI => row_v1 _ _ _ _ _ _ _ _ _ _ _ _ _ _ _ _ _ hI)
    (fun k J => blk4_1 _ _ _ _ _) (fun k J => blk4_1 _ _ _ _ _) i0 d I hI

theorem piece1_2 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec Ideal S2x10 .f32) (x1 : Vec Ideal S2x10 .f32) (x2 : Vec Ideal S10 .f32) (x3 : Vec Ideal S1x2x64x1024 .bf16) (x4 : Vec Ideal S1x2x64x1024 .fp8e4m3) (x5 : Vec Ideal S1x2x64x1024 .fp8e4m3) (x6 : Vec Ideal S2x64x769 .fp8e4m3) (x7 : Vec Ideal S2x64x1 .f32) (x8 : Vec Ideal S2x64x1 .f32) (i0 : Fin 128) (d : Fin 64) (I : Fin 1024) (hI : I.val = 128 * 2 + i0) :
    (kernelRun.sl.v1906 c i arg2 harg2 arg3 harg3 arg4 harg4 arg5 harg5 arg6 harg6 arg7 harg7 arg8 harg8 arg9 harg9 arg10 harg10 arg16 arg17 arg18 arg19 arg20 x0 x1 x2 x3 x4 x5 x6 x7 x8) (ix3 (0 : Fin 1) i0 d) = outv (yrow (fam x3 x7 1 I) (fam x3 x8 1 I) (fun k J => x4 (ix4 (0 : Fin 1) (1 : Fin 2) k J)) (ptab x6 1) (kernelRun.sl.r_12 c i arg2 harg2 x0) (kernelRun.sl.r_14 c i arg4 harg4 x2) I)
      (fun J => x5 (ix4 (0 : Fin 1) (1 : Fin 2) d J)) (kernelRun.sl.r_13 c i arg3 harg3 x1) := by
  rw [out1_2]
  exact piece_gen 2 _ (tiles2_spec) (by decide) _ _ _ _ _ _ _ _ (fam x3 x7 1) (fam x3 x8 1) (fun k J => x4 (ix4 (0 : Fin 1) (1 : Fin 2) k J)) (fun k J => x5 (ix4 (0 : Fin 1) (1 : Fin 2) k J)) (ptab x6 1) _ _
    (fun i k I hI => cod_u1 _ _ _ _ _ _ _ _ _ _ _ _ _ hI) (fun i k I hI => cod_v1 _ _ _ _ _ _ _ _ _ _ _ _ _ hI) (fun d col => pos_1 _ _ _ _ _ _ _ _)
    (fun i j I hI => row_u1 _ _ _ _ _ _ _ _ _ _ _ _ _ _ _ _ _ hI) (fun i j I hI => row_v1 _ _ _ _ _ _ _ _ _ _ _ _ _ _ _ _ _ hI)
    (fun k J => blk4_1 _ _ _ _ _) (fun k J => blk4_1 _ _ _ _ _) i0 d I hI

theorem piece1_3 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec Ideal S2x10 .f32) (x1 : Vec Ideal S2x10 .f32) (x2 : Vec Ideal S10 .f32) (x3 : Vec Ideal S1x2x64x1024 .bf16) (x4 : Vec Ideal S1x2x64x1024 .fp8e4m3) (x5 : Vec Ideal S1x2x64x1024 .fp8e4m3) (x6 : Vec Ideal S2x64x769 .fp8e4m3) (x7 : Vec Ideal S2x64x1 .f32) (x8 : Vec Ideal S2x64x1 .f32) (i0 : Fin 128) (d : Fin 64) (I : Fin 1024) (hI : I.val = 128 * 3 + i0) :
    (kernelRun.sl.v2031 c i arg2 harg2 arg3 harg3 arg4 harg4 arg5 harg5 arg6 harg6 arg7 harg7 arg8 harg8 arg9 harg9 arg10 harg10 arg16 arg17 arg18 arg19 arg20 x0 x1 x2 x3 x4 x5 x6 x7 x8) (ix3 (0 : Fin 1) i0 d) = outv (yrow (fam x3 x7 1 I) (fam x3 x8 1 I) (fun k J => x4 (ix4 (0 : Fin 1) (1 : Fin 2) k J)) (ptab x6 1) (kernelRun.sl.r_12 c i arg2 harg2 x0) (kernelRun.sl.r_14 c i arg4 harg4 x2) I)
      (fun J => x5 (ix4 (0 : Fin 1) (1 : Fin 2) d J)) (kernelRun.sl.r_13 c i arg3 harg3 x1) := by
  rw [out1_3]
  exact piece_gen 3 _ (tiles3_spec) (by decide) _ _ _ _ _ _ _ _ (fam x3 x7 1) (fam x3 x8 1) (fun k J => x4 (ix4 (0 : Fin 1) (1 : Fin 2) k J)) (fun k J => x5 (ix4 (0 : Fin 1) (1 : Fin 2) k J)) (ptab x6 1) _ _
    (fun i k I hI => cod_u1 _ _ _ _ _ _ _ _ _ _ _ _ _ hI) (fun i k I hI => cod_v1 _ _ _ _ _ _ _ _ _ _ _ _ _ hI) (fun d col => pos_1 _ _ _ _ _ _ _ _)
    (fun i j I hI => row_u1 _ _ _ _ _ _ _ _ _ _ _ _ _ _ _ _ _ hI) (fun i j I hI => row_v1 _ _ _ _ _ _ _ _ _ _ _ _ _ _ _ _ _ hI)
    (fun k J => blk4_1 _ _ _ _ _) (fun k J => blk4_1 _ _ _ _ _) i0 d I hI

theorem piece1_4 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec Ideal S2x10 .f32) (x1 : Vec Ideal S2x10 .f32) (x2 : Vec Ideal S10 .f32) (x3 : Vec Ideal S1x2x64x1024 .bf16) (x4 : Vec Ideal S1x2x64x1024 .fp8e4m3) (x5 : Vec Ideal S1x2x64x1024 .fp8e4m3) (x6 : Vec Ideal S2x64x769 .fp8e4m3) (x7 : Vec Ideal S2x64x1 .f32) (x8 : Vec Ideal S2x64x1 .f32) (i0 : Fin 128) (d : Fin 64) (I : Fin 1024) (hI : I.val = 128 * 4 + i0) :
    (kernelRun.sl.v2156 c i arg2 harg2 arg3 harg3 arg4 harg4 arg5 harg5 arg6 harg6 arg7 harg7 arg8 harg8 arg9 harg9 arg10 harg10 arg16 arg17 arg18 arg19 arg20 x0 x1 x2 x3 x4 x5 x6 x7 x8) (ix3 (0 : Fin 1) i0 d) = outv (yrow (fam x3 x7 1 I) (fam x3 x8 1 I) (fun k J => x4 (ix4 (0 : Fin 1) (1 : Fin 2) k J)) (ptab x6 1) (kernelRun.sl.r_12 c i arg2 harg2 x0) (kernelRun.sl.r_14 c i arg4 harg4 x2) I)
      (fun J => x5 (ix4 (0 : Fin 1) (1 : Fin 2) d J)) (kernelRun.sl.r_13 c i arg3 harg3 x1) := by
  rw [out1_4]
  exact piece_gen 4 _ (tiles4_spec) (by decide) _ _ _ _ _ _ _ _ (fam x3 x7 1) (fam x3 x8 1) (fun k J => x4 (ix4 (0 : Fin 1) (1 : Fin 2) k J)) (fun k J => x5 (ix4 (0 : Fin 1) (1 : Fin 2) k J)) (ptab x6 1) _ _
    (fun i k I hI => cod_u1 _ _ _ _ _ _ _ _ _ _ _ _ _ hI) (fun i k I hI => cod_v1 _ _ _ _ _ _ _ _ _ _ _ _ _ hI) (fun d col => pos_1 _ _ _ _ _ _ _ _)
    (fun i j I hI => row_u1 _ _ _ _ _ _ _ _ _ _ _ _ _ _ _ _ _ hI) (fun i j I hI => row_v1 _ _ _ _ _ _ _ _ _ _ _ _ _ _ _ _ _ hI)
    (fun k J => blk4_1 _ _ _ _ _) (fun k J => blk4_1 _ _ _ _ _) i0 d I hI

theorem piece1_5 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec Ideal S2x10 .f32) (x1 : Vec Ideal S2x10 .f32) (x2 : Vec Ideal S10 .f32) (x3 : Vec Ideal S1x2x64x1024 .bf16) (x4 : Vec Ideal S1x2x64x1024 .fp8e4m3) (x5 : Vec Ideal S1x2x64x1024 .fp8e4m3) (x6 : Vec Ideal S2x64x769 .fp8e4m3) (x7 : Vec Ideal S2x64x1 .f32) (x8 : Vec Ideal S2x64x1 .f32) (i0 : Fin 128) (d : Fin 64) (I : Fin 1024) (hI : I.val = 128 * 5 + i0) :
    (kernelRun.sl.v2278 c i arg2 harg2 arg3 harg3 arg4 harg4 arg5 harg5 arg6 harg6 arg7 harg7 arg8 harg8 arg9 harg9 arg10 harg10 arg16 arg17 arg18 arg19 arg20 x0 x1 x2 x3 x4 x5 x6 x7 x8) (ix3 (0 : Fin 1) i0 d) = outv (yrow (fam x3 x7 1 I) (fam x3 x8 1 I) (fun k J => x4 (ix4 (0 : Fin 1) (1 : Fin 2) k J)) (ptab x6 1) (kernelRun.sl.r_12 c i arg2 harg2 x0) (kernelRun.sl.r_14 c i arg4 harg4 x2) I)
      (fun J => x5 (ix4 (0 : Fin 1) (1 : Fin 2) d J)) (kernelRun.sl.r_13 c i arg3 harg3 x1) := by
  rw [out1_5]
  exact piece_gen 5 _ (tiles5_spec) (by decide) _ _ _ _ _ _ _ _ (fam x3 x7 1) (fam x3 x8 1) (fun k J => x4 (ix4 (0 : Fin 1) (1 : Fin 2) k J)) (fun k J => x5 (ix4 (0 : Fin 1) (1 : Fin 2) k J)) (ptab x6 1) _ _
    (fun i k I hI => cod_u1 _ _ _ _ _ _ _ _ _ _ _ _ _ hI) (fun i k I hI => cod_v1 _ _ _ _ _ _ _ _ _ _ _ _ _ hI) (fun d col => pos_1 _ _ _ _ _ _ _ _)
    (fun i j I hI => row_u1 _ _ _ _ _ _ _ _ _ _ _ _ _ _ _ _ _ hI) (fun i j I hI => row_v1 _ _ _ _ _ _ _ _ _ _ _ _ _ _ _ _ _ hI)
    (fun k J => blk4_1 _ _ _ _ _) (fun k J => blk4_1 _ _ _ _ _) i0 d I hI

theorem piece1_6 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec Ideal S2x10 .f32) (x1 : Vec Ideal S2x10 .f32) (x2 : Vec Ideal S10 .f32) (x3 : Vec Ideal S1x2x64x1024 .bf16) (x4 : Vec Ideal S1x2x64x1024 .fp8e4m3) (x5 : Vec Ideal S1x2x64x1024 .fp8e4m3) (x6 : Vec Ideal S2x64x769 .fp8e4m3) (x7 : Vec Ideal S2x64x1 .f32) (x8 : Vec Ideal S2x64x1 .f32) (i0 : Fin 128) (d : Fin 64) (I : Fin 1024) (hI : I.val = 128 * 6 + i0) :
    (kernelRun.sl.v2396 c i arg2 harg2 arg3 harg3 arg4 harg4 arg5 harg5 arg6 harg6 arg7 harg7 arg8 harg8 arg9 harg9 arg10 harg10 arg16 arg17 arg18 arg19 arg20 x0 x1 x2 x3 x4 x5 x6 x7 x8) (ix3 (0 : Fin 1) i0 d) = outv (yrow (fam x3 x7 1 I) (fam x3 x8 1 I) (fun k J => x4 (ix4 (0 : Fin 1) (1 : Fin 2) k J)) (ptab x6 1) (kernelRun.sl.r_12 c i arg2 harg2 x0) (kernelRun.sl.r_14 c i arg4 harg4 x2) I)
      (fun J => x5 (ix4 (0 : Fin 1) (1 : Fin 2) d J)) (kernelRun.sl.r_13 c i arg3 harg3 x1) := by
  rw [out1_6]
  exact piece_gen 6 _ (tiles6_spec) (by decide) _ _ _ _ _ _ _ _ (fam x3 x7 1) (fam x3 x8 1) (fun k J => x4 (ix4 (0 : Fin 1) (1 : Fin 2) k J)) (fun k J => x5 (ix4 (0 : Fin 1) (1 : Fin 2) k J)) (ptab x6 1) _ _
    (fun i k I hI => cod_u1 _ _ _ _ _ _ _ _ _ _ _ _ _ hI) (fun i k I hI => cod_v1 _ _ _ _ _ _ _ _ _ _ _ _ _ hI) (fun d col => pos_1 _ _ _ _ _ _ _ _)
    (fun i j I hI => row_u1 _ _ _ _ _ _ _ _ _ _ _ _ _ _ _ _ _ hI) (fun i j I hI => row_v1 _ _ _ _ _ _ _ _ _ _ _ _ _ _ _ _ _ hI)
    (fun k J => blk4_1 _ _ _ _ _) (fun k J => blk4_1 _ _ _ _ _) i0 d I hI

theorem piece1_7 (c : Dev nD) (i : grid0.Coords) (arg2 : Memref sig .tc .smem S2x10 .f32) (harg2 : arg2.IsWhole) (arg3 : Memref sig .tc .smem S2x10 .f32) (harg3 : arg3.IsWhole) (arg4 : Memref sig .tc .smem S10 .f32) (harg4 : arg4.IsWhole) (arg5 : Memref sig .tc .vmem S1x2x64x1024 .bf16) (harg5 : arg5.IsWhole) (arg6 : Memref sig .tc .vmem S1x2x64x1024 .fp8e4m3) (harg6 : arg6.IsWhole) (arg7 : Memref sig .tc .vmem S1x2x64x1024 .fp8e4m3) (harg7 : arg7.IsWhole) (arg8 : Memref sig .tc .vmem S2x64x769 .fp8e4m3) (harg8 : arg8.IsWhole) (arg9 : Memref sig .tc .vmem S2x64x1 .f32) (harg9 : arg9.IsWhole) (arg10 : Memref sig .tc .vmem S2x64x1 .f32) (harg10 : arg10.IsWhole) (arg16 : Memref sig .tc .vmem S64x1024 .fp8e4m3) (arg17 : Memref sig .tc .vmem S1024x64 .fp8e4m3) (arg18 : Memref sig .tc .vmem S1024x64 .fp8e4m3) (arg19 : Memref sig .tc .vmem S1024x128 .f32) (arg20 : Memref sig .tc .vmem S1024x128 .f32) (x0 : Vec Ideal S2x10 .f32) (x1 : Vec Ideal S2x10 .f32) (x2 : Vec Ideal S10 .f32) (x3 : Vec Ideal S1x2x64x1024 .bf16) (x4 : Vec Ideal S1x2x64x1024 .fp8e4m3) (x5 : Vec Ideal S1x2x64x1024 .fp8e4m3) (x6 : Vec Ideal S2x64x769 .fp8e4m3) (x7 : Vec Ideal S2x64x1 .f32) (x8 : Vec Ideal S2x64x1 .f32) (i0 : Fin 128) (d : Fin 64) (I : Fin 1024) (hI : I.val = 128 * 7 + i0) :
    (k0_pay1 (kernelRun.sl.r_13 c i arg3 harg3 x1) (kernelRun.sl.v2435 c i arg2 harg2 arg4 harg4 arg5 harg5 arg6 harg6 arg8 harg8 arg9 harg9 arg10 harg10 arg16 arg17 arg18 arg19 arg20 x0 x2 x3 x4 x6 x7 x8) (kernelRun.sl.v2439 c i arg2 harg2 arg4 harg4 arg5 harg5 arg6 harg6 arg8 harg8 arg9 harg9 arg10 harg10 arg16 arg17 arg18 arg19 arg20 x0 x2 x3 x4 x6 x7 x8) (kernelRun.sl.v2443 c i arg2 harg2 arg4 harg4 arg5 harg5 arg6 harg6 arg8 harg8 arg9 harg9 arg10 harg10 arg16 arg17 arg18 arg19 arg20 x0 x2 x3 x4 x6 x7 x8) (kernelRun.sl.v2447 c i arg2 harg2 arg4 harg4 arg5 harg5 arg6 harg6 arg8 harg8 arg9 harg9 arg10 harg10 arg16 arg17 arg18 arg19 arg20 x0 x2 x3 x4 x6 x7 x8) (kernelRun.sl.v2456 c i arg2 harg2 arg4 harg4 arg5 harg5 arg6 harg6 arg8 harg8 arg9 harg9 arg10 harg10 arg16 arg17 arg18 arg19 arg20 x0 x2 x3 x4 x6 x7 x8) (kernelRun.sl.v2459 c i arg2 harg2 arg4 harg4 arg5 harg5 arg6 harg6 arg8 harg8 arg9 harg9 arg10 harg10 arg16 arg17 arg18 arg19 arg20 x0 x2 x3 x4 x6 x7 x8) (kernelRun.sl.v2462 c i arg2 harg2 arg4 harg4 arg5 harg5 arg6 harg6 arg8 harg8 arg9 harg9 arg10 harg10 arg16 arg17 arg18 arg19 arg20 x0 x2 x3 x4 x6 x7 x8) (kernelRun.sl.r_20 c i arg2 harg2 arg4 harg4 arg5 harg5 arg6 harg6 arg8 harg8 arg9 harg9 arg10 harg10 arg16 arg17 arg18 arg19 arg20 x0 x2 x3 x4 x6 x7 x8) (kernelRun.sl.r_21 c i arg2 harg2 arg4 harg4 arg5 harg5 arg6 harg6 arg8 harg8 arg9 harg9 arg10 harg10 arg16 arg17 arg18 arg19 arg20 x0 x2 x3 x4 x6 x7 x8) (kernelRun.sl.r_22 c i arg2 harg2 arg4 harg4 arg5 harg5 arg6 harg6 arg8 harg8 arg9 harg9 arg10 harg10 arg16 arg17 arg18 arg19 arg20 x0 x2 x3 x4 x6 x7 x8) (kernelRun.sl.v2499 c arg7 harg7 x5)) (ix3 (0 : Fin 1) i0 d) = outv (yrow (fam x3 x7 1 I) (fam x3 x8 1 I) (fun k J => x4 (ix4 (0 : Fin 1) (1 : Fin 2) k J)) (ptab x6 1) (kernelRun.sl.r_12 c i arg2 harg2 x0) (kernelRun.sl.r_14 c i arg4 harg4 x2) I)
      (fun J => x5 (ix4 (0 : Fin 1) (1 : Fin 2) d J)) (kernelRun.sl.r_13 c i arg3 harg3 x1) := by
  rw [out1_7]
  exact piece_gen 7 _ (tiles7_spec) (by decide) _ _ _ _ _ _ _ _ (fam x3 x7 1) (fam x3 x8 1) (fun k J => x4 (ix4 (0 : Fin 1) (1 : Fin 2) k J)) (fun k J => x5 (ix4 (0 : Fin 1) (1 : Fin 2) k J)) (ptab x6 1) _ _
    (fun i k I hI => cod_u1 _ _ _ _ _ _ _ _ _ _ _ _ _ hI) (fun i k I hI => cod_v1 _ _ _ _ _ _ _ _ _ _ _ _ _ hI) (fun d col => pos_1 _ _ _ _ _ _ _ _)
    (fun i j I hI => row_u1 _ _ _ _ _ _ _ _ _ _ _ _ _ _ _ _ _ hI) (fun i j I hI => row_v1 _ _ _ _ _ _ _ _ _ _ _ _ _ _ _ _ _ hI)
    (fun k J => blk4_1 _ _ _ _ _) (fun k J => blk4_1 _ _ _ _ _) i0 d I hI

end Cert.KernelIdeal.Val

end
-- ==== Proof.Val.Spec.lean ====
module

public import proofs.«01_k».proof.Proof.Val.Heads

@[expose] public section

noncomputable section

namespace Cert.Val

open Idealize.ShloMosaic Idealize.ShloMosaic.ValueIdx Cert.KernelIdeal.Val

/-- The query of a batch and head at a position plus the head's bias. -/
def famA (q : (⟨4, ![2, 1024, 10, 64]⟩ : Shape).Idx → EReal) (b : (⟨2, ![10, 64]⟩ : Shape).Idx → EReal) (n : Fin 2) (h : Fin 10) (I : Fin 1024) (d : Fin 64) : EReal :=
  q (ix4 n I h d) + b (ix2 h d)

/-- The position codes of a head by row number. -/
def posA (p : (⟨3, ![769, 10, 64]⟩ : Shape).Idx → EReal) (h : Fin 10) (d : Fin 64) (r : ℕ) : EReal :=
  if hr : r < 769 then p (ix3 (⟨r, hr⟩ : Fin 769) h d) else 0

/-- The attention of one batch and head at a position and a lane. -/
def outA (q : (⟨4, ![2, 1024, 10, 64]⟩ : Shape).Idx → EReal) (k : (⟨4, ![2, 1024, 10, 64]⟩ : Shape).Idx → EReal)
    (ks : (⟨2, ![2, 10]⟩ : Shape).Idx → EReal) (v : (⟨4, ![2, 1024, 10, 64]⟩ : Shape).Idx → EReal) (vs : (⟨2, ![2, 10]⟩ : Shape).Idx → EReal)
    (p : (⟨3, ![769, 10, 64]⟩ : Shape).Idx → EReal) (ps : (⟨1, ![10]⟩ : Shape).Idx → EReal) (bu bv : (⟨2, ![10, 64]⟩ : Shape).Idx → EReal)
    (n : Fin 2) (h : Fin 10) (I : Fin 1024) (d : Fin 64) : EReal :=
  outv (yrow (famA q bu n h I) (famA q bv n h I) (fun e J => k (ix4 n J h e)) (posA p h) (ks (ix2 n h)) (ps (ix1 h)) I)
    (fun J => v (ix4 n J h d)) (vs (ix2 n h))

end Cert.Val

end
-- ==== Proof.Val.Pts.lean ====
module

public import proofs.«01_k».proof.Proof.Val.Spec
public import proofs.«01_k».proof.Proof.KI.Frame
public import Idealize.ShloMosaic.Lib.Pipeline.ValueKit

@[expose] public section

set_option maxRecDepth 16384

noncomputable section

namespace Cert.KernelIdeal.Val

open Idealize.ShloMosaic hiding ix1 ix2 ix3 ix4 ix5
open Idealize.ShloMosaic.TcCoe Idealize.ShloMosaic.ValueIdx Cert.KernelIdeal.Gen Cert.Val

variable (m : (ℓ : Loc nD τ sig) → Buf (Elt Ideal) ℓ)

/-- The batch of a point. -/
def bt (t : Fin cfg0.N) : Fin 2 := ⟨t.val % 2, by omega⟩
/-- The head of a point's pair. -/
def hd (t : Fin cfg0.N) (h : Fin 2) : Fin 10 := ⟨2 * (t.val / 2) + h.val, by have h1 : cfg0.N = 10 := N_0; have := t.isLt; omega⟩

theorem V_v0 (c : Dev nD) (n : Fin 2) (h : Fin 10) (d : Fin 64) (I : Fin 1024) :
    V m c main_v0 (ix4 n h d I) = m ((c : Thread nD τ).loc main_arg0) (ix4 n I h d) := by
  entry_read
  exact transpose_apply _ _ transposes_S2x1024x10x64_S2x10x64x1024_0_2_3_1 _ _ fun b => by
    match b with
    | ⟨0, _⟩ => rfl
    | ⟨1, _⟩ => rfl
    | ⟨2, _⟩ => rfl
    | ⟨3, _⟩ => rfl

theorem V_v1 (c : Dev nD) (n : Fin 2) (h : Fin 10) (d : Fin 64) (I : Fin 1024) :
    V m c main_v1 (ix4 n h d I) = m ((c : Thread nD τ).loc main_arg1) (ix4 n I h d) := by
  entry_read
  exact transpose_apply _ _ transposes_S2x1024x10x64_S2x10x64x1024_0_2_3_1 _ _ fun b => by
    match b with
    | ⟨0, _⟩ => rfl
    | ⟨1, _⟩ => rfl
    | ⟨2, _⟩ => rfl
    | ⟨3, _⟩ => rfl

theorem V_v2 (c : Dev nD) (n : Fin 2) (h : Fin 10) (d : Fin 64) (I : Fin 1024) :
    V m c main_v2 (ix4 n h d I) = m ((c : Thread nD τ).loc main_arg3) (ix4 n I h d) := by
  entry_read
  exact transpose_apply _ _ transposes_S2x1024x10x64_S2x10x64x1024_0_2_3_1 _ _ fun b => by
    match b with
    | ⟨0, _⟩ => rfl
    | ⟨1, _⟩ => rfl
    | ⟨2, _⟩ => rfl
    | ⟨3, _⟩ => rfl

theorem V_v3 (c : Dev nD) (h : Fin 10) (d : Fin 64) (r : Fin 769) :
    V m c main_v3 (ix3 h d r) = m ((c : Thread nD τ).loc main_arg5) (ix3 r h d) := by
  entry_read
  exact transpose_apply _ _ transposes_S769x10x64_S10x64x769_1_2_0 _ _ fun b => by
    match b with
    | ⟨0, _⟩ => rfl
    | ⟨1, _⟩ => rfl
    | ⟨2, _⟩ => rfl

theorem V_v4 (c : Dev nD) (h : Fin 10) (d : Fin 64) :
    V m c main_v4 (ix3 h d (0 : Fin 1)) = m ((c : Thread nD τ).loc main_arg7) (ix2 h d) := by
  entry_read
  exact broadcastInDim_apply _ bcast_S10x64_S10x64x1_0_1 _ _ _ fun b => by
    match b with
    | ⟨0, _⟩ => rfl
    | ⟨1, _⟩ => rfl

theorem V_v5 (c : Dev nD) (h : Fin 10) (d : Fin 64) :
    V m c main_v5 (ix3 h d (0 : Fin 1)) = m ((c : Thread nD τ).loc main_arg8) (ix2 h d) := by
  entry_read
  exact broadcastInDim_apply _ bcast_S10x64_S10x64x1_0_1 _ _ _ fun b => by
    match b with
    | ⟨0, _⟩ => rfl
    | ⟨1, _⟩ => rfl

theorem idx0 (t : Fin cfg0.N) : (cfg0.win 0).index t = ![0, 0] := by
  revert t; decide

theorem idx1 (t : Fin cfg0.N) : (cfg0.win 1).index t = ![0, 0] := by
  revert t; decide

theorem idx2 (t : Fin cfg0.N) : (cfg0.win 2).index t = ![0] := by
  revert t; decide

theorem idx3 (t : Fin cfg0.N) : (cfg0.win 3).index t = ![t.val % 2, t.val / 2, 0, 0] := by
  revert t; decide

theorem idx4 (t : Fin cfg0.N) : (cfg0.win 4).index t = ![t.val % 2, t.val / 2, 0, 0] := by
  revert t; decide

theorem idx5 (t : Fin cfg0.N) : (cfg0.win 5).index t = ![t.val % 2, t.val / 2, 0, 0] := by
  revert t; decide

theorem idx6 (t : Fin cfg0.N) : (cfg0.win 6).index t = ![t.val / 2, 0, 0] := by
  revert t; decide

theorem idx7 (t : Fin cfg0.N) : (cfg0.win 7).index t = ![t.val / 2, 0, 0] := by
  revert t; decide

theorem idx8 (t : Fin cfg0.N) : (cfg0.win 8).index t = ![t.val / 2, 0, 0] := by
  revert t; decide

theorem idx9 (t : Fin cfg0.N) : (cfg0.win 9).index t = ![t.val % 2, 0, t.val / 2] := by
  revert t; decide

theorem idx10 (t : Fin cfg0.N) : (cfg0.win 10).index t = ![t.val % 2, t.val / 2, 0, 0] := by
  revert t; decide

theorem idx11 (t : Fin cfg0.N) : (cfg0.win 11).index t = ![t.val / 2, 0, 0] := by
  revert t; decide

theorem idx12 (t : Fin cfg0.N) : (cfg0.win 12).index t = ![t.val % 2, t.val / 2, 0, 0] := by
  revert t; decide

theorem idx13 (t : Fin cfg0.N) : (cfg0.win 13).index t = ![t.val / 2, 0, 0] := by
  revert t; decide

theorem iblk0 (c : Dev nD) (t : Fin cfg0.N) (n : Fin 2) (h : Fin 10) :
    iblk m c 0 t (ix2 n h) = m ((c : Thread nD τ).loc main_arg2) (ix2 n h) := by
  rw [← V_main_arg2 m c]
  have e := (cfg0.win 0).rect_emb_val t (ix2 n h)
  rw [idx0] at e
  refine congrArg (V m c main_arg2) (funext fun a => Fin.ext ((e a).trans ?_))
  match a with
  | ⟨0, _⟩ => exact Nat.zero_add _
  | ⟨1, _⟩ => exact Nat.zero_add _

theorem iblk1 (c : Dev nD) (t : Fin cfg0.N) (n : Fin 2) (h : Fin 10) :
    iblk m c 1 t (ix2 n h) = m ((c : Thread nD τ).loc main_arg4) (ix2 n h) := by
  rw [← V_main_arg4 m c]
  have e := (cfg0.win 1).rect_emb_val t (ix2 n h)
  rw [idx1] at e
  refine congrArg (V m c main_arg4) (funext fun a => Fin.ext ((e a).trans ?_))
  match a with
  | ⟨0, _⟩ => exact Nat.zero_add _
  | ⟨1, _⟩ => exact Nat.zero_add _

theorem iblk2 (c : Dev nD) (t : Fin cfg0.N) (h : Fin 10) :
    iblk m c 2 t (ix1 h) = m ((c : Thread nD τ).loc main_arg6) (ix1 h) := by
  rw [← V_main_arg6 m c]
  have e := (cfg0.win 2).rect_emb_val t (ix1 h)
  rw [idx2] at e
  refine congrArg (V m c main_arg6) (funext fun a => Fin.ext ((e a).trans ?_))
  match a with
  | ⟨0, _⟩ => exact Nat.zero_add _

theorem iblk3 (c : Dev nD) (t : Fin cfg0.N) (h : Fin 2) (d : Fin 64) (I : Fin 1024) :
    iblk m c 3 t (ix4 (0 : Fin 1) h d I) = m ((c : Thread nD τ).loc main_arg0) (ix4 (bt t) I (hd t h) d) := by
  rw [← V_v0 m c]
  have e := (cfg0.win 3).rect_emb_val t (ix4 (0 : Fin 1) h d I)
  rw [idx3] at e
  refine congrArg (V m c main_v0) (funext fun a => Fin.ext ((e a).trans ?_))
  match a with
  | ⟨0, _⟩ => exact (Nat.mul_one _)
  | ⟨1, _⟩ => exact congrArg (· + h.val) (Nat.mul_comm _ _)
  | ⟨2, _⟩ => exact Nat.zero_add _
  | ⟨3, _⟩ => exact Nat.zero_add _

theorem iblk4 (c : Dev nD) (t : Fin cfg0.N) (h : Fin 2) (d : Fin 64) (I : Fin 1024) :
    iblk m c 4 t (ix4 (0 : Fin 1) h d I) = m ((c : Thread nD τ).loc main_arg1) (ix4 (bt t) I (hd t h) d) := by
  rw [← V_v1 m c]
  have e := (cfg0.win 4).rect_emb_val t (ix4 (0 : Fin 1) h d I)
  rw [idx4] at e
  refine congrArg (V m c main_v1) (funext fun a => Fin.ext ((e a).trans ?_))
  match a with
  | ⟨0, _⟩ => exact (Nat.mul_one _)
  | ⟨1, _⟩ => exact congrArg (· + h.val) (Nat.mul_comm _ _)
  | ⟨2, _⟩ => exact Nat.zero_add _
  | ⟨3, _⟩ => exact Nat.zero_add _

theorem iblk5 (c : Dev nD) (t : Fin cfg0.N) (h : Fin 2) (d : Fin 64) (I : Fin 1024) :
    iblk m c 5 t (ix4 (0 : Fin 1) h d I) = m ((c : Thread nD τ).loc main_arg3) (ix4 (bt t) I (hd t h) d) := by
  rw [← V_v2 m c]
  have e := (cfg0.win 5).rect_emb_val t (ix4 (0 : Fin 1) h d I)
  rw [idx5] at e
  refine congrArg (V m c main_v2) (funext fun a => Fin.ext ((e a).trans ?_))
  match a with
  | ⟨0, _⟩ => exact (Nat.mul_one _)
  | ⟨1, _⟩ => exact congrArg (· + h.val) (Nat.mul_comm _ _)
  | ⟨2, _⟩ => exact Nat.zero_add _
  | ⟨3, _⟩ => exact Nat.zero_add _

theorem iblk6 (c : Dev nD) (t : Fin cfg0.N) (h : Fin 2) (d : Fin 64) (r : Fin 769) :
    iblk m c 6 t (ix3 h d r) = m ((c : Thread nD τ).loc main_arg5) (ix3 r (hd t h) d) := by
  rw [← V_v3 m c]
  have e := (cfg0.win 6).rect_emb_val t (ix3 h d r)
  rw [idx6] at e
  refine congrArg (V m c main_v3) (funext fun a => Fin.ext ((e a).trans ?_))
  match a with
  | ⟨0, _⟩ => exact congrArg (· + h.val) (Nat.mul_comm _ _)
  | ⟨1, _⟩ => exact Nat.zero_add _
  | ⟨2, _⟩ => exact Nat.zero_add _

theorem iblk7 (c : Dev nD) (t : Fin cfg0.N) (h : Fin 2) (d : Fin 64) :
    iblk m c 7 t (ix3 h d (0 : Fin 1)) = m ((c : Thread nD τ).loc main_arg7) (ix2 (hd t h) d) := by
  rw [← V_v4 m c]
  have e := (cfg0.win 7).rect_emb_val t (ix3 h d (0 : Fin 1))
  rw [idx7] at e
  refine congrArg (V m c main_v4) (funext fun a => Fin.ext ((e a).trans ?_))
  match a with
  | ⟨0, _⟩ => exact congrArg (· + h.val) (Nat.mul_comm _ _)
  | ⟨1, _⟩ => exact Nat.zero_add _
  | ⟨2, _⟩ => rfl

theorem iblk8 (c : Dev nD) (t : Fin cfg0.N) (h : Fin 2) (d : Fin 64) :
    iblk m c 8 t (ix3 h d (0 : Fin 1)) = m ((c : Thread nD τ).loc main_arg8) (ix2 (hd t h) d) := by
  rw [← V_v5 m c]
  have e := (cfg0.win 8).rect_emb_val t (ix3 h d (0 : Fin 1))
  rw [idx8] at e
  refine congrArg (V m c main_v5) (funext fun a => Fin.ext ((e a).trans ?_))
  match a with
  | ⟨0, _⟩ => exact congrArg (· + h.val) (Nat.mul_comm _ _)
  | ⟨1, _⟩ => exact Nat.zero_add _
  | ⟨2, _⟩ => rfl

theorem off1_0 (t : Fin cfg0.N) : k0_off1 (grid0.coords t) 0#32 = ![(bt t).val, (hd t 0).val] := by
  revert t; decide

theorem off2_0 (t : Fin cfg0.N) : k0_off2 (grid0.coords t) 0#32 = ![(hd t 0).val] := by
  revert t; decide

theorem off1_1 (t : Fin cfg0.N) : k0_off1 (grid0.coords t) 1#32 = ![(bt t).val, (hd t 1).val] := by
  revert t; decide

theorem off2_1 (t : Fin cfg0.N) : k0_off2 (grid0.coords t) 1#32 = ![(hd t 1).val] := by
  revert t; decide

theorem r_eq (c : Dev nD) (t : Fin cfg0.N) (arg2 : Memref sig .tc .smem S2x10 .f32) (harg2 : arg2.IsWhole) (x0 : Vec Ideal S2x10 .f32) :
    kernelRun.sl.r c (grid0.coords t) arg2 harg2 x0 = x0 (ix2 (bt t) (hd t 0)) :=
  readAt_block arg2 harg2 x0 _ _ _ _ _ (fun a => by
    match a with
    | ⟨0, _⟩ => exact (congrFun (off1_0 t) 0).symm
    | ⟨1, _⟩ => exact (congrFun (off1_0 t) 1).symm)

theorem r_1_eq (c : Dev nD) (t : Fin cfg0.N) (arg3 : Memref sig .tc .smem S2x10 .f32) (harg3 : arg3.IsWhole) (x1 : Vec Ideal S2x10 .f32) :
    kernelRun.sl.r_1 c (grid0.coords t) arg3 harg3 x1 = x1 (ix2 (bt t) (hd t 0)) :=
  readAt_block arg3 harg3 x1 _ _ _ _ _ (fun a => by
    match a with
    | ⟨0, _⟩ => exact (congrFun (off1_0 t) 0).symm
    | ⟨1, _⟩ => exact (congrFun (off1_0 t) 1).symm)

theorem r_2_eq (c : Dev nD) (t : Fin cfg0.N) (arg4 : Memref sig .tc .smem S10 .f32) (harg4 : arg4.IsWhole) (x2 : Vec Ideal S10 .f32) :
    kernelRun.sl.r_2 c (grid0.coords t) arg4 harg4 x2 = x2 (ix1 (hd t 0)) :=
  readAt_block arg4 harg4 x2 _ _ _ _ _ (fun a => by
    match a with
    | ⟨0, _⟩ => exact (congrFun (off2_0 t) 0).symm)

theorem r_12_eq (c : Dev nD) (t : Fin cfg0.N) (arg2 : Memref sig .tc .smem S2x10 .f32) (harg2 : arg2.IsWhole) (x0 : Vec Ideal S2x10 .f32) :
    kernelRun.sl.r_12 c (grid0.coords t) arg2 harg2 x0 = x0 (ix2 (bt t) (hd t 1)) :=
  readAt_block arg2 harg2 x0 _ _ _ _ _ (fun a => by
    match a with
    | ⟨0, _⟩ => exact (congrFun (off1_1 t) 0).symm
    | ⟨1, _⟩ => exact (congrFun (off1_1 t) 1).symm)

theorem r_13_eq (c : Dev nD) (t : Fin cfg0.N) (arg3 : Memref sig .tc .smem S2x10 .f32) (harg3 : arg3.IsWhole) (x1 : Vec Ideal S2x10 .f32) :
    kernelRun.sl.r_13 c (grid0.coords t) arg3 harg3 x1 = x1 (ix2 (bt t) (hd t 1)) :=
  readAt_block arg3 harg3 x1 _ _ _ _ _ (fun a => by
    match a with
    | ⟨0, _⟩ => exact (congrFun (off1_1 t) 0).symm
    | ⟨1, _⟩ => exact (congrFun (off1_1 t) 1).symm)

theorem r_14_eq (c : Dev nD) (t : Fin cfg0.N) (arg4 : Memref sig .tc .smem S10 .f32) (harg4 : arg4.IsWhole) (x2 : Vec Ideal S10 .f32) :
    kernelRun.sl.r_14 c (grid0.coords t) arg4 harg4 x2 = x2 (ix1 (hd t 1)) :=
  readAt_block arg4 harg4 x2 _ _ _ _ _ (fun a => by
    match a with
    | ⟨0, _⟩ => exact (congrFun (off2_1 t) 0).symm)

end Cert.KernelIdeal.Val

end
-- ==== Proof.Val.Outs.lean ====
module

public import proofs.«01_k».proof.Proof.Val.Pts

@[expose] public section

set_option maxRecDepth 16384

noncomputable section

namespace Cert.KernelIdeal.Val

open Idealize.ShloMosaic hiding ix1 ix2 ix3 ix4 ix5
open Idealize.ShloMosaic.TcCoe Idealize.ShloMosaic.ValueIdx Cert.KernelIdeal.Gen Cert.Val

variable (m : (ℓ : Loc nD τ sig) → Buf (Elt Ideal) ℓ)

section Targets
variable (c : Dev nD)

/-- The query plus the first bias, off the arguments. -/
def fuA (n : Fin 2) (h : Fin 10) (I : Fin 1024) : Fin 64 → EReal := famA (m ((c : Thread nD τ).loc main_arg0)) (m ((c : Thread nD τ).loc main_arg7)) n h I
/-- The query plus the second bias, off the arguments. -/
def fvA (n : Fin 2) (h : Fin 10) (I : Fin 1024) : Fin 64 → EReal := famA (m ((c : Thread nD τ).loc main_arg0)) (m ((c : Thread nD τ).loc main_arg8)) n h I
/-- The attention, off the arguments. -/
def outM (n : Fin 2) (h : Fin 10) (I : Fin 1024) (d : Fin 64) : EReal :=
  outA (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) n h I d

/-- The attention's tile of a point. -/
def g9 (t : Fin cfg0.N) : Vec Ideal S1x1024x128 .bf16 := fun y =>
  outM m c (bt t) (hd t ⟨(y 2).val / 64, by have : (y 2).val < 128 := (y 2).isLt; omega⟩) (y 1) ⟨(y 2).val % 64, by omega⟩
/-- The codes' tile of a point. -/
def g10 (t : Fin cfg0.N) : Vec Ideal S1x2x64x1024 .fp8e4m3 := fun y => cod (fuA m c (bt t) (hd t (y 1)) (y 3)) (y 2)
/-- The second codes' tile of a point. -/
def g12 (t : Fin cfg0.N) : Vec Ideal S1x2x64x1024 .fp8e4m3 := fun y => cod (fvA m c (bt t) (hd t (y 1)) (y 3)) (y 2)
/-- The scales' tile of a point's pair of heads. -/
def g11 (t : Fin cfg0.N) : Vec Ideal S2x2x1024 .f32 := fun y => scl (fuA m c (y 1) (hd t (y 0)) (y 2))
/-- The second scales' tile of a point's pair of heads. -/
def g13 (t : Fin cfg0.N) : Vec Ideal S2x2x1024 .f32 := fun y => scl (fvA m c (y 1) (hd t (y 0)) (y 2))

end Targets

theorem fam_u (c : Dev nD) (t : Fin cfg0.N) (h : Fin 2) (I : Fin 1024) : fam (iblk m c 3 t) (iblk m c 7 t) h I = fuA m c (bt t) (hd t h) I :=
  funext fun d => congrArg₂ (fun x y : EReal => x + y) (iblk3 m c t h d I) (iblk7 m c t h d)
theorem fam_v (c : Dev nD) (t : Fin cfg0.N) (h : Fin 2) (I : Fin 1024) : fam (iblk m c 3 t) (iblk m c 8 t) h I = fvA m c (bt t) (hd t h) I :=
  funext fun d => congrArg₂ (fun x y : EReal => x + y) (iblk3 m c t h d I) (iblk8 m c t h d)
theorem ptab_eq (c : Dev nD) (t : Fin cfg0.N) (h : Fin 2) : ptab (iblk m c 6 t) h = posA (m ((c : Thread nD τ).loc main_arg5)) (hd t h) := by
  funext d r
  unfold ptab posA
  by_cases hr : r < 769
  · rw [dif_pos hr, dif_pos hr, iblk6]
  · rw [dif_neg hr, dif_neg hr]

theorem out_eq (c : Dev nD) (t : Fin cfg0.N) (h : Fin 2) (I : Fin 1024) (d : Fin 64) (ks ps vs : EReal) (h0 : ks = iblk m c 0 t (ix2 (bt t) (hd t h)))
    (h1 : vs = iblk m c 1 t (ix2 (bt t) (hd t h))) (h2 : ps = iblk m c 2 t (ix1 (hd t h))) :
    outv (yrow (fam (iblk m c 3 t) (iblk m c 7 t) h I) (fam (iblk m c 3 t) (iblk m c 8 t) h I) (fun k J => iblk m c 4 t (ix4 (0 : Fin 1) h k J)) (ptab (iblk m c 6 t) h) ks ps I)
      (fun J => iblk m c 5 t (ix4 (0 : Fin 1) h d J)) vs = outM m c (bt t) (hd t h) I d := by
  rw [fam_u, fam_v, ptab_eq, h0, h1, h2, iblk0, iblk1, iblk2, funext fun J => iblk5 m c t h d J, funext fun k => funext fun J => iblk4 m c t h k J]
  rfl

theorem tile_eq (c : Dev nD) (t : Fin cfg0.N) (o p b : ℕ) (h : Fin 2) (ho : o = 128 * b) (hp : p = 64 * h.val) (inb) (pay : Vec Ideal S1x128x64 .bf16)
    (hb : b < 8) (hpay : ∀ (i0 : Fin 128) (d : Fin 64) (I : Fin 1024), I.val = 128 * b + i0 → pay (ix3 (0 : Fin 1) i0 d) = outM m c (bt t) (hd t h) I d)
    (x : (Rect.unit (s := S1x1024x128) ![0, o, p] S1x128x64.size inb).shape.Idx) :
    pay x = g9 m c t ((Rect.unit (s := S1x1024x128) ![0, o, p] S1x128x64.size inb).emb x) := by
  have hx : x = ix3 (0 : Fin 1) (x 1) (x 2) := by
    funext a
    match a with
    | ⟨0, _⟩ => exact Subsingleton.elim (α := Fin 1) _ _
    | ⟨1, _⟩ => rfl
    | ⟨2, _⟩ => rfl
  have h1 : ((Rect.unit (s := S1x1024x128) ![0, o, p] S1x128x64.size inb).emb x 1).val = o + (x 1).val := Rect.idx_unit_val _ _ inb x 1
  have h2 : ((Rect.unit (s := S1x1024x128) ![0, o, p] S1x128x64.size inb).emb x 2).val = p + (x 2).val := Rect.idx_unit_val _ _ inb x 2
  have hd2 : (x 2).val < 64 := (x 2).isLt
  refine (congrArg pay hx).trans ((hpay (x 1) (x 2) _ (by rw [← ho]; exact h1)).trans ?_)
  unfold g9
  congr 2
  · exact Fin.ext (by show h.val = _ / 64; omega)
  · exact Fin.ext (by show (x 2).val = _ % 64; omega)

theorem pieces9 (c : Dev nD) (t : Fin cfg0.N) : ∀ p ∈ (runAt m c t).1, ∀ x, p.2 x = g9 m c t (p.1.emb x) := by
  intro p hp
  rcases List.mem_cons.mp hp with rfl | hp
  · exact tile_eq m c t 896 64 7 1 rfl rfl inb_S1x1024x128_S1x128x64_0_896_64 _ (by decide) (fun i0 d I hI => (piece1_7 _ _ _ _ _ _ _ _ _ _ _ _ _ _ _ _ _ _ _ _ _ _ _ _ _ _ _ _ _ _ _ _ _ _ i0 d I hI).trans
      (out_eq m c t 1 I d _ _ _ (r_12_eq c t _ _ _) (r_13_eq c t _ _ _) (r_14_eq c t _ _ _)))
  rcases List.mem_cons.mp hp with rfl | hp
  · exact tile_eq m c t 768 64 6 1 rfl rfl inb_S1x1024x128_S1x128x64_0_768_64 _ (by decide) (fun i0 d I hI => (piece1_6 _ _ _ _ _ _ _ _ _ _ _ _ _ _ _ _ _ _ _ _ _ _ _ _ _ _ _ _ _ _ _ _ _ _ i0 d I hI).trans
      (out_eq m c t 1 I d _ _ _ (r_12_eq c t _ _ _) (r_13_eq c t _ _ _) (r_14_eq c t _ _ _)))
  rcases List.mem_cons.mp hp with rfl | hp
  · exact tile_eq m c t 640 64 5 1 rfl rfl inb_S1x1024x128_S1x128x64_0_640_64 _ (by decide) (fun i0 d I hI => (piece1_5 _ _ _ _ _ _ _ _ _ _ _ _ _ _ _ _ _ _ _ _ _ _ _ _ _ _ _ _ _ _ _ _ _ _ i0 d I hI).trans
      (out_eq m c t 1 I d _ _ _ (r_12_eq c t _ _ _) (r_13_eq c t _ _ _) (r_14_eq c t _ _ _)))
  rcases List.mem_cons.mp hp with rfl | hp
  · exact tile_eq m c t 512 64 4 1 rfl rfl inb_S1x1024x128_S1x128x64_0_512_64 _ (by decide) (fun i0 d I hI => (piece1_4 _ _ _ _ _ _ _ _ _ _ _ _ _ _ _ _ _ _ _ _ _ _ _ _ _ _ _ _ _ _ _ _ _ _ i0 d I hI).trans
      (out_eq m c t 1 I d _ _ _ (r_12_eq c t _ _ _) (r_13_eq c t _ _ _) (r_14_eq c t _ _ _)))
  rcases List.mem_cons.mp hp with rfl | hp
  · exact tile_eq m c t 384 64 3 1 rfl rfl inb_S1x1024x128_S1x128x64_0_384_64 _ (by decide) (fun i0 d I hI => (piece1_3 _ _ _ _ _ _ _ _ _ _ _ _ _ _ _ _ _ _ _ _ _ _ _ _ _ _ _ _ _ _ _ _ _ _ i0 d I hI).trans
      (out_eq m c t 1 I d _ _ _ (r_12_eq c t _ _ _) (r_13_eq c t _ _ _) (r_14_eq c t _ _ _)))
  rcases List.mem_cons.mp hp with rfl | hp
  · exact tile_eq m c t 256 64 2 1 rfl rfl inb_S1x1024x128_S1x128x64_0_256_64 _ (by decide) (fun i0 d I hI => (piece1_2 _ _ _ _ _ _ _ _ _ _ _ _ _ _ _ _ _ _ _ _ _ _ _ _ _ _ _ _ _ _ _ _ _ _ i0 d I hI).trans
      (out_eq m c t 1 I d _ _ _ (r_12_eq c t _ _ _) (r_13_eq c t _ _ _) (r_14_eq c t _ _ _)))
  rcases List.mem_cons.mp hp with rfl | hp
  · exact tile_eq m c t 128 64 1 1 rfl rfl inb_S1x1024x128_S1x128x64_0_128_64 _ (by decide) (fun i0 d I hI => (piece1_1 _ _ _ _ _ _ _ _ _ _ _ _ _ _ _ _ _ _ _ _ _ _ _ _ _ _ _ _ _ _ _ _ _ _ i0 d I hI).trans
      (out_eq m c t 1 I d _ _ _ (r_12_eq c t _ _ _) (r_13_eq c t _ _ _) (r_14_eq c t _ _ _)))
  rcases List.mem_cons.mp hp with rfl | hp
  · exact tile_eq m c t 0 64 0 1 rfl rfl inb_S1x1024x128_S1x128x64_0_0_64 _ (by decide) (fun i0 d I hI => (piece1_0 _ _ _ _ _ _ _ _ _ _ _ _ _ _ _ _ _ _ _ _ _ _ _ _ _ _ _ _ _ _ _ _ _ _ i0 d I hI).trans
      (out_eq m c t 1 I d _ _ _ (r_12_eq c t _ _ _) (r_13_eq c t _ _ _) (r_14_eq c t _ _ _)))
  rcases List.mem_cons.mp hp with rfl | hp
  · exact tile_eq m c t 896 0 7 0 rfl rfl inb_S1x1024x128_S1x128x64_0_896_0 _ (by decide) (fun i0 d I hI => (piece0_7 _ _ _ _ _ _ _ _ _ _ _ _ _ _ _ _ _ _ _ _ _ _ _ _ _ _ _ _ _ _ _ _ _ _ i0 d I hI).trans
      (out_eq m c t 0 I d _ _ _ (r_eq c t _ _ _) (r_1_eq c t _ _ _) (r_2_eq c t _ _ _)))
  rcases List.mem_cons.mp hp with rfl | hp
  · exact tile_eq m c t 768 0 6 0 rfl rfl inb_S1x1024x128_S1x128x64_0_768_0 _ (by decide) (fun i0 d I hI => (piece0_6 _ _ _ _ _ _ _ _ _ _ _ _ _ _ _ _ _ _ _ _ _ _ _ _ _ _ _ _ _ _ _ _ _ _ i0 d I hI).trans
      (out_eq m c t 0 I d _ _ _ (r_eq c t _ _ _) (r_1_eq c t _ _ _) (r_2_eq c t _ _ _)))
  rcases List.mem_cons.mp hp with rfl | hp
  · exact tile_eq m c t 640 0 5 0 rfl rfl inb_S1x1024x128_S1x128x64_0_640_0 _ (by decide) (fun i0 d I hI => (piece0_5 _ _ _ _ _ _ _ _ _ _ _ _ _ _ _ _ _ _ _ _ _ _ _ _ _ _ _ _ _ _ _ _ _ _ i0 d I hI).trans
      (out_eq m c t 0 I d _ _ _ (r_eq c t _ _ _) (r_1_eq c t _ _ _) (r_2_eq c t _ _ _)))
  rcases List.mem_cons.mp hp with rfl | hp
  · exact tile_eq m c t 512 0 4 0 rfl rfl inb_S1x1024x128_S1x128x64_0_512_0 _ (by decide) (fun i0 d I hI => (piece0_4 _ _ _ _ _ _ _ _ _ _ _ _ _ _ _ _ _ _ _ _ _ _ _ _ _ _ _ _ _ _ _ _ _ _ i0 d I hI).trans
      (out_eq m c t 0 I d _ _ _ (r_eq c t _ _ _) (r_1_eq c t _ _ _) (r_2_eq c t _ _ _)))
  rcases List.mem_cons.mp hp with rfl | hp
  · exact tile_eq m c t 384 0 3 0 rfl rfl inb_S1x1024x128_S1x128x64_0_384_0 _ (by decide) (fun i0 d I hI => (piece0_3 _ _ _ _ _ _ _ _ _ _ _ _ _ _ _ _ _ _ _ _ _ _ _ _ _ _ _ _ _ _ _ _ _ _ i0 d I hI).trans
      (out_eq m c t 0 I d _ _ _ (r_eq c t _ _ _) (r_1_eq c t _ _ _) (r_2_eq c t _ _ _)))
  rcases List.mem_cons.mp hp with rfl | hp
  · exact tile_eq m c t 256 0 2 0 rfl rfl inb_S1x1024x128_S1x128x64_0_256_0 _ (by decide) (fun i0 d I hI => (piece0_2 _ _ _ _ _ _ _ _ _ _ _ _ _ _ _ _ _ _ _ _ _ _ _ _ _ _ _ _ _ _ _ _ _ _ i0 d I hI).trans
      (out_eq m c t 0 I d _ _ _ (r_eq c t _ _ _) (r_1_eq c t _ _ _) (r_2_eq c t _ _ _)))
  rcases List.mem_cons.mp hp with rfl | hp
  · exact tile_eq m c t 128 0 1 0 rfl rfl inb_S1x1024x128_S1x128x64_0_128_0 _ (by decide) (fun i0 d I hI => (piece0_1 _ _ _ _ _ _ _ _ _ _ _ _ _ _ _ _ _ _ _ _ _ _ _ _ _ _ _ _ _ _ _ _ _ _ i0 d I hI).trans
      (out_eq m c t 0 I d _ _ _ (r_eq c t _ _ _) (r_1_eq c t _ _ _) (r_2_eq c t _ _ _)))
  rcases List.mem_cons.mp hp with rfl | hp
  · exact tile_eq m c t 0 0 0 0 rfl rfl inb_S1x1024x128_S1x128x64_0_0_0 _ (by decide) (fun i0 d I hI => (piece0_0 _ _ _ _ _ _ _ _ _ _ _ _ _ _ _ _ _ _ _ _ _ _ _ _ _ _ _ _ _ _ _ _ _ _ i0 d I hI).trans
      (out_eq m c t 0 I d _ _ _ (r_eq c t _ _ _) (r_1_eq c t _ _ _) (r_2_eq c t _ _ _)))
  exact absurd hp List.not_mem_nil

theorem cov9 (c : Dev nD) (t : Fin cfg0.N) (y : S1x1024x128.Idx) : ∃ p ∈ (runAt m c t).1, y ∈ p.1.set :=
  View.cover_of_tiled (runAt m c t).1 S1x128x64.size (by rfl) y

theorem val9 (c : Dev nD) (t : Fin cfg0.N) (X : S1x1024x128.Idx → Elt Ideal .bf16) (hX : Cov (runAt m c t).1 X) : X = g9 m c t :=
  funext fun y => (hX y (cov9 m c t y)).trans (View.canon_apply_of_pieces (g9 m c t) _ (pieces9 m c t) y (cov9 m c t y))

theorem codes10 (c : Dev nD) (t : Fin cfg0.N) (h : Fin 2) (inb) (pay : Vec Ideal S1x1x64x1024 .fp8e4m3)
    (hpay : ∀ (d : Fin 64) (I : Fin 1024), pay (ix4 (0 : Fin 1) (0 : Fin 1) d I) = cod (fuA m c (bt t) (hd t h) I) d)
    (x : (Rect.unit (s := S1x2x64x1024) ![0, h.val, 0, 0] S1x1x64x1024.size inb).shape.Idx) :
    pay x = g10 m c t ((Rect.unit (s := S1x2x64x1024) ![0, h.val, 0, 0] S1x1x64x1024.size inb).emb x) := by
  have hx : x = ix4 (0 : Fin 1) (0 : Fin 1) (x 2) (x 3) := by
    funext a
    match a with
    | ⟨0, _⟩ => exact Subsingleton.elim (α := Fin 1) _ _
    | ⟨1, _⟩ => exact Subsingleton.elim (α := Fin 1) _ _
    | ⟨2, _⟩ => rfl
    | ⟨3, _⟩ => rfl
  have h1 : (Rect.unit (s := S1x2x64x1024) ![0, h.val, 0, 0] S1x1x64x1024.size inb).emb x 1 = h :=
    Fin.ext ((Rect.idx_unit_val _ _ inb x 1).trans (by
      have : (x 1).val < 1 := (x 1).isLt
      show h.val + (x 1).val = h.val; omega))
  have h2 : (Rect.unit (s := S1x2x64x1024) ![0, h.val, 0, 0] S1x1x64x1024.size inb).emb x 2 = x 2 :=
    Fin.ext ((Rect.idx_unit_val _ _ inb x 2).trans (Nat.zero_add _))
  have h3 : (Rect.unit (s := S1x2x64x1024) ![0, h.val, 0, 0] S1x1x64x1024.size inb).emb x 3 = x 3 :=
    Fin.ext ((Rect.idx_unit_val _ _ inb x 3).trans (Nat.zero_add _))
  refine (congrArg pay hx).trans ((hpay (x 2) (x 3)).trans ?_)
  unfold g10
  rw [h1, h2, h3]

theorem pieces10 (c : Dev nD) (t : Fin cfg0.N) : ∀ p ∈ (runAt m c t).2.1, ∀ x, p.2 x = g10 m c t (p.1.emb x) := by
  intro p hp
  rcases List.mem_cons.mp hp with rfl | hp
  · exact codes10 m c t 1 inb_S1x2x64x1024_S1x1x64x1024_0_1_0_0 _ (fun d I => by dsimp only; rw [pay_cod_u1, qcodO_apply, qxf_1, fam_u])
  rcases List.mem_cons.mp hp with rfl | hp
  · exact codes10 m c t 0 inb_S1x2x64x1024_S1x1x64x1024_0_0_0_0 _ (fun d I => by dsimp only; rw [pay_cod_u0, qcodO_apply, qxf_0, fam_u])
  exact absurd hp List.not_mem_nil

theorem cov10 (c : Dev nD) (t : Fin cfg0.N) (y : S1x2x64x1024.Idx) : ∃ p ∈ (runAt m c t).2.1, y ∈ p.1.set :=
  View.cover_of_tiled (runAt m c t).2.1 S1x1x64x1024.size (by rfl) y

theorem val10 (c : Dev nD) (t : Fin cfg0.N) (X : S1x2x64x1024.Idx → Elt Ideal .fp8e4m3) (hX : Cov (runAt m c t).2.1 X) : X = g10 m c t :=
  funext fun y => (hX y (cov10 m c t y)).trans (View.canon_apply_of_pieces (g10 m c t) _ (pieces10 m c t) y (cov10 m c t y))

theorem codes12 (c : Dev nD) (t : Fin cfg0.N) (h : Fin 2) (inb) (pay : Vec Ideal S1x1x64x1024 .fp8e4m3)
    (hpay : ∀ (d : Fin 64) (I : Fin 1024), pay (ix4 (0 : Fin 1) (0 : Fin 1) d I) = cod (fvA m c (bt t) (hd t h) I) d)
    (x : (Rect.unit (s := S1x2x64x1024) ![0, h.val, 0, 0] S1x1x64x1024.size inb).shape.Idx) :
    pay x = g12 m c t ((Rect.unit (s := S1x2x64x1024) ![0, h.val, 0, 0] S1x1x64x1024.size inb).emb x) := by
  have hx : x = ix4 (0 : Fin 1) (0 : Fin 1) (x 2) (x 3) := by
    funext a
    match a with
    | ⟨0, _⟩ => exact Subsingleton.elim (α := Fin 1) _ _
    | ⟨1, _⟩ => exact Subsingleton.elim (α := Fin 1) _ _
    | ⟨2, _⟩ => rfl
    | ⟨3, _⟩ => rfl
  have h1 : (Rect.unit (s := S1x2x64x1024) ![0, h.val, 0, 0] S1x1x64x1024.size inb).emb x 1 = h :=
    Fin.ext ((Rect.idx_unit_val _ _ inb x 1).trans (by
      have : (x 1).val < 1 := (x 1).isLt
      show h.val + (x 1).val = h.val; omega))
  have h2 : (Rect.unit (s := S1x2x64x1024) ![0, h.val, 0, 0] S1x1x64x1024.size inb).emb x 2 = x 2 :=
    Fin.ext ((Rect.idx_unit_val _ _ inb x 2).trans (Nat.zero_add _))
  have h3 : (Rect.unit (s := S1x2x64x1024) ![0, h.val, 0, 0] S1x1x64x1024.size inb).emb x 3 = x 3 :=
    Fin.ext ((Rect.idx_unit_val _ _ inb x 3).trans (Nat.zero_add _))
  refine (congrArg pay hx).trans ((hpay (x 2) (x 3)).trans ?_)
  unfold g12
  rw [h1, h2, h3]

theorem pieces12 (c : Dev nD) (t : Fin cfg0.N) : ∀ p ∈ (runAt m c t).2.2.2.1, ∀ x, p.2 x = g12 m c t (p.1.emb x) := by
  intro p hp
  rcases List.mem_cons.mp hp with rfl | hp
  · exact codes12 m c t 1 inb_S1x2x64x1024_S1x1x64x1024_0_1_0_0 _ (fun d I => by dsimp only; rw [pay_cod_v1, qcodO_apply, qxf_1, fam_v])
  rcases List.mem_cons.mp hp with rfl | hp
  · exact codes12 m c t 0 inb_S1x2x64x1024_S1x1x64x1024_0_0_0_0 _ (fun d I => by dsimp only; rw [pay_cod_v0, qcodO_apply, qxf_0, fam_v])
  exact absurd hp List.not_mem_nil

theorem cov12 (c : Dev nD) (t : Fin cfg0.N) (y : S1x2x64x1024.Idx) : ∃ p ∈ (runAt m c t).2.2.2.1, y ∈ p.1.set :=
  View.cover_of_tiled (runAt m c t).2.2.2.1 S1x1x64x1024.size (by rfl) y

theorem val12 (c : Dev nD) (t : Fin cfg0.N) (X : S1x2x64x1024.Idx → Elt Ideal .fp8e4m3) (hX : Cov (runAt m c t).2.2.2.1 X) : X = g12 m c t :=
  funext fun y => (hX y (cov12 m c t y)).trans (View.canon_apply_of_pieces (g12 m c t) _ (pieces12 m c t) y (cov12 m c t y))

theorem in_row {off : Fin 3 → ℕ} (inb : ∀ a, off a + S1x1x1024.size a ≤ S2x2x1024.size a) {k r : ℕ} (h : off = ![k, r, 0])
    (y : S2x2x1024.Idx) (h0 : (y 0).val = k) (h1 : (y 1).val = r) : y ∈ (Rect.unit (s := S2x2x1024) off S1x1x1024.size inb).set := by
  subst h
  rw [Rect.mem_set_unit]
  have h2 : (y 2).val < 1024 := (y 2).isLt
  intro a
  match a with
  | ⟨0, _⟩ =>
    show k ≤ (y 0).val ∧ (y 0).val < k + 1
    omega
  | ⟨1, _⟩ =>
    show r ≤ (y 1).val ∧ (y 1).val < r + 1
    omega
  | ⟨2, _⟩ =>
    show 0 ≤ (y 2).val ∧ (y 2).val < 0 + 1024
    omega

theorem scales11 (c : Dev nD) (t : Fin cfg0.N) (h : Fin 2) (off : Fin 3 → ℕ) (hoff : off = ![h.val, t.val % 2, 0]) (inb) (pay : Vec Ideal S1x1x1024 .f32)
    (hpay : ∀ I : Fin 1024, pay (ix3 (0 : Fin 1) (0 : Fin 1) I) = scl (fuA m c (bt t) (hd t h) I))
    (x : (Rect.unit (s := S2x2x1024) off S1x1x1024.size inb).shape.Idx) :
    pay x = g11 m c t ((Rect.unit (s := S2x2x1024) off S1x1x1024.size inb).emb x) := by
  subst hoff
  have hx : x = ix3 (0 : Fin 1) (0 : Fin 1) (x 2) := by
    funext a
    match a with
    | ⟨0, _⟩ => exact Subsingleton.elim (α := Fin 1) _ _
    | ⟨1, _⟩ => exact Subsingleton.elim (α := Fin 1) _ _
    | ⟨2, _⟩ => rfl
  have h0 : (Rect.unit (s := S2x2x1024) ![h.val, t.val % 2, 0] S1x1x1024.size inb).emb x 0 = h :=
    Fin.ext ((Rect.idx_unit_val _ _ inb x 0).trans (by
      have : (x 0).val < 1 := (x 0).isLt
      show h.val + (x 0).val = h.val; omega))
  have h1 : (Rect.unit (s := S2x2x1024) ![h.val, t.val % 2, 0] S1x1x1024.size inb).emb x 1 = bt t :=
    Fin.ext ((Rect.idx_unit_val _ _ inb x 1).trans (by
      have : (x 1).val < 1 := (x 1).isLt
      show t.val % 2 + (x 1).val = t.val % 2; omega))
  have h2 : (Rect.unit (s := S2x2x1024) ![h.val, t.val % 2, 0] S1x1x1024.size inb).emb x 2 = x 2 :=
    Fin.ext ((Rect.idx_unit_val _ _ inb x 2).trans (Nat.zero_add _))
  refine (congrArg pay hx).trans ((hpay (x 2)).trans ?_)
  unfold g11
  rw [h0, h1, h2]

theorem pieces11 (c : Dev nD) (t : Fin cfg0.N) : ∀ p ∈ (runAt m c t).2.2.1, ∀ x, p.2 x = g11 m c t (p.1.emb x) := by
  intro p hp
  rcases List.mem_cons.mp hp with rfl | hp
  · exact scales11 m c t 1 _ (off4_one t) (k0_off4_inb (grid0.coords t)) _ (fun I => by dsimp only; rw [pay_scl_u1, qsclO_apply, qxf_1, fam_u])
  rcases List.mem_cons.mp hp with rfl | hp
  · exact scales11 m c t 0 _ (off3_one t) (k0_off3_inb (grid0.coords t)) _ (fun I => by dsimp only; rw [pay_scl_u0, qsclO_apply, qxf_0, fam_u])
  exact absurd hp List.not_mem_nil

theorem cov11 (c : Dev nD) (t : Fin cfg0.N) (y : S2x2x1024.Idx) (hy : (y 1).val = t.val % 2) : ∃ p ∈ (runAt m c t).2.2.1, y ∈ p.1.set := by
  have h0 : (y 0).val < 2 := (y 0).isLt
  have h2 : (y 2).val < 1024 := (y 2).isLt
  by_cases h : (y 0).val = 0
  · refine ⟨_, List.mem_cons_of_mem _ List.mem_cons_self, ?_⟩
    exact in_row (k0_off3_inb (grid0.coords t)) (off3_one t) y h hy
  · refine ⟨_, List.mem_cons_self, ?_⟩
    exact in_row (k0_off4_inb (grid0.coords t)) (off4_one t) y (by omega) hy

theorem val11 (c : Dev nD) (t : Fin cfg0.N) (ht : t.val % 2 = 1) (X : S2x2x1024.Idx → Elt Ideal .f32)
    (hX : Cov (runAt m c t).2.2.1 X ∧ ∀ s : Fin cfg0.N, s.val + 1 = t.val → t.val % 2 = 1 → Cov (runAt m c s).2.2.1 X) : X = g11 m c t := by
  funext y
  have h1 : (y 1).val < 2 := (y 1).isLt
  by_cases h : (y 1).val = 1
  · have hc := cov11 m c t y (by omega)
    exact (hX.1 y hc).trans (View.canon_apply_of_pieces (g11 m c t) _ (pieces11 m c t) y hc)
  · let s : Fin cfg0.N := ⟨t.val - 1, by have := t.isLt; omega⟩
    have hs : s.val + 1 = t.val := by show t.val - 1 + 1 = t.val; omega
    have hc := cov11 m c s y (by omega)
    refine (hX.2 s hs ht y hc).trans ((View.canon_apply_of_pieces (g11 m c s) _ (pieces11 m c s) y hc).trans ?_)
    have hh : hd s (y 0) = hd t (y 0) := Fin.ext (by
      show 2 * (s.val / 2) + (y 0).val = 2 * (t.val / 2) + (y 0).val
      have : s.val / 2 = t.val / 2 := by omega
      rw [this])
    unfold g11
    rw [hh]

theorem scales13 (c : Dev nD) (t : Fin cfg0.N) (h : Fin 2) (off : Fin 3 → ℕ) (hoff : off = ![h.val, t.val % 2, 0]) (inb) (pay : Vec Ideal S1x1x1024 .f32)
    (hpay : ∀ I : Fin 1024, pay (ix3 (0 : Fin 1) (0 : Fin 1) I) = scl (fvA m c (bt t) (hd t h) I))
    (x : (Rect.unit (s := S2x2x1024) off S1x1x1024.size inb).shape.Idx) :
    pay x = g13 m c t ((Rect.unit (s := S2x2x1024) off S1x1x1024.size inb).emb x) := by
  subst hoff
  have hx : x = ix3 (0 : Fin 1) (0 : Fin 1) (x 2) := by
    funext a
    match a with
    | ⟨0, _⟩ => exact Subsingleton.elim (α := Fin 1) _ _
    | ⟨1, _⟩ => exact Subsingleton.elim (α := Fin 1) _ _
    | ⟨2, _⟩ => rfl
  have h0 : (Rect.unit (s := S2x2x1024) ![h.val, t.val % 2, 0] S1x1x1024.size inb).emb x 0 = h :=
    Fin.ext ((Rect.idx_unit_val _ _ inb x 0).trans (by
      have : (x 0).val < 1 := (x 0).isLt
      show h.val + (x 0).val = h.val; omega))
  have h1 : (Rect.unit (s := S2x2x1024) ![h.val, t.val % 2, 0] S1x1x1024.size inb).emb x 1 = bt t :=
    Fin.ext ((Rect.idx_unit_val _ _ inb x 1).trans (by
      have : (x 1).val < 1 := (x 1).isLt
      show t.val % 2 + (x 1).val = t.val % 2; omega))
  have h2 : (Rect.unit (s := S2x2x1024) ![h.val, t.val % 2, 0] S1x1x1024.size inb).emb x 2 = x 2 :=
    Fin.ext ((Rect.idx_unit_val _ _ inb x 2).trans (Nat.zero_add _))
  refine (congrArg pay hx).trans ((hpay (x 2)).trans ?_)
  unfold g13
  rw [h0, h1, h2]

theorem pieces13 (c : Dev nD) (t : Fin cfg0.N) : ∀ p ∈ (runAt m c t).2.2.2.2.val, ∀ x, p.2 x = g13 m c t (p.1.emb x) := by
  intro p hp
  rcases List.mem_cons.mp hp with rfl | hp
  · exact scales13 m c t 1 _ (off4_one t) (k0_off4_inb (grid0.coords t)) _ (fun I => by dsimp only; rw [pay_scl_v1, qsclO_apply, qxf_1, fam_v])
  rcases List.mem_cons.mp hp with rfl | hp
  · exact scales13 m c t 0 _ (off3_one t) (k0_off3_inb (grid0.coords t)) _ (fun I => by dsimp only; rw [pay_scl_v0, qsclO_apply, qxf_0, fam_v])
  exact absurd hp List.not_mem_nil

theorem cov13 (c : Dev nD) (t : Fin cfg0.N) (y : S2x2x1024.Idx) (hy : (y 1).val = t.val % 2) : ∃ p ∈ (runAt m c t).2.2.2.2.val, y ∈ p.1.set := by
  have h0 : (y 0).val < 2 := (y 0).isLt
  have h2 : (y 2).val < 1024 := (y 2).isLt
  by_cases h : (y 0).val = 0
  · refine ⟨_, List.mem_cons_of_mem _ List.mem_cons_self, ?_⟩
    exact in_row (k0_off3_inb (grid0.coords t)) (off3_one t) y h hy
  · refine ⟨_, List.mem_cons_self, ?_⟩
    exact in_row (k0_off4_inb (grid0.coords t)) (off4_one t) y (by omega) hy

theorem val13 (c : Dev nD) (t : Fin cfg0.N) (ht : t.val % 2 = 1) (X : S2x2x1024.Idx → Elt Ideal .f32)
    (hX : Cov (runAt m c t).2.2.2.2.val X ∧ ∀ s : Fin cfg0.N, s.val + 1 = t.val → t.val % 2 = 1 → Cov (runAt m c s).2.2.2.2.val X) : X = g13 m c t := by
  funext y
  have h1 : (y 1).val < 2 := (y 1).isLt
  by_cases h : (y 1).val = 1
  · have hc := cov13 m c t y (by omega)
    exact (hX.1 y hc).trans (View.canon_apply_of_pieces (g13 m c t) _ (pieces13 m c t) y hc)
  · let s : Fin cfg0.N := ⟨t.val - 1, by have := t.isLt; omega⟩
    have hs : s.val + 1 = t.val := by show t.val - 1 + 1 = t.val; omega
    have hc := cov13 m c s y (by omega)
    refine (hX.2 s hs ht y hc).trans ((View.canon_apply_of_pieces (g13 m c s) _ (pieces13 m c s) y hc).trans ?_)
    have hh : hd s (y 0) = hd t (y 0) := Fin.ext (by
      show 2 * (s.val / 2) + (y 0).val = 2 * (t.val / 2) + (y 0).val
      have : s.val / 2 = t.val / 2 := by omega
      rw [this])
    unfold g13
    rw [hh]

end Cert.KernelIdeal.Val

end
-- ==== Proof.Val.Final.lean ====
module

public import proofs.«01_k».proof.Proof.Val.Outs
public import Idealize.ShloMosaic.Lib.Pipeline.ArrRel

@[expose] public section

set_option maxRecDepth 16384

noncomputable section

namespace Cert.KernelIdeal.Val

open Idealize.ShloMosaic hiding ix1 ix2 ix3 ix4 ix5
open Idealize.ShloMosaic.Pipeline Idealize.SL.RA
open Idealize.ShloMosaic.TcCoe Idealize.ShloMosaic.ValueIdx Cert.KernelIdeal.Gen Cert.Val

variable (m : (ℓ : Loc nD τ sig) → Buf (Elt Ideal) ℓ)

section Targets
variable (c : Dev nD)

/-- The attention, as the first result's array. -/
def G9 : Vec Ideal S2x1024x640 .bf16 := fun i =>
  outM m c (i 0) ⟨(i 2).val / 64, by have : (i 2).val < 640 := (i 2).isLt; omega⟩ (i 1) ⟨(i 2).val % 64, by omega⟩
/-- The codes, as the second result's array. -/
def G10 : Vec Ideal S2x10x64x1024 .fp8e4m3 := fun i => cod (fuA m c (i 0) (i 1) (i 3)) (i 2)
/-- The scales, as the third result's array. -/
def G11 : Vec Ideal S10x2x1024 .f32 := fun i => scl (fuA m c (i 1) (i 0) (i 2))
/-- The second codes, as the fourth result's array. -/
def G12 : Vec Ideal S2x10x64x1024 .fp8e4m3 := fun i => cod (fvA m c (i 0) (i 1) (i 3)) (i 2)
/-- The second scales, as the fifth result's array. -/
def G13 : Vec Ideal S10x2x1024 .f32 := fun i => scl (fvA m c (i 1) (i 0) (i 2))

end Targets

theorem outM_congr (c : Dev nD) {n n' : Fin 2} {h h' : Fin 10} {I I' : Fin 1024} {d d' : Fin 64} (e1 : n = n') (e2 : h.val = h'.val) (e3 : I = I')
    (e4 : d.val = d'.val) : outM m c n h I d = outM m c n' h' I' d' := by
  obtain rfl := Fin.ext e2
  obtain rfl := Fin.ext e4
  rw [e1, e3]

variable {c : Dev nD} (dat : Dat τ (Elt Ideal) Unit ℕ (UR sig nD τ) ℕ cfg0 c)

theorem arr9 (h : ∀ t, dat.after 9 t = g9 m c t) : dat.arrAt 9 cfg0.N = G9 m c := by
  refine dat.arrAt_eq_of_covers 9 _ (by decide +kernel) fun t hf y => ?_
  blk_simp
  rw [h]
  have e := (cfg0.win 9).rect_emb_val t y
  rw [idx9] at e
  have hy : (y 2).val < 128 := (y 2).isLt
  have h0 : (((cfg0.win 9).blk t).view.emb y) 0 = bt t := Fin.ext ((e 0).trans (by
    have : (y 0).val < 1 := (y 0).isLt
    show t.val % 2 * 1 + (y 0).val = t.val % 2; omega))
  have h1 : (((cfg0.win 9).blk t).view.emb y) 1 = y 1 := Fin.ext ((e 1).trans (by show 0 * 1024 + (y 1).val = (y 1).val; omega))
  have h2 : ((((cfg0.win 9).blk t).view.emb y) 2).val = t.val / 2 * 128 + (y 2).val := e 2
  have k1 : ∀ z : ℕ, z = t.val / 2 * 128 + (y 2).val → 2 * (t.val / 2) + (y 2).val / 64 = z / 64 := fun z hz => by omega
  have k2 : ∀ z : ℕ, z = t.val / 2 * 128 + (y 2).val → (y 2).val % 64 = z % 64 := fun z hz => by omega
  exact outM_congr m c h0.symm (k1 _ h2) h1.symm (k2 _ h2)

theorem arr10 (h : ∀ t, dat.after 10 t = g10 m c t) : dat.arrAt 10 cfg0.N = G10 m c := by
  refine dat.arrAt_eq_of_covers 10 _ (by decide +kernel) fun t hf y => ?_
  blk_simp
  rw [h]
  have e := (cfg0.win 10).rect_emb_val t y
  rw [idx10] at e
  have h0 : (((cfg0.win 10).blk t).view.emb y) 0 = bt t := Fin.ext ((e 0).trans (by
    have : (y 0).val < 1 := (y 0).isLt
    show t.val % 2 * 1 + (y 0).val = t.val % 2; omega))
  have h1 : (((cfg0.win 10).blk t).view.emb y) 1 = hd t (y 1) := Fin.ext ((e 1).trans (by
    show t.val / 2 * 2 + (y 1).val = 2 * (t.val / 2) + (y 1).val; omega))
  have h2 : (((cfg0.win 10).blk t).view.emb y) 2 = y 2 := Fin.ext ((e 2).trans (by show 0 * 64 + (y 2).val = (y 2).val; omega))
  have h3 : (((cfg0.win 10).blk t).view.emb y) 3 = y 3 := Fin.ext ((e 3).trans (by show 0 * 1024 + (y 3).val = (y 3).val; omega))
  show cod (fuA m c _ _ _) _ = cod (fuA m c _ _ _) _
  rw [h0, h1, h2, h3]

theorem arr12 (h : ∀ t, dat.after 12 t = g12 m c t) : dat.arrAt 12 cfg0.N = G12 m c := by
  refine dat.arrAt_eq_of_covers 12 _ (by decide +kernel) fun t hf y => ?_
  blk_simp
  rw [h]
  have e := (cfg0.win 12).rect_emb_val t y
  rw [idx12] at e
  have h0 : (((cfg0.win 12).blk t).view.emb y) 0 = bt t := Fin.ext ((e 0).trans (by
    have : (y 0).val < 1 := (y 0).isLt
    show t.val % 2 * 1 + (y 0).val = t.val % 2; omega))
  have h1 : (((cfg0.win 12).blk t).view.emb y) 1 = hd t (y 1) := Fin.ext ((e 1).trans (by
    show t.val / 2 * 2 + (y 1).val = 2 * (t.val / 2) + (y 1).val; omega))
  have h2 : (((cfg0.win 12).blk t).view.emb y) 2 = y 2 := Fin.ext ((e 2).trans (by show 0 * 64 + (y 2).val = (y 2).val; omega))
  have h3 : (((cfg0.win 12).blk t).view.emb y) 3 = y 3 := Fin.ext ((e 3).trans (by show 0 * 1024 + (y 3).val = (y 3).val; omega))
  show cod (fvA m c _ _ _) _ = cod (fvA m c _ _ _) _
  rw [h0, h1, h2, h3]

theorem arr11 (h : ∀ t : Fin cfg0.N, t.val % 2 = 1 → dat.after 11 t = g11 m c t) : dat.arrAt 11 cfg0.N = G11 m c := by
  refine dat.arrAt_eq_of_covers 11 _ (by decide +kernel) fun t hf y => ?_
  blk_simp
  rw [h t ((flush0_11 t).mp hf)]
  have e := (cfg0.win 11).rect_emb_val t y
  rw [idx11] at e
  have h0 : (((cfg0.win 11).blk t).view.emb y) 0 = hd t (y 0) := Fin.ext ((e 0).trans (by
    show t.val / 2 * 2 + (y 0).val = 2 * (t.val / 2) + (y 0).val; omega))
  have h1 : (((cfg0.win 11).blk t).view.emb y) 1 = y 1 := Fin.ext ((e 1).trans (by show 0 * 2 + (y 1).val = (y 1).val; omega))
  have h2 : (((cfg0.win 11).blk t).view.emb y) 2 = y 2 := Fin.ext ((e 2).trans (by show 0 * 1024 + (y 2).val = (y 2).val; omega))
  show scl (fuA m c _ _ _) = scl (fuA m c _ _ _)
  rw [h0, h1, h2]

theorem arr13 (h : ∀ t : Fin cfg0.N, t.val % 2 = 1 → dat.after 13 t = g13 m c t) : dat.arrAt 13 cfg0.N = G13 m c := by
  refine dat.arrAt_eq_of_covers 13 _ (by decide +kernel) fun t hf y => ?_
  blk_simp
  rw [h t ((flush0_13 t).mp hf)]
  have e := (cfg0.win 13).rect_emb_val t y
  rw [idx13] at e
  have h0 : (((cfg0.win 13).blk t).view.emb y) 0 = hd t (y 0) := Fin.ext ((e 0).trans (by
    show t.val / 2 * 2 + (y 0).val = 2 * (t.val / 2) + (y 0).val; omega))
  have h1 : (((cfg0.win 13).blk t).view.emb y) 1 = y 1 := Fin.ext ((e 1).trans (by show 0 * 2 + (y 1).val = (y 1).val; omega))
  have h2 : (((cfg0.win 13).blk t).view.emb y) 2 = y 2 := Fin.ext ((e 2).trans (by show 0 * 1024 + (y 2).val = (y 2).val; omega))
  show scl (fvA m c _ _ _) = scl (fvA m c _ _ _)
  rw [h0, h1, h2]

omit dat in
/-- The kernel's run: it terminates with the results at the targets and the arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v6_0) = G9 m c
      ∧ r.2.mem ((c.tc : Thread nD τ).loc main_v6_1) = G10 m c
      ∧ r.2.mem ((c.tc : Thread nD τ).loc main_v6_2) = G11 m c
      ∧ r.2.mem ((c.tc : Thread nD τ).loc main_v6_3) = G12 m c
      ∧ r.2.mem ((c.tc : Thread nD τ).loc main_v6_4) = G13 m c) := by
  refine (θ_run defs _ _).mono (fun r hr c => ?_) (run_main m ρ)
  obtain ⟨after, hL, hA⟩ := RDat.FramePost.exists_exact hr c
  refine ⟨(hA 9).trans (arr9 m _ fun t => ?_), (hA 10).trans (arr10 m _ fun t => ?_), (hA 11).trans (arr11 m _ fun t ht => ?_),
    (hA 12).trans (arr12 m _ fun t => ?_), (hA 13).trans (arr13 m _ fun t ht => ?_)⟩
  · exact val9 m c t _ ((dats m 0 c).toRRel_leaves (w := 9) rfl (hL 9 t (flush0_9 t)))
  · exact val10 m c t _ ((dats m 0 c).toRRel_leaves (w := 10) rfl (hL 10 t (flush0_10 t)))
  · exact val11 m c t ht _ ((dats m 0 c).toRRel_leaves (w := 11) rfl (hL 11 t ((flush0_11 t).mpr ht)))
  · exact val12 m c t _ ((dats m 0 c).toRRel_leaves (w := 12) rfl (hL 12 t (flush0_12 t)))
  · exact val13 m c t ht _ ((dats m 0 c).toRRel_leaves (w := 13) rfl (hL 13 t ((flush0_13 t).mpr ht)))

end Cert.KernelIdeal.Val

end
-- ==== Proof.Val.RefA.lean ====
module

public import proofs.«01_k».proof.Proof.Val.Spec
public import proofs.«01_k».proof.Proof.Gen.ReferenceIdeal.Run
public import proofs.«01_k».proof.Proof.Gen.ReferenceIdeal.Read
public import Idealize.ShloMosaic.Lib.Pipeline.ValueKit

@[expose] public section

set_option maxRecDepth 16384

noncomputable section

namespace Cert.ReferenceIdeal.Val

open Idealize.ShloMosaic hiding ix1 ix2 ix3 ix4 ix5
open Idealize.ShloMosaic.TcCoe Idealize.ShloMosaic.ValueIdx Cert.ReferenceIdeal.Gen Cert.Val Cert.KernelIdeal.Val

/-! ## The reference's quantiser at an index -/

/-- The reference's exponent of a value. -/
def rx (t : EReal) : EReal :=
  Scalar.select (Ideal.cmp .olt t (Ideal.ofBits .f32 0x00800000#32)) (Ideal.ofBits .f32 0x00000000#32)
    (Ideal.liftRound Int.floor (Ideal.div (Ideal.log t) (Ideal.log (Ideal.ofBits .f32 0x40000000#32))) + Ideal.ofBits .f32 0x3F800000#32)
/-- The reference's scale of a family of 64. -/
def rscl (f : Fin 64 → EReal) : EReal := Ideal.exp2 (rx (tq f))
/-- The reference's code. -/
def rcod (f : Fin 64 → EReal) (d : Fin 64) : EReal :=
  min (Ideal.ofBits .f32 0x43E00000#32) (max (Ideal.ofBits .f32 0xC3E00000#32) (f d * Ideal.exp2 (Ideal.ofBits .f32 0x00000000#32 - rx (tq f))))

section Pay
variable (q : Vec Ideal S2x1024x10x64 .bf16) (b : Vec Ideal S10x64 .f32) (n : Fin 2) (I : Fin 1024) (h : Fin 10) (d : Fin 64)

theorem pay6_apply : k0_pay6 q b (ix4 n I h d) = famA q b n h I d := by
  unfold k0_pay6 famA
  rw [addf_apply, broadcastTo_apply _ _ _ (ix4 (0 : Fin 1) (0 : Fin 1) h d)]
  · refine congrArg₂ (fun x y : EReal => x + y) rfl ?_
    exact shapeCast_apply b _ _ _ (by rw [Shape.rowMajor_val_four, Shape.rowMajor_val_two]; simp [ix4, ix2])
  · intro a
    match a with
    | ⟨0, _⟩ => rfl
    | ⟨1, _⟩ => rfl
    | ⟨2, _⟩ => rfl
    | ⟨3, _⟩ => rfl

theorem rx_read (t : FVec Ideal S2x1024x10x1 .f32) (i : S2x1024x10x1.Idx) (v : EReal) (hv : t i = v) :
    select (cmpf .olt t (broadcast S2x1024x10x1 (Scalar.ofBits (F := Ideal) .f32 0x00800000#32))) (broadcast S2x1024x10x1 (Scalar.ofBits (F := Ideal) .f32 0x00000000#32))
      (addf (floor (divf (log t) (log (broadcast S2x1024x10x1 (Scalar.ofBits (F := Ideal) .f32 0x40000000#32)))))
        (broadcast S2x1024x10x1 (Scalar.ofBits (F := Ideal) .f32 0x3F800000#32))) i = rx v := by
  subst hv; rfl

theorem pay7_apply : k0_pay7 q b (ix4 n I h (0 : Fin 1)) = rx (tq (famA q b n h I)) := by
  unfold k0_pay7
  refine rx_read _ _ _ ?_
  rw [mulf_apply]
  unfold tq
  refine congrArg₂ (fun x y : EReal => x * y) ?_ rfl
  rw [shapeCast_apply _ _ _ (ix3 n I h) (by rw [Shape.rowMajor_val_three, Shape.rowMajor_val_four]; simp [ix3, ix4])]
  refine (Ideal.multiReduction_maximumf_single (absf (k0_pay6 q b)) _ reduces_S2x1024x10x64_S2x1024x10 _ _ (ix3 n I h)).trans ?_
  refine congrArg (Finset.fold max (Ideal.ofBits .f32 0xFF800000#32) · _) (funext fun d => ?_)
  refine congrArg (fun y : EReal => (FloatOps.absf (F := Ideal) (φ := .f32) y : EReal)) (Eq.trans (congrArg (k0_pay6 q b) (funext fun a => ?_)) (pay6_apply q b n I h d))
  match a with
  | ⟨0, _⟩ => rfl
  | ⟨1, _⟩ => rfl
  | ⟨2, _⟩ => rfl
  | ⟨3, _⟩ => rfl

theorem cod_read (x : FVec Ideal S2x1024x10x64 .f32) (i : S2x1024x10x64.Idx) (v : EReal) (hv : x i = v) :
    truncf .fp8e4m3 (minimumf (broadcast S2x1024x10x64 (Scalar.ofBits (F := Ideal) .f32 0x43E00000#32))
      (maximumf (broadcast S2x1024x10x64 (Scalar.ofBits (F := Ideal) .f32 0xC3E00000#32)) x)) bitsLt_fp8e4m3_f32 i
    = min (Ideal.ofBits .f32 0x43E00000#32) (max (Ideal.ofBits .f32 0xC3E00000#32) v) := by
  subst hv; rfl

theorem neg_read (x : FVec Ideal S2x1024x10x1 .f32) (i : S2x1024x10x1.Idx) (v : EReal) (hv : x i = v) :
    exp2 (subf (broadcast S2x1024x10x1 (Scalar.ofBits (F := Ideal) .f32 0x00000000#32)) x) i = Ideal.exp2 (Ideal.ofBits .f32 0x00000000#32 - v) := by
  subst hv; rfl

theorem exp2_read (x : FVec Ideal S2x1024x10x1 .f32) (i : S2x1024x10x1.Idx) (v : EReal) (hv : x i = v) : exp2 x i = Ideal.exp2 v := by
  subst hv; rfl

theorem pay8_apply : k0_pay8 q b (ix4 n I h d) = rcod (famA q b n h I) d := by
  unfold k0_pay8 rcod
  refine cod_read _ _ _ ?_
  rw [mulf_apply, broadcastTo_apply _ _ _ (ix4 n I h (0 : Fin 1)), pay6_apply]
  · rw [neg_read _ _ _ (pay7_apply q b n I h)]
  · intro a
    match a with
    | ⟨0, _⟩ => rfl
    | ⟨1, _⟩ => rfl
    | ⟨2, _⟩ => rfl
    | ⟨3, _⟩ => rfl

theorem pay9_apply : k0_pay9 q b (ix3 n I h) = rscl (famA q b n h I) := by
  unfold k0_pay9 rscl
  rw [shapeCast_apply _ _ _ (ix4 n I h (0 : Fin 1)) (by rw [Shape.rowMajor_val_three, Shape.rowMajor_val_four]; simp [ix3, ix4])]
  exact exp2_read _ _ _ (pay7_apply q b n I h)

theorem pay15_eq (x1 x2 : Vec Ideal S2x1024x10x64 .fp8e4m3) (x3 : Vec Ideal S769x10x64 .fp8e4m3) (x4 x5 : Vec Ideal S10x64 .f32) : k0_pay15 q x1 x2 x3 x4 x5 = k0_pay5 q :=
  congrArg k0_pay5 (View.ld_unit_zero (by funext a; fin_cases a <;> rfl) _ q)
theorem pay13_eq : k0_pay13 (k0_pay5 q) b = k0_pay8 q b := rfl
theorem pay14_eq : k0_pay14 (k0_pay5 q) b = k0_pay9 q b := rfl

end Pay

variable (m : (ℓ : Loc nD τ sig) → Buf (Elt Ideal) ℓ) (c : Dev nD)

/-! ## The blocks are the whole arrays -/

theorem iblk0 (t : Fin cfg0.N) : iblk m c 0 t = m ((c : Thread nD τ).loc main_arg0) := by
  rw [← V_main_arg0 m c]
  funext y
  unfold iblk
  have e := (cfg0.win 0).rect_emb_val t y
  refine congrArg (V m c main_arg0) (funext fun a => Fin.ext ?_)
  refine (e a).trans ?_
  have z : (cfg0.win 0).index t a = 0 := by
    match a with
    | ⟨0, _⟩ => rfl
    | ⟨1, _⟩ => rfl
    | ⟨2, _⟩ => rfl
    | ⟨3, _⟩ => rfl
  rw [z, Nat.zero_mul, Nat.zero_add]

theorem iblk1 (t : Fin cfg0.N) : iblk m c 1 t = m ((c : Thread nD τ).loc main_arg1) := by
  rw [← V_main_arg1 m c]
  funext y
  unfold iblk
  have e := (cfg0.win 1).rect_emb_val t y
  refine congrArg (V m c main_arg1) (funext fun a => Fin.ext ?_)
  refine (e a).trans ?_
  have z : (cfg0.win 1).index t a = 0 := by
    match a with
    | ⟨0, _⟩ => rfl
    | ⟨1, _⟩ => rfl
    | ⟨2, _⟩ => rfl
    | ⟨3, _⟩ => rfl
  rw [z, Nat.zero_mul, Nat.zero_add]

theorem iblk2 (t : Fin cfg0.N) : iblk m c 2 t = m ((c : Thread nD τ).loc main_arg3) := by
  rw [← V_main_arg3 m c]
  funext y
  unfold iblk
  have e := (cfg0.win 2).rect_emb_val t y
  refine congrArg (V m c main_arg3) (funext fun a => Fin.ext ?_)
  refine (e a).trans ?_
  have z : (cfg0.win 2).index t a = 0 := by
    match a with
    | ⟨0, _⟩ => rfl
    | ⟨1, _⟩ => rfl
    | ⟨2, _⟩ => rfl
    | ⟨3, _⟩ => rfl
  rw [z, Nat.zero_mul, Nat.zero_add]

theorem iblk3 (t : Fin cfg0.N) : iblk m c 3 t = m ((c : Thread nD τ).loc main_arg5) := by
  rw [← V_main_arg5 m c]
  funext y
  unfold iblk
  have e := (cfg0.win 3).rect_emb_val t y
  refine congrArg (V m c main_arg5) (funext fun a => Fin.ext ?_)
  refine (e a).trans ?_
  have z : (cfg0.win 3).index t a = 0 := by
    match a with
    | ⟨0, _⟩ => rfl
    | ⟨1, _⟩ => rfl
    | ⟨2, _⟩ => rfl
  rw [z, Nat.zero_mul, Nat.zero_add]

theorem iblk4 (t : Fin cfg0.N) : iblk m c 4 t = m ((c : Thread nD τ).loc main_arg7) := by
  rw [← V_main_arg7 m c]
  funext y
  unfold iblk
  have e := (cfg0.win 4).rect_emb_val t y
  refine congrArg (V m c main_arg7) (funext fun a => Fin.ext ?_)
  refine (e a).trans ?_
  have z : (cfg0.win 4).index t a = 0 := by
    match a with
    | ⟨0, _⟩ => rfl
    | ⟨1, _⟩ => rfl
  rw [z, Nat.zero_mul, Nat.zero_add]

theorem iblk5 (t : Fin cfg0.N) : iblk m c 5 t = m ((c : Thread nD τ).loc main_arg8) := by
  rw [← V_main_arg8 m c]
  funext y
  unfold iblk
  have e := (cfg0.win 5).rect_emb_val t y
  refine congrArg (V m c main_arg8) (funext fun a => Fin.ext ?_)
  refine (e a).trans ?_
  have z : (cfg0.win 5).index t a = 0 := by
    match a with
    | ⟨0, _⟩ => rfl
    | ⟨1, _⟩ => rfl
  rw [z, Nat.zero_mul, Nat.zero_add]

theorem reg0 : Value.reg_main_v0_0 m c = k0_pay8 (m ((c : Thread nD τ).loc main_arg0)) (m ((c : Thread nD τ).loc main_arg7)) := by
  unfold Value.reg_main_v0_0
  refine (dats m 0 c).arrAt_eq_of_covers 6 _ (by decide +kernel) fun t hf y => ?_
  blk_simp
  rw [after0_6]
  frame_out
  rw [iblk0, iblk4]
  refine congrArg (k0_pay8 (m ((c : Thread nD τ).loc main_arg0)) (m ((c : Thread nD τ).loc main_arg7))) (funext fun a => Fin.ext ?_)
  refine Eq.symm (((cfg0.win 6).rect_emb_val t y a).trans ?_)
  have z : (cfg0.win 6).index t a = 0 := by
    match a with
    | ⟨0, _⟩ => rfl
    | ⟨1, _⟩ => rfl
    | ⟨2, _⟩ => rfl
    | ⟨3, _⟩ => rfl
  rw [z, Nat.zero_mul, Nat.zero_add]

theorem reg1 : Value.reg_main_v0_1 m c = k0_pay9 (m ((c : Thread nD τ).loc main_arg0)) (m ((c : Thread nD τ).loc main_arg7)) := by
  unfold Value.reg_main_v0_1
  refine (dats m 0 c).arrAt_eq_of_covers 7 _ (by decide +kernel) fun t hf y => ?_
  blk_simp
  rw [after0_7]
  frame_out
  rw [iblk0, iblk4]
  refine congrArg (k0_pay9 (m ((c : Thread nD τ).loc main_arg0)) (m ((c : Thread nD τ).loc main_arg7))) (funext fun a => Fin.ext ?_)
  refine Eq.symm (((cfg0.win 7).rect_emb_val t y a).trans ?_)
  have z : (cfg0.win 7).index t a = 0 := by
    match a with
    | ⟨0, _⟩ => rfl
    | ⟨1, _⟩ => rfl
    | ⟨2, _⟩ => rfl
  rw [z, Nat.zero_mul, Nat.zero_add]

theorem reg2 : Value.reg_main_v0_2 m c = k0_pay8 (m ((c : Thread nD τ).loc main_arg0)) (m ((c : Thread nD τ).loc main_arg8)) := by
  unfold Value.reg_main_v0_2
  refine (dats m 0 c).arrAt_eq_of_covers 8 _ (by decide +kernel) fun t hf y => ?_
  blk_simp
  rw [after0_8]
  frame_out
  rw [iblk0, iblk5, pay15_eq, pay13_eq]
  refine congrArg (k0_pay8 (m ((c : Thread nD τ).loc main_arg0)) (m ((c : Thread nD τ).loc main_arg8))) (funext fun a => Fin.ext ?_)
  refine Eq.symm (((cfg0.win 8).rect_emb_val t y a).trans ?_)
  have z : (cfg0.win 8).index t a = 0 := by
    match a with
    | ⟨0, _⟩ => rfl
    | ⟨1, _⟩ => rfl
    | ⟨2, _⟩ => rfl
    | ⟨3, _⟩ => rfl
  rw [z, Nat.zero_mul, Nat.zero_add]

theorem reg3 : Value.reg_main_v0_3 m c = k0_pay9 (m ((c : Thread nD τ).loc main_arg0)) (m ((c : Thread nD τ).loc main_arg8)) := by
  unfold Value.reg_main_v0_3
  refine (dats m 0 c).arrAt_eq_of_covers 9 _ (by decide +kernel) fun t hf y => ?_
  blk_simp
  rw [after0_9]
  frame_out
  rw [iblk0, iblk5, pay15_eq, pay14_eq]
  refine congrArg (k0_pay9 (m ((c : Thread nD τ).loc main_arg0)) (m ((c : Thread nD τ).loc main_arg8))) (funext fun a => Fin.ext ?_)
  refine Eq.symm (((cfg0.win 9).rect_emb_val t y a).trans ?_)
  have z : (cfg0.win 9).index t a = 0 := by
    match a with
    | ⟨0, _⟩ => rfl
    | ⟨1, _⟩ => rfl
    | ⟨2, _⟩ => rfl
  rw [z, Nat.zero_mul, Nat.zero_add]

theorem reg4 : Value.reg_main_v0_4 m c = k0_pay10 (k0_pay8 (m ((c : Thread nD τ).loc main_arg0)) (m ((c : Thread nD τ).loc main_arg7))) := by
  unfold Value.reg_main_v0_4
  refine (dats m 0 c).arrAt_eq_of_covers 10 _ (by decide +kernel) fun t hf y => ?_
  blk_simp
  rw [after0_10]
  frame_out
  rw [iblk0, iblk4]
  refine congrArg (k0_pay10 (k0_pay8 (m ((c : Thread nD τ).loc main_arg0)) (m ((c : Thread nD τ).loc main_arg7)))) (funext fun a => Fin.ext ?_)
  refine Eq.symm (((cfg0.win 10).rect_emb_val t y a).trans ?_)
  have z : (cfg0.win 10).index t a = 0 := by
    match a with
    | ⟨0, _⟩ => rfl
    | ⟨1, _⟩ => rfl
    | ⟨2, _⟩ => rfl
    | ⟨3, _⟩ => rfl
  rw [z, Nat.zero_mul, Nat.zero_add]

theorem reg5 : Value.reg_main_v0_5 m c = k0_pay1 (k0_pay8 (m ((c : Thread nD τ).loc main_arg0)) (m ((c : Thread nD τ).loc main_arg8))) := by
  unfold Value.reg_main_v0_5
  refine (dats m 0 c).arrAt_eq_of_covers 11 _ (by decide +kernel) fun t hf y => ?_
  blk_simp
  rw [after0_11]
  frame_out
  rw [iblk0, iblk5, pay15_eq, pay13_eq]
  refine congrArg (k0_pay1 (k0_pay8 (m ((c : Thread nD τ).loc main_arg0)) (m ((c : Thread nD τ).loc main_arg8)))) (funext fun a => Fin.ext ?_)
  refine Eq.symm (((cfg0.win 11).rect_emb_val t y a).trans ?_)
  have z : (cfg0.win 11).index t a = 0 := by
    match a with
    | ⟨0, _⟩ => rfl
    | ⟨1, _⟩ => rfl
    | ⟨2, _⟩ => rfl
    | ⟨3, _⟩ => rfl
  rw [z, Nat.zero_mul, Nat.zero_add]

theorem reg6 : Value.reg_main_v0_6 m c = k0_pay2 (m ((c : Thread nD τ).loc main_arg1)) := by
  unfold Value.reg_main_v0_6
  refine (dats m 0 c).arrAt_eq_of_covers 12 _ (by decide +kernel) fun t hf y => ?_
  blk_simp
  rw [after0_12]
  frame_out
  rw [iblk1]
  refine congrArg (k0_pay2 (m ((c : Thread nD τ).loc main_arg1))) (funext fun a => Fin.ext ?_)
  refine Eq.symm (((cfg0.win 12).rect_emb_val t y a).trans ?_)
  have z : (cfg0.win 12).index t a = 0 := by
    match a with
    | ⟨0, _⟩ => rfl
    | ⟨1, _⟩ => rfl
    | ⟨2, _⟩ => rfl
    | ⟨3, _⟩ => rfl
  rw [z, Nat.zero_mul, Nat.zero_add]

theorem reg7 : Value.reg_main_v0_7 m c = k0_pay3 (m ((c : Thread nD τ).loc main_arg3)) := by
  unfold Value.reg_main_v0_7
  refine (dats m 0 c).arrAt_eq_of_covers 13 _ (by decide +kernel) fun t hf y => ?_
  blk_simp
  rw [after0_13]
  frame_out
  rw [iblk2]
  refine congrArg (k0_pay3 (m ((c : Thread nD τ).loc main_arg3))) (funext fun a => Fin.ext ?_)
  refine Eq.symm (((cfg0.win 13).rect_emb_val t y a).trans ?_)
  have z : (cfg0.win 13).index t a = 0 := by
    match a with
    | ⟨0, _⟩ => rfl
    | ⟨1, _⟩ => rfl
    | ⟨2, _⟩ => rfl
    | ⟨3, _⟩ => rfl
  rw [z, Nat.zero_mul, Nat.zero_add]

theorem reg8 : Value.reg_main_v0_8 m c = k0_pay4 (m ((c : Thread nD τ).loc main_arg5)) := by
  unfold Value.reg_main_v0_8
  refine (dats m 0 c).arrAt_eq_of_covers 14 _ (by decide +kernel) fun t hf y => ?_
  blk_simp
  rw [after0_14]
  frame_out
  rw [iblk3]
  refine congrArg (k0_pay4 (m ((c : Thread nD τ).loc main_arg5))) (funext fun a => Fin.ext ?_)
  refine Eq.symm (((cfg0.win 14).rect_emb_val t y a).trans ?_)
  have z : (cfg0.win 14).index t a = 0 := by
    match a with
    | ⟨0, _⟩ => rfl
    | ⟨1, _⟩ => rfl
    | ⟨2, _⟩ => rfl
  rw [z, Nat.zero_mul, Nat.zero_add]

end Cert.ReferenceIdeal.Val

end
-- ==== Proof.Val.Bridge.lean ====
module

public import proofs.«01_k».proof.Proof.Val.RefA
public import proofs.«01_k».proof.Pre_finite_inputs

@[expose] public section

set_option maxRecDepth 16384

noncomputable section

namespace Cert.ReferenceIdeal.Val

open Idealize.ShloMosaic hiding ix1 ix2 ix3 ix4 ix5
open Idealize.ShloMosaic.TcCoe Idealize.ShloMosaic.ValueIdx Cert.Val Cert.KernelIdeal.Val

/-! ## The constants -/

theorem lit_min_normal : Ideal.ofBits .f32 0x00800000#32 = (((2 : ℝ) ^ (-126 : ℤ) : ℝ) : EReal) := by
  simp [Ideal.ofBits, Ideal.ieee, -EReal.coe_mul, -EReal.coe_pow]; norm_num
theorem lit_two : Ideal.ofBits .f32 0x40000000#32 = ((2 : ℝ) : EReal) := by
  simp [Ideal.ofBits, Ideal.ieee, -EReal.coe_mul]; norm_num
theorem lit_one : Ideal.ofBits .f32 0x3F800000#32 = (1 : EReal) := by
  simp [Ideal.ofBits, Ideal.ieee, -EReal.coe_mul]; norm_num
theorem lit_eighth : Ideal.ofBits .f32 0x3E000000#32 = ((1 / 8 : ℝ) : EReal) := by
  simp [Ideal.ofBits, Ideal.ieee, -EReal.coe_mul]; norm_num
theorem lit_bot : Ideal.ofBits .f32 0xFF800000#32 = (⊥ : EReal) := by
  simp [Ideal.ofBits, Ideal.ieee]
theorem lit_pre16 : Ideal.ofBits .bf16 0x7E80#16 = (((2 : ℝ) ^ (126 : ℤ) : ℝ) : EReal) := by
  simp [Ideal.ofBits, Ideal.ieee, -EReal.coe_mul, -EReal.coe_pow]; norm_num
theorem lit_pre32 : Ideal.ofBits .f32 0x7E800000#32 = (((2 : ℝ) ^ (126 : ℤ) : ℝ) : EReal) := by
  simp [Ideal.ofBits, Ideal.ieee, -EReal.coe_mul, -EReal.coe_pow]; norm_num
theorem lit_448 : ∃ r : ℝ, Ideal.ofBits .f32 0x3B124925#32 = (r : EReal) ∧ 0 ≤ r ∧ r ≤ 1 / 4 := by
  refine ⟨9586981 * 2 ^ (-32 : ℤ), ?_, by norm_num, by norm_num⟩
  simp [Ideal.ofBits, Ideal.ieee, -EReal.coe_mul]

theorem rx_eq (t : EReal) : rx t = rexp t := by
  unfold rx rexp
  rw [lit_min_normal, lit_two, lit_one, Ideal.ofBits_zero_f32]

/-- A value whose magnitude lies below a real is a real. -/
theorem real_of_abs_lt (x : EReal) (B : ℝ) (h : max x (-x) < (B : EReal)) : ∃ r : ℝ, x = (r : EReal) ∧ |r| < B := by
  induction x with
  | bot => simp at h
  | top => simp at h
  | coe r =>
    refine ⟨r, rfl, abs_lt.mpr ?_⟩
    rw [max_lt_iff] at h
    refine ⟨?_, by exact_mod_cast h.1⟩
    have h2 : ((-r : ℝ) : EReal) < (B : EReal) := by rw [EReal.coe_neg]; exact h.2
    have : -r < B := by exact_mod_cast h2
    linarith

theorem fold_real (f : Fin 64 → EReal) (B : ℝ) (hf : ∀ d, ∃ r : ℝ, f d = (r : EReal) ∧ |r| < B) (s : Finset (Fin 64)) :
    s.fold max (⊥ : EReal) (fun d => (FloatOps.absf (F := Ideal) (φ := .f32) (f d) : EReal)) = ⊥ ∧ s = ∅ ∨
    ∃ t : ℝ, s.fold max (⊥ : EReal) (fun d => (FloatOps.absf (F := Ideal) (φ := .f32) (f d) : EReal)) = (t : EReal) ∧ 0 ≤ t ∧ t < B := by
  classical
  induction s using Finset.induction_on with
  | empty => left; exact ⟨rfl, rfl⟩
  | insert a s ha ih =>
    right
    rw [Finset.fold_insert ha]
    obtain ⟨r, hr, hb⟩ := hf a
    have ea : (FloatOps.absf (F := Ideal) (φ := .f32) (f a) : EReal) = ((|r| : ℝ) : EReal) := by
      show max (f a) (-(f a)) = _
      rw [hr, ← EReal.coe_neg, abs_eq_max_neg]
      exact (EReal.coe_strictMono.monotone.map_max).symm
    rw [ea]
    rcases ih with ⟨h, -⟩ | ⟨t, h, h0, h1⟩
    · rw [h]; exact ⟨|r|, by simp, abs_nonneg r, hb⟩
    · rw [h]; exact ⟨max |r| t, (EReal.coe_strictMono.monotone.map_max).symm, le_max_of_le_right h0, max_lt hb h1⟩

theorem tq_real (f : Fin 64 → EReal) (hf : ∀ d, ∃ r : ℝ, f d = (r : EReal) ∧ |r| < (2 : ℝ) ^ (127 : ℤ)) :
    ∃ t : ℝ, tq f = (t : EReal) ∧ 0 ≤ t ∧ t < (2 : ℝ) ^ (125 : ℤ) := by
  unfold tq
  rw [lit_bot]
  rcases fold_real f _ hf Finset.univ with ⟨-, h⟩ | ⟨t, h, h0, h1⟩
  · exact absurd h (Finset.univ_nonempty.ne_empty)
  · obtain ⟨r, hr, r0, r1⟩ := lit_448
    rw [h, hr, ← EReal.coe_mul]
    refine ⟨t * r, rfl, mul_nonneg h0 r0, ?_⟩
    have e : (2 : ℝ) ^ (127 : ℤ) = 2 ^ (125 : ℤ) * 4 := by norm_num
    rw [e] at h1
    have p : (0 : ℝ) < 2 ^ (125 : ℤ) := by positivity
    nlinarith [mul_le_mul_of_nonneg_left r1 h0]

theorem scl_eq (f : Fin 64 → EReal) (hf : ∀ d, ∃ r : ℝ, f d = (r : EReal) ∧ |r| < (2 : ℝ) ^ (127 : ℤ)) : rscl f = scl f := by
  obtain ⟨t, ht, h0, h1⟩ := tq_real f hf
  unfold rscl scl
  rw [rx_eq, ht, (quant_scale t h0 h1).1]

theorem cod_eq (f : Fin 64 → EReal) (hf : ∀ d, ∃ r : ℝ, f d = (r : EReal) ∧ |r| < (2 : ℝ) ^ (127 : ℤ)) : rcod f = cod f := by
  obtain ⟨t, ht, h0, h1⟩ := tq_real f hf
  funext d
  unfold rcod cod Cert.KernelIdeal.Val.inv
  rw [rx_eq, ht, (quant_scale t h0 h1).2, Ideal.ofBits_zero_f32, zero_sub]

theorem cmp_lt (x y : EReal) (h : Ideal.cmp .olt x y = 1#1) : x < y := by
  by_contra hc
  rw [show Ideal.cmp .olt x y = 0#1 from by show BitVec.ofBool (decide _) = _; rw [decide_eq_false hc]; rfl] at h
  exact absurd h (by decide)

/-- Under the precondition every query plus bias is a real below 2^127. -/
theorem fam_real (q : FVec Ideal S2x1024x10x64 .bf16) (b : FVec Ideal S10x64 .f32)
    (hq : ∀ i, Ideal.cmp .olt (max (q i : EReal) (-(q i : EReal))) (Ideal.ofBits .bf16 0x7E80#16) = 1#1)
    (hb : ∀ i, Ideal.cmp .olt (max (b i : EReal) (-(b i : EReal))) (Ideal.ofBits .f32 0x7E800000#32) = 1#1)
    (n : Fin 2) (h : Fin 10) (I : Fin 1024) (d : Fin 64) :
    ∃ r : ℝ, famA q b n h I d = (r : EReal) ∧ |r| < (2 : ℝ) ^ (127 : ℤ) := by
  obtain ⟨r, hr, r1⟩ := real_of_abs_lt _ _ (lit_pre16 ▸ cmp_lt _ _ (hq (ix4 n I h d)))
  obtain ⟨s, hs, s1⟩ := real_of_abs_lt _ _ (lit_pre32 ▸ cmp_lt _ _ (hb (ix2 h d)))
  refine ⟨r + s, ?_, ?_⟩
  · unfold famA; rw [hr, hs, EReal.coe_add]
  · have e : (2 : ℝ) ^ (127 : ℤ) = 2 ^ (126 : ℤ) + 2 ^ (126 : ℤ) := by norm_num
    rw [e]
    exact lt_of_le_of_lt (abs_add_le r s) (add_lt_add r1 s1)

end Cert.ReferenceIdeal.Val

end
-- ==== Proof.Val.HostA.lean ====
module

public import proofs.«01_k».proof.Proof.Val.Core
public import proofs.«01_k».proof.Proof.Gen.ReferenceIdeal.Read
public import Idealize.ShloMosaic.Lib.ValueIdx
public import Idealize.ShloMosaic.Lib.KernelVsHost

@[expose] public section

set_option maxRecDepth 16384

noncomputable section

namespace Cert.ReferenceIdeal.Val

open Idealize.ShloMosaic Idealize.ShloMosaic.TcCoe Idealize.ShloMosaic.ValueIdx Cert.ReferenceIdeal.Gen Cert.ReferenceIdeal.Read Cert.KernelIdeal.Val Cert.Val

/-! ## The relative index -/

theorem sub_toInt (I J : ℕ) (hI : I < 1024) (hJ : J < 1024) : (BitVec.ofNat 32 I - BitVec.ofNat 32 J).toInt = (I : ℤ) - J := by
  rw [BitVec.toInt_eq_toNat_cond, BitVec.toNat_sub, BitVec.toNat_ofNat, BitVec.toNat_ofNat]
  split <;> omega

/-- The clipped relative index, its negatives wrapped, as a word. -/
def ridx (I J : ℕ) : BitVec 32 :=
  Scalar.select (IntOp.cmpi .slt (IntOp.subi 384#32 (IntOp.minsi 384#32 (IntOp.maxsi 4294966912#32 (IntOp.subi (BitVec.ofNat 32 I) (BitVec.ofNat 32 J))))) 0#32)
    (IntOp.addi (IntOp.subi 384#32 (IntOp.minsi 384#32 (IntOp.maxsi 4294966912#32 (IntOp.subi (BitVec.ofNat 32 I) (BitVec.ofNat 32 J))))) 769#32)
    (IntOp.subi 384#32 (IntOp.minsi 384#32 (IntOp.maxsi 4294966912#32 (IntOp.subi (BitVec.ofNat 32 I) (BitVec.ofNat 32 J)))))

theorem ridx_eq (I J : ℕ) (hI : I < 1024) (hJ : J < 1024) : (ridx I J).toInt.toNat = rr I J := by
  have hx := sub_toInt I J hI hJ
  unfold ridx IntOp.minsi IntOp.maxsi IntOp.subi IntOp.addi IntOp.cmpi rr
  generalize BitVec.ofNat 32 I - BitVec.ofNat 32 J = x at hx
  have n384 : (4294966912#32 : BitVec 32).toInt = -384 := by decide
  have p384 : (384#32 : BitVec 32).toInt = 384 := by decide
  have e : (384#32 - (if (384#32 : BitVec 32).slt (if x.slt 4294966912#32 then 4294966912#32 else x) then 384#32 else
      (if x.slt 4294966912#32 then 4294966912#32 else x)) : BitVec 32).toInt = ((min (384 + J - I) 768 : ℕ) : ℤ) := by
    by_cases h1 : x.slt 4294966912#32
    · rw [if_pos h1]
      have h1' := h1
      rw [BitVec.slt_iff_toInt_lt, n384, hx] at h1'
      rw [if_neg (by decide)]
      rw [show ((384#32 - 4294966912#32 : BitVec 32)).toInt = 768 from by decide]
      omega
    · rw [if_neg h1]
      rw [BitVec.slt_iff_toInt_lt, n384, hx] at h1
      by_cases h2 : (384#32 : BitVec 32).slt x
      · rw [if_pos h2]
        rw [BitVec.slt_iff_toInt_lt, p384, hx] at h2
        rw [show ((384#32 - 384#32 : BitVec 32)).toInt = 0 from by decide]
        omega
      · rw [if_neg h2]
        rw [BitVec.slt_iff_toInt_lt, p384, hx] at h2
        rw [BitVec.toInt_sub, p384, hx, Int.bmod_eq_of_le (by omega) (by omega)]
        omega
  generalize (384#32 - (if (384#32 : BitVec 32).slt (if x.slt 4294966912#32 then 4294966912#32 else x) then 384#32 else
      (if x.slt 4294966912#32 then 4294966912#32 else x)) : BitVec 32) = w at e
  have hs : (w.slt 0#32) = false := by
    rw [Bool.eq_false_iff, ne_eq, BitVec.slt_iff_toInt_lt, e]
    simp
  simp only [hs]
  show w.toInt.toNat = _
  rw [e, Int.toNat_natCast]

theorem call1_v5_apply (I J : Fin 1024) (z : Fin 1) : val_main_call1_v5 (F := Ideal) (ix3 I J z) = ridx I J := by
  have hi : ∀ i : S1024x1024.Idx, val_main_v19 (F := Ideal) i = IntOp.subi 384#32 (IntOp.minsi 384#32 (IntOp.maxsi 4294966912#32 (IntOp.subi (BitVec.ofNat 32 (i 0).val) (BitVec.ofNat 32 (i 1).val)))) := by
    intro i
    rw [val_main_v19_apply, val_main_v18_apply, val_main_v17_apply, val_main_call0_v4_apply, val_main_call0_v2_apply, val_main_call0_v1_apply, val_main_v16_apply,
      val_main_v14_apply, val_main_v15_apply, val_main_v12_apply, val_main_v13_apply, val_main_v11_apply, val_main_v11_apply,
      val_main_call0_v3_apply, val_main_call0_v0_apply, val_main_c_apply, val_main_c_0_apply, val_main_c_1_apply]
  have hb : ∀ i : S1x1x1024x1024.Idx, val_main_call1_v4 (F := Ideal) i = ridx (i 2) (i 3) := by
    intro i
    rw [val_main_call1_v4_apply, val_main_call1_v1_apply, val_main_call1_v3_apply, val_main_v20_apply, val_main_call1_v0_apply, val_main_call1_c_apply,
      val_main_call1_v2_apply, val_main_call1_c_0_apply, hi]
    rfl
  unfold val_main_call1_v5
  rw [shapeCast_apply _ _ _ (ix4 (0 : Fin 1) (0 : Fin 1) I J)
    (by rw [Shape.rowMajor_val_four, Shape.rowMajor_val_three]; have := z.isLt; simp [ix3, ix4]), hb]

/-! ## The gather at an index -/

theorem gather_apply (x : FVec Ideal S2x10x1024x769 .f32) (idx : IVec S1024x1024x1 32) (n : Fin 2) (h : Fin 10) (I J : Fin 1024) (r : Fin 769)
    (hr : min (idx (ix3 I J (0 : Fin 1))).toInt.toNat 768 = r.val) :
    Host.gather gather_S2x10x1024x769_S1024x1024x1_S2x10x1024x1024_01_3_2_0_3_2_21011 x idx (ix4 n h I J) = x (ix4 n h I r) := by
  unfold Host.gather
  refine congrArg x (funext fun a => Fin.ext ?_)
  show (gather_S2x10x1024x769_S1024x1024x1_S2x10x1024x1024_01_3_2_0_3_2_21011).start (ix4 n h I J) idx a
    + (gather_S2x10x1024x769_S1024x1024x1_S2x10x1024x1024_01_3_2_0_3_2_21011).batchCoord (ix4 n h I J) a
    + (gather_S2x10x1024x769_S1024x1024x1_S2x10x1024x1024_01_3_2_0_3_2_21011).offCoord (ix4 n h I J) a = _
  have h4 : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h4 with rfl | rfl | rfl | rfl
  · unfold GatherDims.start GatherDims.batchCoord GatherDims.offCoord
    rw [dif_neg (by decide), dif_neg (by decide), dif_pos (by decide), Nat.add_zero, Nat.zero_add]
    rfl
  · unfold GatherDims.start GatherDims.batchCoord GatherDims.offCoord
    rw [dif_neg (by decide), dif_neg (by decide), dif_pos (by decide), Nat.add_zero, Nat.zero_add]
    rfl
  · unfold GatherDims.start GatherDims.batchCoord GatherDims.offCoord
    rw [dif_neg (by decide), dif_pos (by decide), dif_neg (by decide), Nat.add_zero, Nat.zero_add]
    rfl
  · unfold GatherDims.start GatherDims.batchCoord GatherDims.offCoord
    rw [dif_pos (by decide), dif_neg (by decide), dif_neg (by decide)]
    refine Eq.trans ?_ hr
    refine congrArg (fun z => min (BitVec.toInt z).toNat 768) (congrArg idx (funext fun b => Fin.ext ?_))
    match b with
    | ⟨0, _⟩ => rfl
    | ⟨1, _⟩ => rfl
    | ⟨2, _⟩ => rfl

end Cert.ReferenceIdeal.Val

end
-- ==== Proof.Val.HostB.lean ====
module

public import proofs.«01_k».proof.Proof.Val.HostA
public import proofs.«01_k».proof.Proof.Val.Spec

@[expose] public section

set_option maxRecDepth 16384

noncomputable section

namespace Cert.ReferenceIdeal.Val

open Idealize.ShloMosaic Idealize.ShloMosaic.TcCoe Idealize.ShloMosaic.ValueIdx Cert.ReferenceIdeal.Gen Cert.ReferenceIdeal.Read Cert.KernelIdeal.Val Cert.Val

/-! ## The reference's attention at an index -/

theorem lit_8 : Ideal.ofBits .f32 0x3E000000#32 = ((1 / 8 : ℝ) : EReal) := by
  simp [Ideal.ofBits, Ideal.ieee, -EReal.coe_mul]; norm_num
theorem lit_ninf : Ideal.ofBits .f32 0xFF800000#32 = (⊥ : EReal) := by
  simp [Ideal.ofBits, Ideal.ieee]

theorem hostmax_eq (y : FVec Ideal S2x10x1024x1024 .f32) (hR : S2x10x1024x1024.Reduces [3] S2x10x1024) :
    Host.reduce (α := Ideal .f32) (FloatOps.maximumf (F := Ideal) (φ := .f32)) y (constant (F := Ideal) S_ .f32 0xFF800000#32) reducesTo_S2x10x1024x1024_S2x10x1024_d3 h_S_
      = multiReduction (F := Ideal) (φ := .f32) .maximumf [3] S2x10x1024 y 0xFF800000#32 hR (.inl rfl) rfl :=
  hostReduce_maximumf_eq_multiReduction y _ _ _ hR _ _

theorem hostmax_at (y : FVec Ideal S2x10x1024x1024 .f32) (n : Fin 2) (h : Fin 10) (I : Fin 1024) :
    Host.reduce (α := Ideal .f32) (FloatOps.maximumf (F := Ideal) (φ := .f32)) y (constant (F := Ideal) S_ .f32 0xFF800000#32) reducesTo_S2x10x1024x1024_S2x10x1024_d3 h_S_ (ix3 n h I)
      = (Finset.univ : Finset (Fin 1024)).fold max (⊥ : EReal) (fun J => y (ix4 n h I J)) := by
  have hR : S2x10x1024x1024.Reduces [3] S2x10x1024 := by decide
  rw [hostmax_eq y hR]
  refine (Ideal.multiReduction_maximumf_single y _ hR _ _ (ix3 n h I)).trans ?_
  rw [show (FloatOps.ofBits (F := Ideal) .f32 0xFF800000#32 : EReal) = ⊥ from lit_ninf]
  refine congrArg (Finset.fold max (⊥ : EReal) · _) (funext fun J => ?_)
  refine congrArg y (funext fun a => Fin.ext ?_)
  match a with
  | ⟨0, _⟩ => rfl
  | ⟨1, _⟩ => rfl
  | ⟨2, _⟩ => rfl
  | ⟨3, _⟩ => rfl

section
variable (x2 x4 : FVec Ideal S2x10 .f32) (x6 : FVec Ideal S10 .f32) (r1 r3 : FVec Ideal S2x1024x10 .f32)
  (r4 r5 r6 r7 : FVec Ideal S2x1024x10x64 .bf16) (r8 : FVec Ideal S769x10x64 .bf16)
  (n : Fin 2) (h : Fin 10) (I J : Fin 1024)

theorem v1_at : val_main_v1 (F := Ideal) r4 r6 (ix4 n h I J) = ∑ k : Fin 64, r4 (ix4 n I h k) * r6 (ix4 n J h k) := by
  rw [val_main_v1_apply]
  refine Finset.sum_congr rfl fun k _ => congrArg₂ (fun x y : EReal => x * y) (congrArg r4 (funext fun a => Fin.ext (by
    match a with
    | ⟨0, _⟩ => rfl
    | ⟨1, _⟩ => rfl
    | ⟨2, _⟩ => rfl
    | ⟨3, _⟩ => rfl
    ))) (congrArg r6 (funext fun a => Fin.ext (by
    match a with
    | ⟨0, _⟩ => rfl
    | ⟨1, _⟩ => rfl
    | ⟨2, _⟩ => rfl
    | ⟨3, _⟩ => rfl
    )))

theorem v7_at : val_main_v7 (F := Ideal) x2 r1 (ix4 n h I J) = r1 (ix3 n I h) * x2 (ix2 n h) := by
  rw [val_main_v7_apply, val_main_v6_apply, val_main_v3_apply, val_main_v2_apply, val_main_v5_apply, val_main_v4_apply]
  exact congrArg₂ (fun x y : EReal => x * y) (congrArg r1 (funext fun a => Fin.ext (by
    match a with
    | ⟨0, _⟩ => rfl
    | ⟨1, _⟩ => rfl
    | ⟨2, _⟩ => rfl
    ))) (congrArg x2 (funext fun a => Fin.ext (by
    match a with
    | ⟨0, _⟩ => rfl
    | ⟨1, _⟩ => rfl
    )))

theorem v27_at : val_main_v27 (F := Ideal) x6 r3 (ix4 n h I J) = r3 (ix3 n I h) * x6 (ix1 h) := by
  rw [val_main_v27_apply, val_main_v26_apply, val_main_v23_apply, val_main_v22_apply, val_main_v25_apply, val_main_v24_apply]
  exact congrArg₂ (fun x y : EReal => x * y) (congrArg r3 (funext fun a => Fin.ext (by
    match a with
    | ⟨0, _⟩ => rfl
    | ⟨1, _⟩ => rfl
    | ⟨2, _⟩ => rfl
    ))) (congrArg x6 (funext fun a => Fin.ext (by
    match a with
    | ⟨0, _⟩ => rfl
    )))

theorem v10_at (r : Fin 769) : val_main_v10 (F := Ideal) r5 r8 (ix4 n h I r) = ∑ k : Fin 64, r5 (ix4 n I h k) * r8 (ix3 r h k) := by
  rw [val_main_v10_apply, val_main_v9_apply]
  refine Finset.sum_congr rfl fun k _ => ?_
  rw [mul_comm]
  exact congrArg₂ (fun x y : EReal => x * y) (congrArg r5 (funext fun a => Fin.ext (by
    match a with
    | ⟨0, _⟩ => rfl
    | ⟨1, _⟩ => rfl
    | ⟨2, _⟩ => rfl
    | ⟨3, _⟩ => rfl
    ))) (congrArg r8 (funext fun a => Fin.ext (by
    match a with
    | ⟨0, _⟩ => rfl
    | ⟨1, _⟩ => rfl
    | ⟨2, _⟩ => rfl
    )))

theorem v21_at : val_main_v21 (F := Ideal) r5 r8 (ix4 n h I J) = ∑ k : Fin 64, r5 (ix4 n I h k) * posA r8 h k (rr I J) := by
  have hlt : rr I.val J.val < 769 := by unfold rr; omega
  unfold val_main_v21
  rw [gather_apply (val_main_v10 (F := Ideal) r5 r8) (val_main_call1_v5 (F := Ideal)) n h I J ⟨rr I.val J.val, hlt⟩
    (by rw [call1_v5_apply, ridx_eq _ _ I.isLt J.isLt]; show min (rr I.val J.val) 768 = rr I.val J.val; omega), v10_at]
  refine Finset.sum_congr rfl fun k _ => congrArg (fun y : EReal => r5 (ix4 n I h k) * y) ?_
  unfold posA
  rw [dif_pos hlt]

/-- A row of scores of the reference. -/
def Yr (fu fv : Fin 2 → Fin 10 → Fin 1024 → Fin 64 → EReal) (x2 : FVec Ideal S2x10 .f32) (x6 : FVec Ideal S10 .f32) (r6 : FVec Ideal S2x1024x10x64 .bf16)
    (r8 : FVec Ideal S769x10x64 .bf16) (n : Fin 2) (h : Fin 10) (I : Fin 1024) : Fin 1024 → EReal :=
  yrow (fu n h I) (fv n h I) (fun e J => r6 (ix4 n J h e)) (posA r8 h) (x2 (ix2 n h)) (x6 (ix1 h)) I

variable (fu fv : Fin 2 → Fin 10 → Fin 1024 → Fin 64 → EReal)
  (h1 : ∀ n h I, r1 (ix3 n I h) = scl (fu n h I)) (h3 : ∀ n h I, r3 (ix3 n I h) = scl (fv n h I))
  (h4 : ∀ n h I d, r4 (ix4 n I h d) = cod (fu n h I) d) (h5 : ∀ n h I d, r5 (ix4 n I h d) = cod (fv n h I) d)
include h1 h3 h4 h5

theorem v31_at : val_main_v31 (F := Ideal) x2 x6 r1 r3 r4 r5 r6 r8 (ix4 n h I J) = Yr fu fv x2 x6 r6 r8 n h I J := by
  rw [val_main_v31_apply, val_main_v29_apply, val_main_v8_apply, val_main_v28_apply, val_main_v30_apply, val_main_cst_apply, v1_at, v7_at, v21_at, v27_at,
    h1, h3, funext fun k => congrArg (fun y : EReal => y * r6 (ix4 n J h k)) (h4 n h I k),
    funext fun k => congrArg (fun y : EReal => y * posA r8 h k (rr I J)) (h5 n h I k)]
  unfold Yr yrow
  rw [← lit_8]
  rfl

theorem v32_at : val_main_v32 (F := Ideal) x2 x6 r1 r3 r4 r5 r6 r8 (ix3 n h I) = rmax (Yr fu fv x2 x6 r6 r8 n h I) := by
  unfold val_main_v32 val_main_cst_2
  have e := v31_at x2 x6 r1 r3 r4 r5 r6 r8 n h I
  generalize val_main_v31 (F := Ideal) x2 x6 r1 r3 r4 r5 r6 r8 = y at e
  refine (hostmax_at y n h I).trans ?_
  unfold rmax
  exact congrArg (Finset.fold max (⊥ : EReal) · _) (funext fun J => e J fu fv h1 h3 h4 h5)

theorem v36_at : val_main_v36 (F := Ideal) x2 x6 r1 r3 r4 r5 r6 r8 (ix4 n h I J) = Ideal.exp (Yr fu fv x2 x6 r6 r8 n h I J - rmax (Yr fu fv x2 x6 r6 r8 n h I)) := by
  rw [val_main_v36_apply, val_main_v35_apply, val_main_v34_apply, val_main_v33_apply, v31_at x2 x6 r1 r3 r4 r5 r6 r8 n h I J fu fv h1 h3 h4 h5]
  refine congrArg (fun y : EReal => Ideal.exp (Yr fu fv x2 x6 r6 r8 n h I J - y)) ?_
  exact Eq.trans (congrArg (val_main_v32 (F := Ideal) x2 x6 r1 r3 r4 r5 r6 r8) (funext fun a => Fin.ext (by
    match a with
    | ⟨0, _⟩ => rfl
    | ⟨1, _⟩ => rfl
    | ⟨2, _⟩ => rfl
    ))) (v32_at x2 x6 r1 r3 r4 r5 r6 r8 n h I fu fv h1 h3 h4 h5)

theorem v37_at : val_main_v37 (F := Ideal) x2 x6 r1 r3 r4 r5 r6 r8 (ix3 n h I) = rsum (Yr fu fv x2 x6 r6 r8 n h I) := by
  rw [val_main_v37_apply]
  refine (congrArg₂ (fun x y : EReal => x + y) (Ideal.ofBits_zero_f32) (Finset.sum_congr rfl fun J _ => ?_)).trans (zero_add _)
  exact Eq.trans (congrArg (val_main_v36 (F := Ideal) x2 x6 r1 r3 r4 r5 r6 r8) (funext fun a => Fin.ext (by
    match a with
    | ⟨0, _⟩ => rfl
    | ⟨1, _⟩ => rfl
    | ⟨2, _⟩ => rfl
    | ⟨3, _⟩ => rfl
    ))) (v36_at x2 x6 r1 r3 r4 r5 r6 r8 n h I J fu fv h1 h3 h4 h5)

theorem v38_at (z : Fin 1) : val_main_v38 (F := Ideal) x2 x6 r1 r3 r4 r5 r6 r8 (ix4 n h I z) = rsum (Yr fu fv x2 x6 r6 r8 n h I) := by
  rw [val_main_v38_apply]
  exact Eq.trans (congrArg (val_main_v37 (F := Ideal) x2 x6 r1 r3 r4 r5 r6 r8) (funext fun a => Fin.ext (by
    match a with
    | ⟨0, _⟩ => rfl
    | ⟨1, _⟩ => rfl
    | ⟨2, _⟩ => rfl
    ))) (v37_at x2 x6 r1 r3 r4 r5 r6 r8 n h I fu fv h1 h3 h4 h5)

theorem v41_at : val_main_v41 (F := Ideal) x2 x6 r1 r3 r4 r5 r6 r8 (ix4 n h I J) = rsum (Yr fu fv x2 x6 r6 r8 n h I) := by
  rw [val_main_v41_apply]
  exact Eq.trans (congrArg (val_main_v38 (F := Ideal) x2 x6 r1 r3 r4 r5 r6 r8) (funext fun a => Fin.ext (by
    match a with
    | ⟨0, _⟩ => rfl
    | ⟨1, _⟩ => rfl
    | ⟨2, _⟩ => rfl
    | ⟨3, _⟩ => rfl
    ))) (v38_at x2 x6 r1 r3 r4 r5 r6 r8 n h I fu fv h1 h3 h4 h5 (0 : Fin 1))

theorem c2v1_at : val_main_call2_v1 (F := Ideal) x2 x6 r1 r3 r4 r5 r6 r8 (ix4 n h I J) = Ideal.cmp .oeq (rsum (Yr fu fv x2 x6 r6 r8 n h I)) 0 := by
  rw [val_main_call2_v1_apply, val_main_v40_apply, val_main_v39_apply, val_main_cst_4_apply]
  refine congrArg₂ (fun x y : EReal => Ideal.cmp .oeq x y) ?_ Ideal.ofBits_zero_f32
  exact Eq.trans (congrArg (val_main_v38 (F := Ideal) x2 x6 r1 r3 r4 r5 r6 r8) (funext fun a => Fin.ext (by
    match a with
    | ⟨0, _⟩ => rfl
    | ⟨1, _⟩ => rfl
    | ⟨2, _⟩ => rfl
    | ⟨3, _⟩ => rfl
    ))) (v38_at x2 x6 r1 r3 r4 r5 r6 r8 n h I fu fv h1 h3 h4 h5 (0 : Fin 1))

theorem v44_at : val_main_v44 (F := Ideal) x2 x6 r1 r3 r4 r5 r6 r8 (ix4 n h I J) = Scalar.select (Ideal.cmp .oeq (rsum (Yr fu fv x2 x6 r6 r8 n h I)) 0) (0 : EReal)
    (Ideal.div (Ideal.exp (Yr fu fv x2 x6 r6 r8 n h I J - rmax (Yr fu fv x2 x6 r6 r8 n h I))) (rsum (Yr fu fv x2 x6 r6 r8 n h I))) := by
  rw [val_main_v44_apply, val_main_v43_apply, val_main_v42_apply, val_main_call2_v2_apply, val_main_call2_v0_apply, val_main_cst_5_apply,
    c2v1_at x2 x6 r1 r3 r4 r5 r6 r8 n h I J fu fv h1 h3 h4 h5, v36_at x2 x6 r1 r3 r4 r5 r6 r8 n h I J fu fv h1 h3 h4 h5, v41_at x2 x6 r1 r3 r4 r5 r6 r8 n h I J fu fv h1 h3 h4 h5]
  refine congrArg (fun y : EReal => Scalar.select (Ideal.cmp .oeq (rsum (Yr fu fv x2 x6 r6 r8 n h I)) 0) y
    (Ideal.div (Ideal.exp (Yr fu fv x2 x6 r6 r8 n h I J - rmax (Yr fu fv x2 x6 r6 r8 n h I))) (rsum (Yr fu fv x2 x6 r6 r8 n h I)))) ?_
  exact Ideal.ofBits_zero_f32

theorem v49_at (d : Fin 64) : val_main_v49 (F := Ideal) x2 x4 x6 r1 r3 r4 r5 r6 r7 r8 (ix4 n I h d)
    = outv (Yr fu fv x2 x6 r6 r8 n h I) (fun J => r7 (ix4 n J h d)) (x4 (ix2 n h)) := by
  rw [val_main_v49_apply, val_main_v46_apply, val_main_v45_apply, val_main_v48_apply, val_main_v47_apply]
  unfold outv
  refine congrArg₂ (fun x y : EReal => x * y) (Finset.sum_congr rfl fun J _ => ?_) (congrArg x4 (funext fun a => Fin.ext (by
    match a with
    | ⟨0, _⟩ => rfl
    | ⟨1, _⟩ => rfl
    )))
  rw [mul_comm]
  refine congrArg₂ (fun x y : EReal => x * y) ?_ (congrArg r7 (funext fun a => Fin.ext (by
    match a with
    | ⟨0, _⟩ => rfl
    | ⟨1, _⟩ => rfl
    | ⟨2, _⟩ => rfl
    | ⟨3, _⟩ => rfl
    )))
  exact Eq.trans (congrArg (val_main_v44 (F := Ideal) x2 x6 r1 r3 r4 r5 r6 r8) (funext fun a => Fin.ext (by
    match a with
    | ⟨0, _⟩ => rfl
    | ⟨1, _⟩ => rfl
    | ⟨2, _⟩ => rfl
    | ⟨3, _⟩ => rfl
    ))) (v44_at x2 x6 r1 r3 r4 r5 r6 r8 n h I J fu fv h1 h3 h4 h5)

theorem v51_at (d : Fin 64) (i : S2x1024x640.Idx) (e0 : (i 0).val = n.val) (e1 : (i 1).val = I.val) (e2 : (i 2).val = 64 * h.val + d.val) :
    val_main_v51 (F := Ideal) x2 x4 x6 r1 r3 r4 r5 r6 r7 r8 i = outv (Yr fu fv x2 x6 r6 r8 n h I) (fun J => r7 (ix4 n J h d)) (x4 (ix2 n h)) := by
  rw [val_main_v51_apply]
  unfold val_main_v50
  refine Eq.trans ?_ (v49_at x2 x4 x6 r1 r3 r4 r5 r6 r7 r8 n h I fu fv h1 h3 h4 h5 d)
  refine shapeCast_apply _ _ _ (ix4 n I h d) ?_
  rw [Shape.rowMajor_val_four, Shape.rowMajor_val_three]
  show ((n.val * 1024 + I.val) * 10 + h.val) * 64 + d.val = ((i 0).val * 1024 + (i 1).val) * 640 + (i 2).val
  rw [e0, e1, e2]; omega

end

end Cert.ReferenceIdeal.Val

end
-- ==== Proof.Val.RefFinal.lean ====
module

public import proofs.«01_k».proof.Proof.Val.Bridge
public import proofs.«01_k».proof.Proof.Val.HostB

@[expose] public section

set_option maxRecDepth 16384

noncomputable section

namespace Cert.ReferenceIdeal.Val

open Idealize.ShloMosaic hiding ix1 ix2 ix3 ix4 ix5
open Idealize.SL.Sem Idealize.ShloMosaic.TcCoe Idealize.ShloMosaic.ValueIdx Cert.ReferenceIdeal.Gen Cert.ReferenceIdeal.Read Cert.ReferenceIdeal.Value Cert.Val Cert.KernelIdeal.Val

/-! ## The reference's results as arrays -/

variable (m : (ℓ : Loc nD τ sig) → Buf (Elt Ideal) ℓ) (c : Dev nD)

/-- The query plus the first bias. -/
def fuR (n : Fin 2) (h : Fin 10) (I : Fin 1024) : Fin 64 → EReal := famA (m ((c : Thread nD τ).loc main_arg0)) (m ((c : Thread nD τ).loc main_arg7)) n h I
/-- The query plus the second bias. -/
def fvR (n : Fin 2) (h : Fin 10) (I : Fin 1024) : Fin 64 → EReal := famA (m ((c : Thread nD τ).loc main_arg0)) (m ((c : Thread nD τ).loc main_arg8)) n h I
/-- The attention, as the first result's array. -/
def R9 : Vec Ideal S2x1024x640 .bf16 := fun i =>
  outA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (i 0) ⟨(i 2).val / 64, by have : (i 2).val < 640 := (i 2).isLt; omega⟩ (i 1) ⟨(i 2).val % 64, by omega⟩
/-- The codes, as the second result's array. -/
def R10 : Vec Ideal S2x10x64x1024 .fp8e4m3 := fun i => cod (fuR m c (i 0) (i 1) (i 3)) (i 2)
/-- The scales, as the third result's array. -/
def R11 : Vec Ideal S10x2x1024 .f32 := fun i => scl (fuR m c (i 1) (i 0) (i 2))
/-- The second codes, as the fourth result's array. -/
def R12 : Vec Ideal S2x10x64x1024 .fp8e4m3 := fun i => cod (fvR m c (i 0) (i 1) (i 3)) (i 2)
/-- The second scales, as the fifth result's array. -/
def R13 : Vec Ideal S10x2x1024 .f32 := fun i => scl (fvR m c (i 1) (i 0) (i 2))

variable (hu : ∀ n h I d, ∃ r : ℝ, fuR m c n h I d = (r : EReal) ∧ |r| < (2 : ℝ) ^ (127 : ℤ))
  (hv : ∀ n h I d, ∃ r : ℝ, fvR m c n h I d = (r : EReal) ∧ |r| < (2 : ℝ) ^ (127 : ℤ))

include hu in
theorem reg0_at (n : Fin 2) (h : Fin 10) (I : Fin 1024) (d : Fin 64) : reg_main_v0_0 m c (ix4 n I h d) = cod (fuR m c n h I) d := by
  rw [reg0]; exact (pay8_apply _ _ n I h d).trans (congrFun (cod_eq _ (hu n h I)) d)
include hu in
theorem reg1_at (n : Fin 2) (h : Fin 10) (I : Fin 1024) : reg_main_v0_1 m c (ix3 n I h) = scl (fuR m c n h I) := by
  rw [reg1]; exact (pay9_apply _ _ n I h).trans (scl_eq _ (hu n h I))
include hv in
theorem reg2_at (n : Fin 2) (h : Fin 10) (I : Fin 1024) (d : Fin 64) : reg_main_v0_2 m c (ix4 n I h d) = cod (fvR m c n h I) d := by
  rw [reg2]; exact (pay8_apply _ _ n I h d).trans (congrFun (cod_eq _ (hv n h I)) d)
include hv in
theorem reg3_at (n : Fin 2) (h : Fin 10) (I : Fin 1024) : reg_main_v0_3 m c (ix3 n I h) = scl (fvR m c n h I) := by
  rw [reg3]; exact (pay9_apply _ _ n I h).trans (scl_eq _ (hv n h I))
include hu in
theorem reg4_at (n : Fin 2) (h : Fin 10) (I : Fin 1024) (d : Fin 64) : reg_main_v0_4 m c (ix4 n I h d) = cod (fuR m c n h I) d := by
  rw [reg4]; exact (pay8_apply _ _ n I h d).trans (congrFun (cod_eq _ (hu n h I)) d)
include hv in
theorem reg5_at (n : Fin 2) (h : Fin 10) (I : Fin 1024) (d : Fin 64) : reg_main_v0_5 m c (ix4 n I h d) = cod (fvR m c n h I) d := by
  rw [reg5]; exact (pay8_apply _ _ n I h d).trans (congrFun (cod_eq _ (hv n h I)) d)
theorem reg6_eq : reg_main_v0_6 m c = (m ((c : Thread nD τ).loc main_arg1)) := by
  rw [reg6]; rfl
theorem reg7_eq : reg_main_v0_7 m c = (m ((c : Thread nD τ).loc main_arg3)) := by
  rw [reg7]; rfl
theorem reg8_eq : reg_main_v0_8 m c = (m ((c : Thread nD τ).loc main_arg5)) := by
  rw [reg8]; rfl

include hu hv in
theorem res51 : val_main_v51 (F := Ideal) (m ((c : Thread nD τ).loc main_arg2)) (m ((c : Thread nD τ).loc main_arg4)) (m ((c : Thread nD τ).loc main_arg6)) (reg_main_v0_1 m c) (reg_main_v0_3 m c) (reg_main_v0_4 m c) (reg_main_v0_5 m c)
    (reg_main_v0_6 m c) (reg_main_v0_7 m c) (reg_main_v0_8 m c) = R9 m c := by
  funext i
  have hi : (i 2).val < 640 := (i 2).isLt
  refine (v51_at (m ((c : Thread nD τ).loc main_arg2)) (m ((c : Thread nD τ).loc main_arg4)) (m ((c : Thread nD τ).loc main_arg6)) (reg_main_v0_1 m c) (reg_main_v0_3 m c) (reg_main_v0_4 m c) (reg_main_v0_5 m c)
    (reg_main_v0_6 m c) (reg_main_v0_7 m c) (reg_main_v0_8 m c) (i 0) (⟨(i 2).val / 64, by omega⟩ : Fin 10) (i 1) (fuR m c) (fvR m c)
    (reg1_at m c hu) (reg3_at m c hv) (reg4_at m c hu) (reg5_at m c hv) (⟨(i 2).val % 64, by omega⟩ : Fin 64) i rfl rfl (by show (i 2).val = 64 * ((i 2).val / 64) + (i 2).val % 64; omega)).trans ?_
  rw [reg6_eq, reg7_eq, reg8_eq]
  rfl

include hu in
theorem res52 : val_main_v52 (F := Ideal) (reg_main_v0_0 m c) = R10 m c := by
  funext i
  rw [val_main_v52_apply]
  exact Eq.trans (congrArg (reg_main_v0_0 m c) (funext fun a => Fin.ext (by
    match a with
    | ⟨0, _⟩ => rfl
    | ⟨1, _⟩ => rfl
    | ⟨2, _⟩ => rfl
    | ⟨3, _⟩ => rfl))) (reg0_at m c hu (i 0) (i 1) (i 3) (i 2))
include hu in
theorem res53 : val_main_v53 (F := Ideal) (reg_main_v0_1 m c) = R11 m c := by
  funext i
  rw [val_main_v53_apply]
  exact Eq.trans (congrArg (reg_main_v0_1 m c) (funext fun a => Fin.ext (by
    match a with
    | ⟨0, _⟩ => rfl
    | ⟨1, _⟩ => rfl
    | ⟨2, _⟩ => rfl))) (reg1_at m c hu (i 1) (i 0) (i 2))
include hv in
theorem res54 : val_main_v54 (F := Ideal) (reg_main_v0_2 m c) = R12 m c := by
  funext i
  rw [val_main_v54_apply]
  exact Eq.trans (congrArg (reg_main_v0_2 m c) (funext fun a => Fin.ext (by
    match a with
    | ⟨0, _⟩ => rfl
    | ⟨1, _⟩ => rfl
    | ⟨2, _⟩ => rfl
    | ⟨3, _⟩ => rfl))) (reg2_at m c hv (i 0) (i 1) (i 3) (i 2))
include hv in
theorem res55 : val_main_v55 (F := Ideal) (reg_main_v0_3 m c) = R13 m c := by
  funext i
  rw [val_main_v55_apply]
  exact Eq.trans (congrArg (reg_main_v0_3 m c) (funext fun a => Fin.ext (by
    match a with
    | ⟨0, _⟩ => rfl
    | ⟨1, _⟩ => rfl
    | ⟨2, _⟩ => rfl))) (reg3_at m c hv (i 1) (i 0) (i 2))

/-- The reference ends with its five results the specified arrays and the arguments as launched. -/
theorem runR (ρ : Dev nD → PrngReg)
    (hu : ∀ c n h I d, ∃ r : ℝ, fuR m c n h I d = (r : EReal) ∧ |r| < (2 : ℝ) ^ (127 : ℤ))
    (hv : ∀ c n h I d, ∃ r : ℝ, fvR m c n h I d = (r : EReal) ∧ |r| < (2 : ℝ) ^ (127 : ℤ)) :
    θ_run defs (onTc (τ := τ) (main (F := Ideal))) ⟨m, fun _ => 0, ρ⟩ (fun r => ∀ c : Dev nD,
      r.2.mem ((c.tc : Thread nD τ).loc main_v51) = R9 m c
      ∧ r.2.mem ((c.tc : Thread nD τ).loc main_v52) = R10 m c
      ∧ r.2.mem ((c.tc : Thread nD τ).loc main_v53) = R11 m c
      ∧ r.2.mem ((c.tc : Thread nD τ).loc main_v54) = R12 m c
      ∧ r.2.mem ((c.tc : Thread nD τ).loc main_v55) = R13 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r hr c => ?_) (Value.run m ρ)
  obtain ⟨h51, h52, h53, h54, h55, ha⟩ := hr c
  refine ⟨h51.trans ((val_main_v51_eq (exitV m c)).trans ?_), h52.trans ((val_main_v52_eq (exitV m c)).trans ?_), h53.trans ((val_main_v53_eq (exitV m c)).trans ?_),
    h54.trans ((val_main_v54_eq (exitV m c)).trans ?_), h55.trans ((val_main_v55_eq (exitV m c)).trans ?_), ha⟩
  · rw [exit_main_arg2, exit_main_arg4, exit_main_arg6, exit_main_v0_1, exit_main_v0_3, exit_main_v0_4, exit_main_v0_5, exit_main_v0_6, exit_main_v0_7, exit_main_v0_8]
    exact res51 m c (hu c) (hv c)
  · rw [exit_main_v0_0]; exact res52 m c (hu c)
  · rw [exit_main_v0_1]; exact res53 m c (hu c)
  · rw [exit_main_v0_2]; exact res54 m c (hv c)
  · rw [exit_main_v0_3]; exact res55 m c (hv c)

end Cert.ReferenceIdeal.Val

end
-- ==== Proof.Val.Equal.lean ====
module

public import proofs.«01_k».proof.Defs
public import proofs.«01_k».proof.Proof.Gen.Pre_finite_inputs
public import proofs.«01_k».proof.Proof.KI.Frame
public import proofs.«01_k».proof.Proof.Val.Final
public import proofs.«01_k».proof.Proof.Val.RefFinal
public import Idealize.ShloMosaic.Lib.Claim

@[expose] public section

set_option maxRecDepth 16384

noncomputable section

namespace Cert.Equal

open Idealize.ShloMosaic hiding ix1 ix2 ix3 ix4 ix5
open Idealize.SL.Sem Idealize.ShloMosaic.TcCoe Cert.Val

/-! ## The kernel and the reference compute the same five arrays -/

/-- The precondition, read at one index of the query array. -/
theorem pre_q (x0 x1 x2 x3 x4 x5 x6 x7 x8)
    (h : (Cert.Pre_finite_inputs.fn (F := Ideal) x0 x1 x2 x3 x4 x5 x6 x7 x8).1 = (fun _ => 1#1)) (i) :
    Ideal.cmp .olt (max (x0 i : EReal) (-(x0 i : EReal))) (Ideal.ofBits .bf16 0x7E80#16) = 1#1 := congrFun h i
/-- The precondition, read at one index of the first bias. -/
theorem pre_bu (x0 x1 x2 x3 x4 x5 x6 x7 x8)
    (h : (Cert.Pre_finite_inputs.fn (F := Ideal) x0 x1 x2 x3 x4 x5 x6 x7 x8).2.1 = (fun _ => 1#1)) (i) :
    Ideal.cmp .olt (max (x7 i : EReal) (-(x7 i : EReal))) (Ideal.ofBits .f32 0x7E800000#32) = 1#1 := congrFun h i
/-- The precondition, read at one index of the second bias. -/
theorem pre_bv (x0 x1 x2 x3 x4 x5 x6 x7 x8)
    (h : (Cert.Pre_finite_inputs.fn (F := Ideal) x0 x1 x2 x3 x4 x5 x6 x7 x8).2.2 = (fun _ => 1#1)) (i) :
    Ideal.cmp .olt (max (x8 i : EReal) (-(x8 i : EReal))) (Ideal.ofBits .f32 0x7E800000#32) = 1#1 := congrFun h i

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

theorem R9_eq
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Val.R9 m' c = Cert.KernelIdeal.Val.G9 m c := by
  unfold Cert.ReferenceIdeal.Val.R9
  rw [e0, e1, e2, e3, e4, e5, e6, e7, e8]
  rfl
theorem fu_eq
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Val.fuR m' c = Cert.KernelIdeal.Val.fuA m c := by
  unfold Cert.ReferenceIdeal.Val.fuR
  rw [e0, e7]
  rfl
theorem fv_eq
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Val.fvR m' c = Cert.KernelIdeal.Val.fvA m c := by
  unfold Cert.ReferenceIdeal.Val.fvR
  rw [e0, e8]
  rfl
theorem R10_eq (h : Cert.ReferenceIdeal.Val.fuR m' c = Cert.KernelIdeal.Val.fuA m c) :
    Cert.ReferenceIdeal.Val.R10 m' c = Cert.KernelIdeal.Val.G10 m c := by
  unfold Cert.ReferenceIdeal.Val.R10; rw [h]; rfl
theorem R11_eq (h : Cert.ReferenceIdeal.Val.fuR m' c = Cert.KernelIdeal.Val.fuA m c) :
    Cert.ReferenceIdeal.Val.R11 m' c = Cert.KernelIdeal.Val.G11 m c := by
  unfold Cert.ReferenceIdeal.Val.R11; rw [h]; rfl
theorem R12_eq (h : Cert.ReferenceIdeal.Val.fvR m' c = Cert.KernelIdeal.Val.fvA m c) :
    Cert.ReferenceIdeal.Val.R12 m' c = Cert.KernelIdeal.Val.G12 m c := by
  unfold Cert.ReferenceIdeal.Val.R12; rw [h]; rfl
theorem R13_eq (h : Cert.ReferenceIdeal.Val.fvR m' c = Cert.KernelIdeal.Val.fvA m c) :
    Cert.ReferenceIdeal.Val.R13 m' c = Cert.KernelIdeal.Val.G13 m c := by
  unfold Cert.ReferenceIdeal.Val.R13; rw [h]; rfl
end

/-- Under the precondition, from equal arguments, the kernel and the reference end with the same five results. -/
theorem algebraic : Cert.algebraic_KernelIdeal_ReferenceIdeal_pre_finite_inputs := by
  intro m g m' g' hpre hag
  have hu : ∀ (c : Dev Cert.ReferenceIdeal.nD) n h I d, ∃ r : ℝ, Cert.ReferenceIdeal.Val.fuR m' c n h I d = (r : EReal) ∧ |r| < (2 : ℝ) ^ (127 : ℤ) := by
    intro c n h I d
    rw [fu_eq m m' c (hag c).1 (hag c).2.2.2.2.2.2.2.1]
    exact Cert.ReferenceIdeal.Val.fam_real _ _ (pre_q _ _ _ _ _ _ _ _ _ (hpre c).1) (pre_bu _ _ _ _ _ _ _ _ _ (hpre c).2.1) n h I d
  have hv : ∀ (c : Dev Cert.ReferenceIdeal.nD) n h I d, ∃ r : ℝ, Cert.ReferenceIdeal.Val.fvR m' c n h I d = (r : EReal) ∧ |r| < (2 : ℝ) ^ (127 : ℤ) := by
    intro c n h I d
    rw [fv_eq m m' c (hag c).1 (hag c).2.2.2.2.2.2.2.2]
    exact Cert.ReferenceIdeal.Val.fam_real _ _ (pre_q _ _ _ _ _ _ _ _ _ (hpre c).1) (pre_bv _ _ _ _ _ _ _ _ _ (hpre c).2.2) n h I d
  refine ⟨Cert.KernelIdeal.Val.G9 m, Cert.KernelIdeal.Val.G10 m, Cert.KernelIdeal.Val.G11 m, Cert.KernelIdeal.Val.G12 m, Cert.KernelIdeal.Val.G13 m, ?_, ?_⟩
  · refine (θ_run _ _ _).mono (fun r hr c => ?_) (θ_run_and (Cert.KernelIdeal.Val.run m g) (Cert.KernelIdeal.Gen.unchanged m g))
    obtain ⟨a, b, d, e, f⟩ := hr.1 c
    exact ⟨a, b, d, e, f, hr.2 c⟩
  · refine (θ_run _ _ _).mono (fun r hr c => ?_) (Cert.ReferenceIdeal.Val.runR m' g' hu hv)
    obtain ⟨a, b, d, e, f, k⟩ := hr c
    obtain ⟨e0, e1, e2, e3, e4, e5, e6, e7, e8⟩ := hag c
    exact ⟨a.trans (R9_eq m m' c e0 e1 e2 e3 e4 e5 e6 e7 e8), b.trans (R10_eq m m' c (fu_eq m m' c e0 e7)), d.trans (R11_eq m m' c (fu_eq m m' c e0 e7)),
      e.trans (R12_eq m m' c (fv_eq m m' c e0 e8)), f.trans (R13_eq m m' c (fv_eq m m' c e0 e8)), k⟩

end Cert.Equal

end
-- ==== Proof.lean ====
module

public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite_inputs
public import proofs.«01_k».proof.Proof.KF.Frame
public import proofs.«01_k».proof.Proof.Val.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m g _ => Cert.Kernel.Gen.frame m g,
  fun m g _ => Cert.KernelIdeal.Gen.frame m g,
  fun m g _ => Cert.KernelIdeal.Gen.frame m g,
  fun m g _ => Cert.ReferenceIdeal.Gen.frame m g,
  fun m g _ => Cert.ReferenceIdeal.Gen.frame m g,
  IdealRules.named_const.statement Cert.KernelIdeal.κ "log2e_over_8" .f32 0x3E38AA3B#32 (((1 / 8) * (Real.log 2)⁻¹ : ℝ) : EReal) rfl,
  Cert.Equal.algebraic⟩

end Cert.Proof

end
